-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v12)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v12) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v35) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel4 : Cert.Kernel4.Facts) (hKernel4Ideal : Cert.Kernel4Ideal.Facts) (hReference4Ideal : Cert.Reference4Ideal.Facts) (hKernel20 : Cert.Kernel20.Facts) (hKernel20Ideal : Cert.Kernel20Ideal.Facts) (hReference20Ideal : Cert.Reference20Ideal.Facts) (hPre_finite : Cert.Pre_finite.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel4_Kernel4Ideal
    ∧ algebraic_Kernel4Ideal_Reference4Ideal (hKernel4Ideal := hKernel4Ideal) (hReference4Ideal := hReference4Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part1 {F : FTy → Type} [FloatOps F] (main_v13 : IVec S_ 1) (main_v16 : IVec S4096x8x64 1) : IVec S_ 1 :=
  let main_c_5 : IVec S_ 1 := constantI S_ 1 1#1
  let main_v17 : IVec S_ 1 := (fun x v => Host.reduce IntOp.andi x v reducesTo_S4096x8x64_S_d0_1_2 h_S_) main_v16 main_c_5
  let main_v18 : IVec S_ 1 := andi main_v13 main_v17
  main_v18

def fn {F : FTy → Type} [FloatOps F] (main_arg0 : FVec F S4096x8x96 .f32) (main_arg1 : FVec F S4096x8x96 .f32) (main_arg2 : FVec F S4096x8x64 .f32) (main_arg3 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x8x64 .f32 := Host.absf main_arg3
  let main_cst_4 : FVec F S_ .f32 := constant S_ .f32 0x7F800000#32
  let main_v15 : FVec F S4096x8x64 .f32 := broadcastInDim S4096x8x64 ![] bcast_S_S4096x8x64 main_cst_4
  let main_v16 : IVec S4096x8x64 1 := cmpf .olt main_v14 main_v15
  fn_part1 (F := F) main_v13 main_v16
-- ==== Pre_finite20.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel

variable [Facts]

def fn {F : FTy → Type} [FloatOps F] (main_arg0 : FVec F S4096x8x96 .f32) (main_arg1 : FVec F S4096x8x96 .f32) (main_arg2 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  main_v8
-- ==== Kernel.lean ====
abbrev S4096x8x96 : Shape := ⟨3, ![4096, 8, 96]⟩
abbrev S4096x8x64 : Shape := ⟨3, ![4096, 8, 64]⟩
abbrev S36 : Shape := ⟨1, ![36]⟩
abbrev S_ : Shape := ⟨0, ![]⟩
abbrev S4096x8x128 : Shape := ⟨3, ![4096, 8, 128]⟩
abbrev S4096x1024 : Shape := ⟨2, ![4096, 1024]⟩
abbrev S4096x2048 : Shape := ⟨2, ![4096, 2048]⟩
abbrev S4096 : Shape := ⟨1, ![4096]⟩
abbrev S8x4096x4096 : Shape := ⟨3, ![8, 4096, 4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8x1 : Shape := ⟨3, ![4096, 8, 1]⟩
abbrev S4096x8x65 : Shape := ⟨3, ![4096, 8, 65]⟩
abbrev S512x1024 : Shape := ⟨2, ![512, 1024]⟩
abbrev S1 : Shape := ⟨1, ![1]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 66
  | .vmem => 15
  | .smem => 2
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S_, .f32⟩
  | .hbm, ⟨5, _⟩ => ⟨S4096x8x96, .f32⟩
  | .hbm, ⟨6, _⟩ => ⟨S4096x8x96, .f32⟩
  | .hbm, ⟨7, _⟩ => ⟨S_, .i32⟩
  | .hbm, ⟨8, _⟩ => ⟨S_, .f32⟩
  | .hbm, ⟨9, _⟩ => ⟨S4096x8x128, .f32⟩
  | .hbm, ⟨10, _⟩ => ⟨S4096x1024, .f32⟩
  | .hbm, ⟨11, _⟩ => ⟨S4096x1024, .bf16⟩
  | .hbm, ⟨12, _⟩ => ⟨S_, .i32⟩
  | .hbm, ⟨13, _⟩ => ⟨S_, .f32⟩
  | .hbm, ⟨14, _⟩ => ⟨S4096x8x128, .f32⟩
  | .hbm, ⟨15, _⟩ => ⟨S4096x1024, .f32⟩
  | .hbm, ⟨16, _⟩ => ⟨S4096x1024, .bf16⟩
  | .hbm, ⟨17, _⟩ => ⟨S_, .i32⟩
  | .hbm, ⟨18, _⟩ => ⟨S_, .f32⟩
  | .hbm, ⟨19, _⟩ => ⟨S4096x8x128, .f32⟩
  | .hbm, ⟨20, _⟩ => ⟨S4096x1024, .f32⟩
  | .hbm, ⟨21, _⟩ => ⟨S4096x1024, .bf16⟩
  | .hbm, ⟨22, _⟩ => ⟨S4096x2048, .bf16⟩
  | .hbm, ⟨23, _⟩ => ⟨S4096, .i32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S4096x1, .i32⟩
  | .hbm, ⟨29, _⟩ => ⟨S1x4096, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S8x4096x4096, .i1⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x64x4096, .f32⟩
  | .hbm, ⟨50, _⟩ => ⟨S4096x8x64, .f32⟩
  | .hbm, ⟨51, _⟩ => ⟨S8x4096x1, .f32⟩
  | .hbm, ⟨52, _⟩ => ⟨S8x4096x1, .f32⟩
  | .hbm, ⟨53, _⟩ => ⟨S4096x8x1, .f32⟩
  | .hbm, ⟨54, _⟩ => ⟨S4096x8x65, .f32⟩
  | .hbm, ⟨55, _⟩ => ⟨S_, .i32⟩
  | .hbm, ⟨56, _⟩ => ⟨S_, .f32⟩
  | .hbm, ⟨57, _⟩ => ⟨S4096x8x128, .f32⟩
  | .hbm, ⟨58, _⟩ => ⟨S4096x1024, .f32⟩
  | .hbm, ⟨59, _⟩ => ⟨S_, .i32⟩
  | .hbm, ⟨60, _⟩ => ⟨S_, .f32⟩
  | .hbm, ⟨61, _⟩ => ⟨S4096x8x128, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S4096x1024, .f32⟩
  | .local _ .smem, ⟨0, _⟩ => ⟨S36, .i32⟩
  | .local _ .smem, ⟨1, _⟩ => ⟨S36, .i32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_call4_v0 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_call5_v0 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v41_2 : Ref sig .tc := ⟨.hbm, 65, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v19 : BitVec 32 := Scalar.muli v1 c512_i32
  v19
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c512_i32 : BitVec 32 := 512#32
  let v19 : BitVec 32 := Scalar.muli v1 c512_i32
  let v20 : BitVec 32 := v19
  let v57 : Index := Scalar.indexCast v20
  let c0_26 : Index := 0#32
  ![v57.toNat, 0]
def k0_off3 (v1 : BitVec 32) : Fin 2 → Nat :=
  let c512_i32 : BitVec 32 := 512#32
  let v19 : BitVec 32 := Scalar.muli v1 c512_i32
  let v20 : BitVec 32 := v19
  let v102 : Index := Scalar.indexCast v20
  let c128_51 : Index := 128#32
  ![v102.toNat, 128]
def k0_off4 (v1 : BitVec 32) : Fin 2 → Nat :=
  let c512_i32 : BitVec 32 := 512#32
  let v19 : BitVec 32 := Scalar.muli v1 c512_i32
  let v20 : BitVec 32 := v19
  let v147 : Index := Scalar.indexCast v20
  let c256_76 : Index := 256#32
  ![v147.toNat, 256]
def k0_off5 (v1 : BitVec 32) : Fin 2 → Nat :=
  let c512_i32 : BitVec 32 := 512#32
  let v19 : BitVec 32 := Scalar.muli v1 c512_i32
  let v20 : BitVec 32 := v19
  let v192 : Index := Scalar.indexCast v20
  let c384_101 : Index := 384#32
  ![v192.toNat, 384]
def k0_off6 (v1 : BitVec 32) : Fin 2 → Nat :=
  let c512_i32 : BitVec 32 := 512#32
  let v19 : BitVec 32 := Scalar.muli v1 c512_i32
  let v20 : BitVec 32 := v19
  let v237 : Index := Scalar.indexCast v20
  let c512_126 : Index := 512#32
  ![v237.toNat, 512]
def k0_off7 (v1 : BitVec 32) : Fin 2 → Nat :=
  let c512_i32 : BitVec 32 := 512#32
  let v19 : BitVec 32 := Scalar.muli v1 c512_i32
  let v20 : BitVec 32 := v19
  let v282 : Index := Scalar.indexCast v20
  let c640_151 : Index := 640#32
  ![v282.toNat, 640]
def k0_off8 (v1 : BitVec 32) : Fin 2 → Nat :=
  let c512_i32 : BitVec 32 := 512#32
  let v19 : BitVec 32 := Scalar.muli v1 c512_i32
  let v20 : BitVec 32 := v19
  let v327 : Index := Scalar.indexCast v20
  let c768_176 : Index := 768#32
  ![v327.toNat, 768]
def k0_off9 (v1 : BitVec 32) : Fin 2 → Nat :=
  let c512_i32 : BitVec 32 := 512#32
  let v19 : BitVec 32 := Scalar.muli v1 c512_i32
  let v20 : BitVec 32 := v19
  let v372 : Index := Scalar.indexCast v20
  let c896_201 : Index := 896#32
  ![v372.toNat, 896]
def k0_mult2 (v1 : BitVec 32) : BitVec 32 :=
  let c512_i32 : BitVec 32 := 512#32
  let v19 : BitVec 32 := Scalar.muli v1 c512_i32
  v19
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off10 (v1 : BitVec 32) : Fin 2 → Nat :=
  let c512_i32 : BitVec 32 := 512#32
  let v19 : BitVec 32 := Scalar.muli v1 c512_i32
  let v20 : BitVec 32 := v19
  let v62 : Index := Scalar.indexCast v20
  let c0_27 : Index := 0#32
  ![v62.toNat, 0]
def k0_off11 (v1 : BitVec 32) : Fin 2 → Nat :=
  let c512_i32 : BitVec 32 := 512#32
  let v19 : BitVec 32 := Scalar.muli v1 c512_i32
  let v20 : BitVec 32 := v19
  let v112 : Index := Scalar.indexCast v20
  let c128_53 : Index := 128#32
  ![v112.toNat, 128]
def k0_off12 (v1 : BitVec 32) : Fin 2 → Nat :=
  let c512_i32 : BitVec 32 := 512#32
  let v19 : BitVec 32 := Scalar.muli v1 c512_i32
  let v20 : BitVec 32 := v19
  let v162 : Index := Scalar.indexCast v20
  let c256_79 : Index := 256#32
  ![v162.toNat, 256]
def k0_off13 (v1 : BitVec 32) : Fin 2 → Nat :=
  let c512_i32 : BitVec 32 := 512#32
  let v19 : BitVec 32 := Scalar.muli v1 c512_i32
  let v20 : BitVec 32 := v19
  let v212 : Index := Scalar.indexCast v20
  let c384_105 : Index := 384#32
  ![v212.toNat, 384]
def k0_off14 (v1 : BitVec 32) : Fin 2 → Nat :=
  let c512_i32 : BitVec 32 := 512#32
  let v19 : BitVec 32 := Scalar.muli v1 c512_i32
  let v20 : BitVec 32 := v19
  let v262 : Index := Scalar.indexCast v20
  let c512_131 : Index := 512#32
  ![v262.toNat, 512]
def k0_off15 (v1 : BitVec 32) : Fin 2 → Nat :=
  let c512_i32 : BitVec 32 := 512#32
  let v19 : BitVec 32 := Scalar.muli v1 c512_i32
  let v20 : BitVec 32 := v19
  let v312 : Index := Scalar.indexCast v20
  let c640_157 : Index := 640#32
  ![v312.toNat, 640]
def k0_off16 (v1 : BitVec 32) : Fin 2 → Nat :=
  let c512_i32 : BitVec 32 := 512#32
  let v19 : BitVec 32 := Scalar.muli v1 c512_i32
  let v20 : BitVec 32 := v19
  let v362 : Index := Scalar.indexCast v20
  let c768_183 : Index := 768#32
  ![v362.toNat, 768]
def k0_off17 (v1 : BitVec 32) : Fin 2 → Nat :=
  let c512_i32 : BitVec 32 := 512#32
  let v19 : BitVec 32 := Scalar.muli v1 c512_i32
  let v20 : BitVec 32 := v19
  let v412 : Index := Scalar.indexCast v20
  let c896_209 : Index := 896#32
  ![v412.toNat, 896]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S512x128.size a ≤ S4096x1024.size a) ∧
  (∀ (k0_h3 : k0_cond3 v1 v3 = 1#1), ∀ a, (k0_off3 v1) a + S512x128.size a ≤ S4096x1024.size a) ∧
  (∀ (k0_h3 : k0_cond3 v1 v3 = 1#1), ∀ a, (k0_off4 v1) a + S512x128.size a ≤ S4096x1024.size a) ∧
  (∀ (k0_h3 : k0_cond3 v1 v3 = 1#1), ∀ a, (k0_off5 v1) a + S512x128.size a ≤ S4096x1024.size a) ∧
  (∀ (k0_h3 : k0_cond3 v1 v3 = 1#1), ∀ a, (k0_off6 v1) a + S512x128.size a ≤ S4096x1024.size a) ∧
  (∀ (k0_h3 : k0_cond3 v1 v3 = 1#1), ∀ a, (k0_off7 v1) a + S512x128.size a ≤ S4096x1024.size a) ∧
  (∀ (k0_h3 : k0_cond3 v1 v3 = 1#1), ∀ a, (k0_off8 v1) a + S512x128.size a ≤ S4096x1024.size a) ∧
  (∀ (k0_h3 : k0_cond3 v1 v3 = 1#1), ∀ a, (k0_off9 v1) a + S512x128.size a ≤ S4096x1024.size a) ∧
  (∀ (k0_h4 : k0_cond4 v1 v3 = 1#1), 512 ∣ (k0_mult2 v1).toNat) ∧
  (∀ (k0_h4 : k0_cond4 v1 v3 = 1#1), ∀ a, (k0_off10 v1) a + S512x128.size a ≤ S4096x1024.size a) ∧
  (∀ (k0_h4 : k0_cond4 v1 v3 = 1#1), ∀ a, (k0_off11 v1) a + S512x128.size a ≤ S4096x1024.size a) ∧
  (∀ (k0_h4 : k0_cond4 v1 v3 = 1#1), ∀ a, (k0_off12 v1) a + S512x128.size a ≤ S4096x1024.size a) ∧
  (∀ (k0_h4 : k0_cond4 v1 v3 = 1#1), ∀ a, (k0_off13 v1) a + S512x128.size a ≤ S4096x1024.size a) ∧
  (∀ (k0_h4 : k0_cond4 v1 v3 = 1#1), ∀ a, (k0_off14 v1) a + S512x128.size a ≤ S4096x1024.size a) ∧
  (∀ (k0_h4 : k0_cond4 v1 v3 = 1#1), ∀ a, (k0_off15 v1) a + S512x128.size a ≤ S4096x1024.size a) ∧
  (∀ (k0_h4 : k0_cond4 v1 v3 = 1#1), ∀ a, (k0_off16 v1) a + S512x128.size a ≤ S4096x1024.size a) ∧
  (∀ (k0_h4 : k0_cond4 v1 v3 = 1#1), ∀ a, (k0_off17 v1) a + S512x128.size a ≤ S4096x1024.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S512x128.size a ≤ S4096x1024.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S512x128.size a ≤ S4096x1024.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S512x128.size a ≤ S4096x1024.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S512x128.size a ≤ S4096x1024.size a := fun v1 v3 k0_hw1 k0_h3 => k0_hw1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S512x128.size a ≤ S4096x1024.size a := fun v1 v3 k0_hw1 k0_h3 => k0_hw1.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S512x128.size a ≤ S4096x1024.size a := fun v1 v3 k0_hw1 k0_h3 => k0_hw1.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1) a + S512x128.size a ≤ S4096x1024.size a := fun v1 v3 k0_hw1 k0_h3 => k0_hw1.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1) a + S512x128.size a ≤ S4096x1024.size a := fun v1 v3 k0_hw1 k0_h3 => k0_hw1.2.2.2.2.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.2.2.2.2.2.2.2.1 k0_h4
theorem k0_off10_inb : ∀ (v1 : BitVec 32) (v3 : BitVec 32) (k0_hw1 : k0_chk1 v1 v3), ∀ (k0_h4 : k0_cond4 v1 v3 = 1#1), ∀ a, (k0_off10 v1) a + S512x128.size a ≤ S4096x1024.size a := fun v1 v3 k0_hw1 k0_h4 => k0_hw1.2.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v1) a + S512x128.size a ≤ S4096x1024.size a := fun v1 v3 k0_hw1 k0_h4 => k0_hw1.2.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v1) a + S512x128.size a ≤ S4096x1024.size a := fun v1 v3 k0_hw1 k0_h4 => k0_hw1.2.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v1) a + S512x128.size a ≤ S4096x1024.size a := fun v1 v3 k0_hw1 k0_h4 => k0_hw1.2.2.2.2.2.2.2.2.2.2.2.2.2.1 k0_h4
theorem k0_off14_inb : ∀ (v1 : BitVec 32) (v3 : BitVec 32) (k0_hw1 : k0_chk1 v1 v3), ∀ (k0_h4 : k0_cond4 v1 v3 = 1#1), ∀ a, (k0_off14 v1) a + S512x128.size a ≤ S4096x1024.size a := fun v1 v3 k0_hw1 k0_h4 => k0_hw1.2.2.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v1) a + S512x128.size a ≤ S4096x1024.size a := fun v1 v3 k0_hw1 k0_h4 => k0_hw1.2.2.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v1) a + S512x128.size a ≤ S4096x1024.size a := fun v1 v3 k0_hw1 k0_h4 => k0_hw1.2.2.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v1) a + S512x128.size a ≤ S4096x1024.size a := fun v1 v3 k0_hw1 k0_h4 => k0_hw1.2.2.2.2.2.2.2.2.2.2.2.2.2.2.2.2.2 k0_h4

def k0_cond5 (i : grid0.Coords) : BitVec 1 :=
  let arg1 : BitVec 32 := BitVec.ofNat 32 (i 1).val
  let c35_i32 : BitVec 32 := 35#32
  let v16 : BitVec 1 := Scalar.cmpi .eq arg1 c35_i32
  let v17 : BitVec 32 := Scalar.extui v16
  let c0_i32_4 : BitVec 32 := 0#32
  let v18 : BitVec 1 := Scalar.cmpi .ne v17 c0_i32_4
  v18

def k0_mult3 (i : grid0.Coords) : BitVec 32 :=
  let arg0 : BitVec 32 := BitVec.ofNat 32 (i 0).val
  let c1024_i32 : BitVec 32 := 1024#32
  let v19 : BitVec 32 := Scalar.muli arg0 c1024_i32
  v19
def k0_off18 (i : grid0.Coords) : Fin 2 → Nat :=
  let c0_i32_5 : BitVec 32 := 0#32
  let arg0 : BitVec 32 := BitVec.ofNat 32 (i 0).val
  let c1024_i32 : BitVec 32 := 1024#32
  let v19 : BitVec 32 := Scalar.muli arg0 c1024_i32
  let v20 : BitVec 32 := v19
  ![0, v20.toNat]
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c1_i32 : BitVec 32 := 1#32
  let v2 : BitVec 32 := Scalar.addi c1_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4096x8x96 : Shape := ⟨3, ![4096, 8, 96]⟩
abbrev S4096x8x64 : Shape := ⟨3, ![4096, 8, 64]⟩
abbrev S_ : Shape := ⟨0, ![]⟩
abbrev S4096 : Shape := ⟨1, ![4096]⟩
abbrev S8x4096x4096 : Shape := ⟨3, ![8, 4096, 4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x32 : Shape := ⟨3, ![4096, 8, 32]⟩
abbrev S4096x8x128 : Shape := ⟨3, ![4096, 8, 128]⟩
abbrev S4096x1024 : Shape := ⟨2, ![4096, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S_, .f32⟩
  | .hbm, ⟨5, _⟩ => ⟨S4096x8x96, .f32⟩
  | .hbm, ⟨6, _⟩ => ⟨S4096x8x96, .f32⟩
  | .hbm, ⟨7, _⟩ => ⟨S4096, .i32⟩
  | .hbm, ⟨8, _⟩ => ⟨S8x4096x4096, .f32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x64x4096, .f32⟩
  | .hbm, ⟨60, _⟩ => ⟨S4096x8x64, .f32⟩
  | .hbm, ⟨61, _⟩ => ⟨S8x64x4096, .f32⟩
  | .hbm, ⟨62, _⟩ => ⟨S8x4096x4096, .f32⟩
  | .hbm, ⟨63, _⟩ => ⟨S8x64x4096, .f32⟩
  | .hbm, ⟨64, _⟩ => ⟨S4096x8x64, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S8x4096x96, .f32⟩
  | .hbm, ⟨83, _⟩ => ⟨S4096x8x96, .f32⟩
  | .hbm, ⟨84, _⟩ => ⟨S8x4096x96, .f32⟩
  | .hbm, ⟨85, _⟩ => ⟨S4096x8x96, .f32⟩
  | .hbm, ⟨86, _⟩ => ⟨S_, .f32⟩
  | .hbm, ⟨87, _⟩ => ⟨S4096x8x32, .f32⟩
  | .hbm, ⟨88, _⟩ => ⟨S4096x8x128, .f32⟩
  | .hbm, ⟨89, _⟩ => ⟨S4096x1024, .f32⟩
  | .hbm, ⟨90, _⟩ => ⟨S_, .f32⟩
  | .hbm, ⟨91, _⟩ => ⟨S4096x8x32, .f32⟩
  | .hbm, ⟨92, _⟩ => ⟨S4096x8x128, .f32⟩
  | .hbm, ⟨93, _⟩ => ⟨S4096x1024, .f32⟩
  | .hbm, ⟨94, _⟩ => ⟨S_, .f32⟩
  | .hbm, ⟨95, _⟩ => ⟨S4096x8x64, .f32⟩
  | .hbm, ⟨96, _⟩ => ⟨S4096x8x128, .f32⟩
  | .hbm, ⟨97, _⟩ => ⟨S4096x1024, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Kernel2.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2816 : Shape := ⟨2, ![4096, 2816]⟩
abbrev S1024x5632 : Shape := ⟨2, ![1024, 5632]⟩
abbrev S4096x5632 : Shape := ⟨2, ![4096, 5632]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S1024x5632, .f32⟩
  | .hbm, ⟨4, _⟩ => ⟨S4096x5632, .bf16⟩
  | .hbm, ⟨5, _⟩ => ⟨S4096x5632, .f32⟩
  | .hbm, ⟨6, _⟩ => ⟨S_, .f32⟩
  | .hbm, ⟨7, _⟩ => ⟨S4096x1024, .f32⟩
  | .hbm, ⟨8, _⟩ => ⟨S4096x5632, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2560 : Shape := ⟨2, ![4096, 2560]⟩
abbrev S2560x1024 : Shape := ⟨2, ![2560, 1024]⟩
abbrev S4096x1024 : Shape := ⟨2, ![4096, 1024]⟩
abbrev S1024x1280 : Shape := ⟨2, ![1024, 1280]⟩
abbrev S1280x1024 : Shape := ⟨2, ![1280, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S2560x1024, .bf16⟩
  | .hbm, ⟨2, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2560 : Shape := ⟨2, ![4096, 2560]⟩
abbrev S2560x1024 : Shape := ⟨2, ![2560, 1024]⟩
abbrev S1024x2560 : Shape := ⟨2, ![1024, 2560]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S2560x1024, .bf16⟩
  | .hbm, ⟨2, _⟩ => ⟨S2560x1024, .f32⟩
  | .hbm, ⟨3, _⟩ => ⟨S1024x2560, .f32⟩
  | .hbm, ⟨4, _⟩ => ⟨S4096x2560, .f32⟩
  | .hbm, ⟨5, _⟩ => ⟨S_, .f32⟩
  | .hbm, ⟨6, _⟩ => ⟨S4096x1024, .f32⟩
  | .hbm, ⟨7, _⟩ => ⟨S4096x2560, .f32⟩
  | .hbm, ⟨8, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x2560 : Shape := ⟨2, ![4096, 2560]⟩
abbrev S4096x1024 : Shape := ⟨2, ![4096, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S2560x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2560 : Shape := ⟨2, ![4096, 2560]⟩
abbrev S4096x1024 : Shape := ⟨2, ![4096, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S4096x1024, .f32⟩
  | .hbm, ⟨3, _⟩ => ⟨S4096x2560, .f32⟩
  | .hbm, ⟨4, _⟩ => ⟨S_, .f32⟩
  | .hbm, ⟨5, _⟩ => ⟨S1024x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S1536x1024 : Shape := ⟨2, ![1536, 1024]⟩
abbrev S4096x1536 : Shape := ⟨2, ![4096, 1536]⟩
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .f32⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x768, .f32⟩
  | .local _ .vmem, ⟨5, _⟩ => ⟨S2048x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1536x1024 : Shape := ⟨2, ![1536, 1024]⟩
abbrev S_ : Shape := ⟨0, ![]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S1536x1024, .f32⟩
  | .hbm, ⟨3, _⟩ => ⟨S4096x1024, .f32⟩
  | .hbm, ⟨4, _⟩ => ⟨S_, .f32⟩
  | .hbm, ⟨5, _⟩ => ⟨S4096x1536, .f32⟩
  | .hbm, ⟨6, _⟩ => ⟨S4096x1024, .f32⟩
  | .hbm, ⟨7, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1536 : Shape := ⟨2, ![4096, 1536]⟩
abbrev S4096x1024 : Shape := ⟨2, ![4096, 1024]⟩
abbrev S1536x1024 : Shape := ⟨2, ![1536, 1024]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S1536x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x5632 : Shape := ⟨2, ![1024, 5632]⟩
abbrev S4096x5632 : Shape := ⟨2, ![4096, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x1024 : Shape := ⟨2, ![4096, 1024]⟩
abbrev S2560x1024 : Shape := ⟨2, ![2560, 1024]⟩
abbrev S4096x2560 : Shape := ⟨2, ![4096, 2560]⟩
abbrev S2048x1024 : Shape := ⟨2, ![2048, 1024]⟩
abbrev S1280x1024 : Shape := ⟨2, ![1280, 1024]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2560x1024, .bf16⟩
  | .hbm, ⟨2, _⟩ => ⟨S4096x2560, .f32⟩
  | .local _ .vmem, ⟨0, _⟩ => ⟨S2048x1024, .bf16⟩
  | .local _ .vmem, ⟨1, _⟩ => ⟨S2048x1024, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1280, .f32⟩
  | .local _ .vmem, ⟨5, _⟩ => ⟨S2048x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S2560x1024 : Shape := ⟨2, ![2560, 1024]⟩
abbrev S1024x2560 : Shape := ⟨2, ![1024, 2560]⟩
abbrev S4096x2560 : Shape := ⟨2, ![4096, 2560]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2560x1024, .bf16⟩
  | .hbm, ⟨2, _⟩ => ⟨S4096x1024, .f32⟩
  | .hbm, ⟨3, _⟩ => ⟨S2560x1024, .f32⟩
  | .hbm, ⟨4, _⟩ => ⟨S1024x2560, .f32⟩
  | .hbm, ⟨5, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1536 : Shape := ⟨2, ![4096, 1536]⟩
abbrev S1536x1024 : Shape := ⟨2, ![1536, 1024]⟩
abbrev S4096x1024 : Shape := ⟨2, ![4096, 1024]⟩
abbrev S1024x1536 : Shape := ⟨2, ![1024, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1536 : Shape := ⟨2, ![4096, 1536]⟩
abbrev S1536x1024 : Shape := ⟨2, ![1536, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1536, .f32⟩
  | .hbm, ⟨3, _⟩ => ⟨S1536x1024, .f32⟩
  | .hbm, ⟨4, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x1024 : Shape := ⟨2, ![4096, 1024]⟩
abbrev S256x1024 : Shape := ⟨2, ![256, 1024]⟩
abbrev S4096x256 : Shape := ⟨2, ![4096, 256]⟩
abbrev S2048x1024 : Shape := ⟨2, ![2048, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x256, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .f32⟩
  | .hbm, ⟨3, _⟩ => ⟨S4096x1024, .f32⟩
  | .hbm, ⟨4, _⟩ => ⟨S_, .f32⟩
  | .hbm, ⟨5, _⟩ => ⟨S4096x256, .f32⟩
  | .hbm, ⟨6, _⟩ => ⟨S4096x1024, .f32⟩
  | .hbm, ⟨7, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4096x256, .f32⟩
  | .hbm, ⟨3, _⟩ => ⟨S4096x1024, .f32⟩
  | .hbm, ⟨4, _⟩ => ⟨S_, .f32⟩
  | .hbm, ⟨5, _⟩ => ⟨S256x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x2048 : Shape := ⟨2, ![4096, 2048]⟩
abbrev S128x2048 : Shape := ⟨2, ![128, 2048]⟩
abbrev S4096x128 : Shape := ⟨2, ![4096, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S128x2048 : Shape := ⟨2, ![128, 2048]⟩
abbrev S_ : Shape := ⟨0, ![]⟩
abbrev S4096x128 : Shape := ⟨2, ![4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S128x2048, .f32⟩
  | .hbm, ⟨3, _⟩ => ⟨S4096x2048, .f32⟩
  | .hbm, ⟨4, _⟩ => ⟨S_, .f32⟩
  | .hbm, ⟨5, _⟩ => ⟨S4096x128, .f32⟩
  | .hbm, ⟨6, _⟩ => ⟨S4096x2048, .f32⟩
  | .hbm, ⟨7, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x128 : Shape := ⟨2, ![4096, 128]⟩
abbrev S4096x2048 : Shape := ⟨2, ![4096, 2048]⟩
abbrev S128x2048 : Shape := ⟨2, ![128, 2048]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .bf16⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x128 : Shape := ⟨2, ![4096, 128]⟩
abbrev S4096x2048 : Shape := ⟨2, ![4096, 2048]⟩
abbrev S_ : Shape := ⟨0, ![]⟩
abbrev S128x2048 : Shape := ⟨2, ![128, 2048]⟩
abbrev S2048x128 : Shape := ⟨2, ![2048, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S4096x128, .f32⟩
  | .hbm, ⟨3, _⟩ => ⟨S4096x2048, .f32⟩
  | .hbm, ⟨4, _⟩ => ⟨S_, .f32⟩
  | .hbm, ⟨5, _⟩ => ⟨S128x2048, .f32⟩
  | .hbm, ⟨6, _⟩ => ⟨S4096x2048, .f32⟩
  | .hbm, ⟨7, _⟩ => ⟨S2048x128, .f32⟩
  | .hbm, ⟨8, _⟩ => ⟨S128x2048, .f32⟩
  | .hbm, ⟨9, _⟩ => ⟨S128x2048, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x256 : Shape := ⟨2, ![4096, 256]⟩
abbrev S256x1024 : Shape := ⟨2, ![256, 1024]⟩
abbrev S4096x1024 : Shape := ⟨2, ![4096, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S2048x1024, .f32⟩
  | .local _ .vmem, ⟨4, _⟩ => ⟨S2048x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S4096x128 : Shape := ⟨2, ![4096, 128]⟩
abbrev S128x2048 : Shape := ⟨2, ![128, 2048]⟩
abbrev S4096x2048 : Shape := ⟨2, ![4096, 2048]⟩
abbrev S2048x128 : Shape := ⟨2, ![2048, 128]⟩
abbrev S128x1024 : Shape := ⟨2, ![128, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .bf16⟩
  | .local _ .vmem, ⟨0, _⟩ => ⟨S2048x128, .bf16⟩
  | .local _ .vmem, ⟨1, _⟩ => ⟨S2048x128, .bf16⟩
  | .local _ .vmem, ⟨2, _⟩ => ⟨S128x1024, .bf16⟩
  | .local _ .vmem, ⟨3, _⟩ => ⟨S128x1024, .bf16⟩
  | .local _ .vmem, ⟨4, _⟩ => ⟨S2048x1024, .bf16⟩
  | .local _ .vmem, ⟨5, _⟩ => ⟨S2048x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x128 : Shape := ⟨2, ![4096, 128]⟩
abbrev S128x2048 : Shape := ⟨2, ![128, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x128, .f32⟩
  | .hbm, ⟨3, _⟩ => ⟨S128x2048, .f32⟩
  | .hbm, ⟨4, _⟩ => ⟨S4096x2048, .f32⟩
  | .hbm, ⟨5, _⟩ => ⟨S4096x2048, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x8x96 : Shape := ⟨3, ![4096, 8, 96]⟩
abbrev S4096x8x64 : Shape := ⟨3, ![4096, 8, 64]⟩
abbrev S36 : Shape := ⟨1, ![36]⟩
abbrev S_ : Shape := ⟨0, ![]⟩
abbrev S4096x8x128 : Shape := ⟨3, ![4096, 8, 128]⟩
abbrev S4096x1024 : Shape := ⟨2, ![4096, 1024]⟩
abbrev S4096x2048 : Shape := ⟨2, ![4096, 2048]⟩
abbrev S512x1024 : Shape := ⟨2, ![512, 1024]⟩
abbrev S1 : Shape := ⟨1, ![1]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 23
  | .vmem => 11
  | .smem => 2
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S_, .f32⟩
  | .hbm, ⟨4, _⟩ => ⟨S4096x8x96, .f32⟩
  | .hbm, ⟨5, _⟩ => ⟨S4096x8x96, .f32⟩
  | .hbm, ⟨6, _⟩ => ⟨S_, .i32⟩
  | .hbm, ⟨7, _⟩ => ⟨S_, .f32⟩
  | .hbm, ⟨8, _⟩ => ⟨S4096x8x128, .f32⟩
  | .hbm, ⟨9, _⟩ => ⟨S4096x1024, .f32⟩
  | .hbm, ⟨10, _⟩ => ⟨S4096x1024, .bf16⟩
  | .hbm, ⟨11, _⟩ => ⟨S_, .i32⟩
  | .hbm, ⟨12, _⟩ => ⟨S_, .f32⟩
  | .hbm, ⟨13, _⟩ => ⟨S4096x8x128, .f32⟩
  | .hbm, ⟨14, _⟩ => ⟨S4096x1024, .f32⟩
  | .hbm, ⟨15, _⟩ => ⟨S4096x1024, .bf16⟩
  | .hbm, ⟨16, _⟩ => ⟨S_, .i32⟩
  | .hbm, ⟨17, _⟩ => ⟨S_, .f32⟩
  | .hbm, ⟨18, _⟩ => ⟨S4096x8x128, .f32⟩
  | .hbm, ⟨19, _⟩ => ⟨S4096x1024, .f32⟩
  | .hbm, ⟨20, _⟩ => ⟨S4096x1024, .bf16⟩
  | .hbm, ⟨21, _⟩ => ⟨S4096x2048, .bf16⟩
  | .hbm, ⟨22, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S36, .i32⟩
  | .local _ .smem, ⟨1, _⟩ => ⟨S36, .i32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c1_i32 : BitVec 32 := 1#32
  let v2 : BitVec 32 := Scalar.addi c1_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S4096x8x96 : Shape := ⟨3, ![4096, 8, 96]⟩
abbrev S4096x8x64 : Shape := ⟨3, ![4096, 8, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S4096x8x1 : Shape := ⟨3, ![4096, 8, 1]⟩
abbrev S4096x8x128 : Shape := ⟨3, ![4096, 8, 128]⟩
abbrev S4096x1024 : Shape := ⟨2, ![4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S_, .f32⟩
  | .hbm, ⟨15, _⟩ => ⟨S8x4096x4096, .i1⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x64x4096, .f32⟩
  | .hbm, ⟨33, _⟩ => ⟨S4096x8x64, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S4096x8x1, .f32⟩
  | .hbm, ⟨46, _⟩ => ⟨S4096x8x64, .f32⟩
  | .hbm, ⟨47, _⟩ => ⟨S4096x8x128, .f32⟩
  | .hbm, ⟨48, _⟩ => ⟨S4096x1024, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.Kernel.Body.lean ====
/- The kernel body, written as eight times one step. The printed body treats its eight heads one after another, cut
   into windows of sixty statements that do not end where a head ends; here the work on one head is a program of its
   own, `head`, and the whole body is those, eight in a row, under the body's own conditions. -/
module

public import proofs.«01_k».proof.Proof.Gen.KernelIdeal.Skeleton

@[expose] public section

set_option synthInstance.maxSize 4096

noncomputable section

namespace Cert.KernelIdeal.Flash

open Idealize.ShloMosaic Idealize.SL.Sem Gen

variable {F : FTy → Type} [FloatOps F]

/-! ## The values of one head, from what its loads read -/

/-- The attention weights of a block of queries against a block of keys: the exponential of the scores less the saved
    log-sum, which lies in lane 64 of the saved output. -/
def weights (q k : Vec F S512x128 .bf16) (o : Vec F S512x128 .f32) : FVec F S512x512 .f32 :=
  exp (subf
    (matmul dot_S512x128_S512x128_S512x512_1_1_0_0_n_n none (shapeCast S512x128 q shapeCasts_S512x128_S512x128 : FVec F S512x128 .bf16)
      (shapeCast S512x128 k shapeCasts_S512x128_S512x128 : FVec F S512x128 .bf16) (constant S512x512 .f32 0x00000000#32))
    (broadcastTo S512x512
      (extractStridedSlice S512x1 ![0, 64] (shapeCast S512x128 o shapeCasts_S512x128_S512x128 : FVec F S512x128 .f32)
        slices_S512x128_o0_64_S512x1 : FVec F S512x1 .f32) broadcasts_S512x1_S512x512))

/-- The same on a diagonal block, where a key after its query has weight zero. -/
def weightsDiag (q k : Vec F S512x128 .bf16) (o : Vec F S512x128 .f32) : FVec F S512x512 .f32 :=
  select (cmpi .sge (iota .tc S512x512 32 [0] iota_S512x512_d0_w32) (iota .tc S512x512 32 [1] iota_S512x512_d1_w32))
    (weights q k o) (broadcast S512x512 (Scalar.ofBits .f32 0x00000000#32 : F .f32))

/-- The gradient of the scores: the weights times what the values' gradient exceeds the row's mean by. -/
def scoreGrad (p : FVec F S512x512 .f32) (v : Vec F S512x128 .bf16) (o d : Vec F S512x128 .f32) : FVec F S512x512 .f32 :=
  mulf p (subf
    (matmul dot_S512x128_S512x128_S512x512_1_1_0_0_n_n none
      (truncf .bf16 (shapeCast S512x128 d shapeCasts_S512x128_S512x128 : FVec F S512x128 .f32) bitsLt_bf16_f32)
      (shapeCast S512x128 v shapeCasts_S512x128_S512x128 : FVec F S512x128 .bf16) (constant S512x512 .f32 0x00000000#32))
    (broadcastTo S512x512
      (shapeCast S512x1
        (multiReduction .add [1] S512
          (mulf (shapeCast S512x128 d shapeCasts_S512x128_S512x128 : FVec F S512x128 .f32)
            (shapeCast S512x128 o shapeCasts_S512x128_S512x128 : FVec F S512x128 .f32))
          0x00000000#32 reduces_S512x128_S512 (.inl rfl) rfl : FVec F S512 .f32) shapeCasts_S512_S512x1 : FVec F S512x1 .f32)
      broadcasts_S512x1_S512x512))

/-- The values' gradient with a block's share added. -/
def dvNext (p : FVec F S512x512 .f32) (d old : Vec F S512x128 .f32) : FVec F S512x128 .f32 :=
  addf (shapeCast S512x128 old shapeCasts_S512x128_S512x128 : FVec F S512x128 .f32)
    (matmul dot_S512x512_S512x128_S512x128_0_0_1_1_n_n none (truncf .bf16 p bitsLt_bf16_f32)
      (truncf .bf16 (shapeCast S512x128 d shapeCasts_S512x128_S512x128 : FVec F S512x128 .f32) bitsLt_bf16_f32)
      (constant S512x128 .f32 0x00000000#32))

/-- The keys' gradient with a block's share added. -/
def dkNext (s : FVec F S512x512 .f32) (q : Vec F S512x128 .bf16) (old : Vec F S512x128 .f32) : FVec F S512x128 .f32 :=
  addf (shapeCast S512x128 old shapeCasts_S512x128_S512x128 : FVec F S512x128 .f32)
    (matmul dot_S512x512_S512x128_S512x128_0_0_1_1_n_n none (truncf .bf16 s bitsLt_bf16_f32)
      (shapeCast S512x128 q shapeCasts_S512x128_S512x128 : FVec F S512x128 .bf16) (constant S512x128 .f32 0x00000000#32))

/-- The queries' gradient with a block's share added. -/
def dqNext (s : FVec F S512x512 .f32) (k : Vec F S512x128 .bf16) (old : Vec F S512x128 .f32) : FVec F S512x128 .f32 :=
  shapeCast S512x128
    (addf old
      (matmul dot_S512x512_S512x128_S512x128_1_0_0_1_n_n none (truncf .bf16 s bitsLt_bf16_f32)
        (shapeCast S512x128 k shapeCasts_S512x128_S512x128 : FVec F S512x128 .bf16) (constant S512x128 .f32 0x00000000#32)))
    shapeCasts_S512x128_S512x128

/-! ## The step of one head -/

/-- A window of 512 rows and 128 lanes lies inside a buffer of 1,024 lanes. -/
theorem inb (R r c : Nat) (hr : r + 512 ≤ R) (hc : c + 128 ≤ 1024) :
    ∀ a : Fin 2, (![r, c] : Fin 2 → Nat) a + S512x128.size a ≤ (⟨2, ![R, 1024]⟩ : Shape).size a := by
  intro a; fin_cases a
  · exact hr
  · exact hc

/-- The lanes of the head that starts at lane `c`, of a block of 512 rows. -/
abbrev lanes (c : Nat) (hc : c + 128 ≤ 1024) : Rect S512x1024 :=
  Rect.unit (s := S512x1024) ![0, c] S512x128.size (inb 512 0 c (by omega) hc)

/-- The same lanes of rows `r` to `r + 511` of the queries' gradient. -/
abbrev rows (r : Nat) (hr : r + 512 ≤ 4096) (c : Nat) (hc : c + 128 ≤ 1024) : Rect S4096x1024 :=
  Rect.unit (s := S4096x1024) ![r, c] S512x128.size (inb 4096 r c hr hc)

/-- What the body does for the head at lanes `c` to `c + 127`, the queries being rows `r` to `r + 511`, with `wt` the
    weights. -/
def head (wt : Vec F S512x128 .bf16 → Vec F S512x128 .bf16 → Vec F S512x128 .f32 → FVec F S512x512 .f32)
    (a4 a5 a6 : Memref sig .tc .vmem S512x1024 .bf16) (a7 a8 a10 a11 : Memref sig .tc .vmem S512x1024 .f32)
    (a12 : Memref sig .tc .vmem S4096x1024 .f32) (r : Nat) (hr : r + 512 ≤ 4096) (c : Nat) (hc : c + 128 ≤ 1024) :
    Prog (TpuEff nD τ sig (Elt F) Λ₀ .tc) PUnit := do
  let q : Vec F S512x128 .bf16 ← Prog.lift (.load a4 (lanes c hc).toLoadRect (View.loadsAt_vmem h_S512x128))
  let k : Vec F S512x128 .bf16 ← Prog.lift (.load a5 (lanes c hc).toLoadRect (View.loadsAt_vmem h_S512x128))
  let v : Vec F S512x128 .bf16 ← Prog.lift (.load a6 (lanes c hc).toLoadRect (View.loadsAt_vmem h_S512x128))
  let o : Vec F S512x128 .f32 ← Prog.lift (.load a7 (lanes c hc).toLoadRect (View.loadsAt_vmem h_S512x128))
  let d : Vec F S512x128 .f32 ← Prog.lift (.load a8 (lanes c hc).toLoadRect (View.loadsAt_vmem h_S512x128))
  let x : Vec F S512x128 .f32 ← Prog.lift (.load a11 (lanes c hc).toLoadRect (View.loadsAt_vmem h_S512x128))
  let x' : Vec F S512x128 .f32 ← Prog.lift (.load a11 (lanes c hc).toLoadRect (View.loadsAt_vmem h_S512x128))
  Prog.lift (.store a11 (lanes c hc) (dvNext (wt q k o) d x) Finset.univ (View.stores_vmem_bits_univ h_S512x128 rfl) (.inl rfl))
  let y : Vec F S512x128 .f32 ← Prog.lift (.load a10 (lanes c hc).toLoadRect (View.loadsAt_vmem h_S512x128))
  let y' : Vec F S512x128 .f32 ← Prog.lift (.load a10 (lanes c hc).toLoadRect (View.loadsAt_vmem h_S512x128))
  Prog.lift (.store a10 (lanes c hc) (dkNext (scoreGrad (wt q k o) v o d) q y) Finset.univ (View.stores_vmem_bits_univ h_S512x128 rfl) (.inl rfl))
  let z : Vec F S512x128 .f32 ← Prog.lift (.load a12 (rows r hr c hc).toLoadRect (View.loadsAt_vmem h_S512x128))
  let z' : Vec F S512x128 .f32 ← Prog.lift (.load a12 (rows r hr c hc).toLoadRect (View.loadsAt_vmem h_S512x128))
  Prog.lift (.store a12 (rows r hr c hc) (dqNext (scoreGrad (wt q k o) v o d) k z) Finset.univ (View.stores_vmem_bits_univ h_S512x128 rfl) (.inl rfl))

/-- The eight heads, one after another. -/
def heads (wt : Vec F S512x128 .bf16 → Vec F S512x128 .bf16 → Vec F S512x128 .f32 → FVec F S512x512 .f32)
    (a4 a5 a6 : Memref sig .tc .vmem S512x1024 .bf16) (a7 a8 a10 a11 : Memref sig .tc .vmem S512x1024 .f32)
    (a12 : Memref sig .tc .vmem S4096x1024 .f32) (r : Nat) (hr : r + 512 ≤ 4096) :
    Prog (TpuEff nD τ sig (Elt F) Λ₀ .tc) PUnit := do
  head wt a4 a5 a6 a7 a8 a10 a11 a12 r hr 0 (by decide)
  head wt a4 a5 a6 a7 a8 a10 a11 a12 r hr 128 (by decide)
  head wt a4 a5 a6 a7 a8 a10 a11 a12 r hr 256 (by decide)
  head wt a4 a5 a6 a7 a8 a10 a11 a12 r hr 384 (by decide)
  head wt a4 a5 a6 a7 a8 a10 a11 a12 r hr 512 (by decide)
  head wt a4 a5 a6 a7 a8 a10 a11 a12 r hr 640 (by decide)
  head wt a4 a5 a6 a7 a8 a10 a11 a12 r hr 768 (by decide)
  head wt a4 a5 a6 a7 a8 a10 a11 a12 r hr 896 (by decide)

/-! ## The body -/

/-- The first row of the query block whose number is the word `v`. -/
def row (v : BitVec 32) : Nat := (Scalar.indexCast (Scalar.muli v 512#32)).toNat

/-- The first row of a query block off the diagonal lies 512 rows from the end at the latest. -/
theorem row_full (v1 v3 : BitVec 32) (h : k0_chk1 v1 v3) (c : k0_cond3 v1 v3 = 1#1) : row v1 + 512 ≤ 4096 :=
  k0_off2_inb v1 v3 h c 0

/-- The same of a query block on the diagonal. -/
theorem row_diag (v1 v3 : BitVec 32) (h : k0_chk1 v1 v3) (c : k0_cond4 v1 v3 = 1#1) : row v1 + 512 ≤ 4096 :=
  k0_off10_inb v1 v3 h c 0

/-- The whole body: the tables' words, the three zero fills, the heads off the diagonal or on it, and at the last point
    the copy of the queries' gradient to its array. -/
def body (i : grid0.Coords) (arg2 : Memref sig .tc .smem S36 .i32) (arg3 : Memref sig .tc .smem S36 .i32)
    (a4 a5 a6 : Memref sig .tc .vmem S512x1024 .bf16) (a7 a8 : Memref sig .tc .vmem S512x1024 .f32)
    (a9 : Memref sig .tc .hbm S4096x1024 .f32) (a10 a11 : Memref sig .tc .vmem S512x1024 .f32)
    (a12 : Memref sig .tc .vmem S4096x1024 .f32) (h12 : a12.IsWhole) (a13 : DmaSems sig S_) :
    Prog (TpuEff nD τ sig (Elt F) Λ₀ .tc) PUnit := do
  let v1 : Elt F .i32 ← smemLoad arg2 (Rect.unit (s := S36) (k0_off1 i) S1.size (k0_off1_inb i)) numel1_S1 rfl
  let v3 : Elt F .i32 ← smemLoad arg3 (Rect.unit (s := S36) (k0_off1 i) S1.size (k0_off1_inb i)) numel1_S1 rfl
  have hw : k0_chk1 v1 v3 := (← Prog.lift (TpuEff.assume (k0_chk1 v1 v3) (k0_chk1.dec v1 v3))).down
  if _h1 : Scalar.cmpi .ne (Scalar.extui (Scalar.cmpi .eq (BitVec.ofNat 32 (i 1).val) 0#32)) 0#32 = 1#1 then do
    let _z : Vec F S4096x1024 .f32 ← Prog.lift (.load a12 (Rect.unit (s := S4096x1024) ![0, 0] S4096x1024.size inb_S4096x1024_S4096x1024_0_0).toLoadRect (View.loadsAt_vmem h_S4096x1024))
    Prog.lift (.store a12 (Rect.unit (s := S4096x1024) ![0, 0] S4096x1024.size inb_S4096x1024_S4096x1024_0_0)
      (shapeCast S4096x1024 (broadcast S4096x1024 (Scalar.ofBits .f32 0x00000000#32 : F .f32) : FVec F S4096x1024 .f32) shapeCasts_S4096x1024_S4096x1024)
      Finset.univ (View.stores_vmem_bits_univ h_S4096x1024 rfl) (.inl rfl))
  else pure ⟨⟩
  if _h2 : k0_cond2 v1 v3 = 1#1 then do
    let _y : Vec F S512x1024 .f32 ← Prog.lift (.load a10 (Rect.unit (s := S512x1024) ![0, 0] S512x1024.size inb_S512x1024_S512x1024_0_0).toLoadRect (View.loadsAt_vmem h_S512x1024))
    Prog.lift (.store a10 (Rect.unit (s := S512x1024) ![0, 0] S512x1024.size inb_S512x1024_S512x1024_0_0)
      (broadcast S512x1024 (Scalar.ofBits .f32 0x00000000#32 : F .f32)) Finset.univ (View.stores_vmem_bits_univ h_S512x1024 rfl) (.inl rfl))
    let _x : Vec F S512x1024 .f32 ← Prog.lift (.load a11 (Rect.unit (s := S512x1024) ![0, 0] S512x1024.size inb_S512x1024_S512x1024_0_0).toLoadRect (View.loadsAt_vmem h_S512x1024))
    Prog.lift (.store a11 (Rect.unit (s := S512x1024) ![0, 0] S512x1024.size inb_S512x1024_S512x1024_0_0)
      (broadcast S512x1024 (Scalar.ofBits .f32 0x00000000#32 : F .f32)) Finset.univ (View.stores_vmem_bits_univ h_S512x1024 rfl) (.inl rfl))
  else pure ⟨⟩
  if h3 : k0_cond3 v1 v3 = 1#1 then heads weights a4 a5 a6 a7 a8 a10 a11 a12 (row v1) (row_full v1 v3 hw h3) else pure ⟨⟩
  if h4 : k0_cond4 v1 v3 = 1#1 then heads weightsDiag a4 a5 a6 a7 a8 a10 a11 a12 (row v1) (row_diag v1 v3 hw h4) else pure ⟨⟩
  if h5 : k0_cond5 i = 1#1 then do
    Prog.lift (.enqueueDma a12 (.here (a9.slice (Rect.unit (s := S4096x1024) (k0_off18 i) S4096x1024.size (k0_off18_inb i h5)) (fun _ => rfl))) (.dma a13.sem)
      h12.wordExact (View.wordExact_bits rfl) ⟨Or.inl rfl, trivial⟩)
    Prog.lift (.waitDma2 a13.sem a12 (a9.slice (Rect.unit (s := S4096x1024) (k0_off18 i) S4096x1024.size (k0_off18_inb i h5)) (fun _ => rfl)) h12.wordExact (View.wordExact_bits rfl))
  else pure ⟨⟩

end Cert.KernelIdeal.Flash

end
-- ==== Proof.Kernel.Step.lean ====
/- The step of one head as a change of three arrays. A load or a store of 128 lanes through a memref held at known
   contents, and from these the step `head`: it reads the five operands and adds to the three gradients. Stated once, it is
   applied eight times. -/
module

public import proofs.«01_k».proof.Proof.Kernel.Body
public import Idealize.ShloMosaic.Lib.VecWindow

@[expose] public section

set_option synthInstance.maxSize 4096

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ
local notation "𝕎" => wpE (nD := nD) (τ := τ) (Ix := Unit) (Name := ℕ) (U := Pipeline.UD sig nD τ) (Lvl := ℕ) (defs₀ (F := F)) Variants.none

/-! ## Loads and stores of owned memrefs -/

section Access
variable (c : Dev nD) (E : Set ℕ) {sp : CoreSpace} {s : Shape} {e : EltTy}

/-- A load from a memref held at `X` reads the rectangle of `X`. -/
theorem load_owned (m : Memref sig .tc sp s e) (r : Rect s) (hl : m.view.LoadsAt r.toLoadRect) (q : PosShare TreeShare) (X : s.Idx → Elt F e)
    (k : (r.toLoadRect.shape.Idx → Elt F e) → Prog (TpuEff nD τ sig (Elt F) Λ₀ .tc) PUnit) (K : PUnit → sProp 𝕄) :
    owns (c : Thread nD τ) m q X
      ⊢ iprop((owns (c : Thread nD τ) m q X -∗ wp frame (𝕎 c none) E (k (fun y => X (r.emb y))) K)
        -∗ wp frame (𝕎 c none) E (Prog.lift (.load m r.toLoadRect hl) >>= k) K) := by
  unfold owns
  iintro ⟨%f, %hf, H⟩ Hk
  subst hf
  iapply (wp_load_rect Variants.none (c : Thread nD τ) none E (m := m) (r := r) (S := m.view.set) (View.set_slice_subset _ _)) $$ H
  iintro H
  iapply Hk
  iexists f; isplitr; · ipureintro; rfl
  iexact H

/-- A store through a rectangle of a memref held at `X` leaves `X` with the payload put there. -/
theorem store_owned (m : Memref sig .tc sp s e) (off size : Fin s.rank → ℕ) (inb : ∀ a, off a + size a ≤ s.size a)
    (w : (Rect.unit off size inb).shape.Idx → Elt F e)
    (hx : (m.access (Rect.unit off size inb)).Stores Finset.univ) (hm) (X : s.Idx → Elt F e)
    (k : PUnit → Prog (TpuEff nD τ sig (Elt F) Λ₀ .tc) PUnit) (K : PUnit → sProp 𝕄) :
    owns (c : Thread nD τ) m fullShare X
      ⊢ iprop((owns (c : Thread nD τ) m fullShare (VecWindow.put X off size w) -∗ wp frame (𝕎 c none) E (k ⟨⟩) K)
        -∗ wp frame (𝕎 c none) E (Prog.lift (.store m (Rect.unit off size inb) w Finset.univ hx hm) >>= k) K) := by
  unfold owns
  iintro ⟨%f, %hf, H⟩ Hk
  subst hf
  iapply (wp_store Variants.none (c : Thread nD τ) none E (m := m) (r := Rect.unit off size inb) (S := m.view.set)
    (by rw [View.setOn_univ]; exact View.set_slice_subset _ _)) $$ H
  iintro H
  iapply Hk
  iexists _; isplitr
  swap; · iexact H
  ipureintro
  exact View.read_writes_cons_put m.view f inb w [] rfl

end Access

/-! ## The three gradients and what one head adds to them -/

/-- The three arrays the body adds to: a block of the keys' gradient, of the values' gradient, and the whole of the
    queries'. -/
structure Grads (F : FTy → Type) [FloatOps F] where
  dk : Vec F S512x1024 .f32
  dv : Vec F S512x1024 .f32
  dq : Vec F S4096x1024 .f32

/-- The five operands of a point: a block of queries, of keys, of values (the upper half of a wider array), of saved
    outputs and of the outputs' gradient. -/
structure Operands (F : FTy → Type) [FloatOps F] where
  q : Vec F S512x1024 .bf16
  k : Vec F S512x1024 .bf16
  v : Vec F S512x1024 .bf16
  o : Vec F S512x1024 .f32
  d : Vec F S512x1024 .f32

/-- 128 lanes of a block. -/
def lanesOf {e : EltTy} (x : Vec F S512x1024 e) (c : Nat) (hc : c + 128 ≤ 1024) : Vec F S512x128 e := fun y => x ((lanes c hc).emb y)

/-- 128 lanes of 512 rows of the queries' gradient. -/
def rowsOf (x : Vec F S4096x1024 .f32) (r : Nat) (hr : r + 512 ≤ 4096) (c : Nat) (hc : c + 128 ≤ 1024) : Vec F S512x128 .f32 :=
  fun y => x ((rows r hr c hc).emb y)

/-- A way to weigh a block of queries against a block of keys. -/
abbrev Weigh (F : FTy → Type) [FloatOps F] : Type := Vec F S512x128 .bf16 → Vec F S512x128 .bf16 → Vec F S512x128 .f32 → FVec F S512x512 .f32

/-- What one head makes of the three gradients. -/
def headStep (wt : Weigh F) (x : Operands F) (r : Nat) (hr : r + 512 ≤ 4096) (c : Nat) (hc : c + 128 ≤ 1024) (g : Grads F) : Grads F where
  dk := VecWindow.put g.dk ![0, c] S512x128.size
    (dkNext (scoreGrad (wt (lanesOf x.q c hc) (lanesOf x.k c hc) (lanesOf x.o c hc)) (lanesOf x.v c hc) (lanesOf x.o c hc) (lanesOf x.d c hc))
      (lanesOf x.q c hc) (lanesOf g.dk c hc))
  dv := VecWindow.put g.dv ![0, c] S512x128.size
    (dvNext (wt (lanesOf x.q c hc) (lanesOf x.k c hc) (lanesOf x.o c hc)) (lanesOf x.d c hc) (lanesOf g.dv c hc))
  dq := VecWindow.put g.dq ![r, c] S512x128.size
    (dqNext (scoreGrad (wt (lanesOf x.q c hc) (lanesOf x.k c hc) (lanesOf x.o c hc)) (lanesOf x.v c hc) (lanesOf x.o c hc) (lanesOf x.d c hc))
      (lanesOf x.k c hc) (rowsOf g.dq r hr c hc))

/-- What the eight heads make of them. -/
def headsStep (wt : Weigh F) (x : Operands F) (r : Nat) (hr : r + 512 ≤ 4096) (g : Grads F) : Grads F :=
  headStep wt x r hr 896 (by decide) (headStep wt x r hr 768 (by decide) (headStep wt x r hr 640 (by decide)
    (headStep wt x r hr 512 (by decide) (headStep wt x r hr 384 (by decide) (headStep wt x r hr 256 (by decide)
      (headStep wt x r hr 128 (by decide) (headStep wt x r hr 0 (by decide) g)))))))

/-- The eight memrefs the heads work on, held at operands `x` and gradients `g`. -/
def held (c : Dev nD) (a4 a5 a6 : Memref sig .tc .vmem S512x1024 .bf16) (a7 a8 a10 a11 : Memref sig .tc .vmem S512x1024 .f32)
    (a12 : Memref sig .tc .vmem S4096x1024 .f32) (x : Operands F) (g : Grads F) : sProp 𝕄 :=
  iprop(owns (c : Thread nD τ) a4 fullShare x.q ∗ owns (c : Thread nD τ) a5 fullShare x.k ∗ owns (c : Thread nD τ) a6 fullShare x.v
    ∗ owns (c : Thread nD τ) a7 fullShare x.o ∗ owns (c : Thread nD τ) a8 fullShare x.d
    ∗ owns (c : Thread nD τ) a10 fullShare g.dk ∗ owns (c : Thread nD τ) a11 fullShare g.dv ∗ owns (c : Thread nD τ) a12 fullShare g.dq)

section Heads
variable (c : Dev nD) (E : Set ℕ)
  (a4 a5 a6 : Memref sig .tc .vmem S512x1024 .bf16) (a7 a8 a10 a11 : Memref sig .tc .vmem S512x1024 .f32)
  (a12 : Memref sig .tc .vmem S4096x1024 .f32) (wt : Weigh F) (x : Operands F) (r : Nat) (hr : r + 512 ≤ 4096)

/-- The step of one head, run. -/
theorem wp_head (l : Nat) (hl : l + 128 ≤ 1024) (g : Grads F)
    (k : PUnit → Prog (TpuEff nD τ sig (Elt F) Λ₀ .tc) PUnit) (K : PUnit → sProp 𝕄) :
    held c a4 a5 a6 a7 a8 a10 a11 a12 x g
      ⊢ iprop((held c a4 a5 a6 a7 a8 a10 a11 a12 x (headStep wt x r hr l hl g) -∗ wp frame (𝕎 c none) E (k ⟨⟩) K)
        -∗ wp frame (𝕎 c none) E (head wt a4 a5 a6 a7 a8 a10 a11 a12 r hr l hl >>= k) K) := by
  unfold held head
  simp only [bind_assoc]
  iintro ⟨H4, H5, H6, H7, H8, H10, H11, H12⟩ Hk
  iapply (load_owned c E a4 (lanes l hl) _ fullShare x.q _ K) $$ H4
  iintro H4
  iapply (load_owned c E a5 (lanes l hl) _ fullShare x.k _ K) $$ H5
  iintro H5
  iapply (load_owned c E a6 (lanes l hl) _ fullShare x.v _ K) $$ H6
  iintro H6
  iapply (load_owned c E a7 (lanes l hl) _ fullShare x.o _ K) $$ H7
  iintro H7
  iapply (load_owned c E a8 (lanes l hl) _ fullShare x.d _ K) $$ H8
  iintro H8
  iapply (load_owned c E a11 (lanes l hl) _ fullShare g.dv _ K) $$ H11
  iintro H11
  iapply (load_owned c E a11 (lanes l hl) _ fullShare g.dv _ K) $$ H11
  iintro H11
  iapply (store_owned c E a11 ![0, l] S512x128.size (inb 512 0 l (by omega) hl) _ _ _ g.dv _ K) $$ H11
  iintro H11
  iapply (load_owned c E a10 (lanes l hl) _ fullShare g.dk _ K) $$ H10
  iintro H10
  iapply (load_owned c E a10 (lanes l hl) _ fullShare g.dk _ K) $$ H10
  iintro H10
  iapply (store_owned c E a10 ![0, l] S512x128.size (inb 512 0 l (by omega) hl) _ _ _ g.dk _ K) $$ H10
  iintro H10
  iapply (load_owned c E a12 (rows r hr l hl) _ fullShare g.dq _ K) $$ H12
  iintro H12
  iapply (load_owned c E a12 (rows r hr l hl) _ fullShare g.dq _ K) $$ H12
  iintro H12
  iapply (store_owned c E a12 ![r, l] S512x128.size (inb 4096 r l hr hl) _ _ _ g.dq _ K) $$ H12
  iintro H12
  iapply Hk
  isplitl [H4]; · iexact H4
  isplitl [H5]; · iexact H5
  isplitl [H6]; · iexact H6
  isplitl [H7]; · iexact H7
  isplitl [H8]; · iexact H8
  isplitl [H10]; · iexact H10
  isplitl [H11]; · iexact H11
  iexact H12

/-- The eight heads, run. -/
theorem wp_heads (g : Grads F) (k : PUnit → Prog (TpuEff nD τ sig (Elt F) Λ₀ .tc) PUnit) (K : PUnit → sProp 𝕄) :
    held c a4 a5 a6 a7 a8 a10 a11 a12 x g
      ⊢ iprop((held c a4 a5 a6 a7 a8 a10 a11 a12 x (headsStep wt x r hr g) -∗ wp frame (𝕎 c none) E (k ⟨⟩) K)
        -∗ wp frame (𝕎 c none) E (heads wt a4 a5 a6 a7 a8 a10 a11 a12 r hr >>= k) K) := by
  unfold heads
  simp only [bind_assoc]
  iintro H Hk
  iapply (wp_head c E a4 a5 a6 a7 a8 a10 a11 a12 wt x r hr 0 _ g _ K) $$ H
  iintro H
  iapply (wp_head c E a4 a5 a6 a7 a8 a10 a11 a12 wt x r hr 128 _ _ _ K) $$ H
  iintro H
  iapply (wp_head c E a4 a5 a6 a7 a8 a10 a11 a12 wt x r hr 256 _ _ _ K) $$ H
  iintro H
  iapply (wp_head c E a4 a5 a6 a7 a8 a10 a11 a12 wt x r hr 384 _ _ _ K) $$ H
  iintro H
  iapply (wp_head c E a4 a5 a6 a7 a8 a10 a11 a12 wt x r hr 512 _ _ _ K) $$ H
  iintro H
  iapply (wp_head c E a4 a5 a6 a7 a8 a10 a11 a12 wt x r hr 640 _ _ _ K) $$ H
  iintro H
  iapply (wp_head c E a4 a5 a6 a7 a8 a10 a11 a12 wt x r hr 768 _ _ _ K) $$ H
  iintro H
  iapply (wp_head c E a4 a5 a6 a7 a8 a10 a11 a12 wt x r hr 896 _ _ _ K) $$ H
  iintro H
  iapply Hk
  iexact H

end Heads

end Cert.KernelIdeal.Flash

end
-- ==== Proof.Kernel.Copy.lean ====
/- The body's last act at the last point: the queries' gradient is copied from its buffer to its array, and waited for. -/
module

public import proofs.«01_k».proof.Proof.Kernel.Step
public import Idealize.ShloMosaic.Lib.Tactic

@[expose] public section

set_option synthInstance.maxSize 4096

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ
local notation "𝕎" => wpE (nD := nD) (τ := τ) (Ix := Unit) (Name := ℕ) (U := Pipeline.UD sig nD τ) (Lvl := ℕ) (defs₀ (F := F)) Variants.none

/-- A word read from a table held at `X`. -/
theorem word_owned (c : Dev nD) (E : Set ℕ) {s : Shape} {e : EltTy} (m : Memref sig .tc .smem s e) (r : Rect s) (h1 : r.shape.numel = 1)
    (hp : e.packing = 1) (q : PosShare TreeShare) (X : s.Idx → Elt F e)
    (k : Elt F e → Prog (TpuEff nD τ sig (Elt F) Λ₀ .tc) PUnit) (K : PUnit → sProp 𝕄) :
    owns (c : Thread nD τ) m q X
      ⊢ iprop((owns (c : Thread nD τ) m q X -∗ wp frame (𝕎 c none) E (k (X (r.emb (Shape.Idx.first (h1.symm ▸ Nat.one_pos))))) K)
        -∗ wp frame (𝕎 c none) E (smemLoad m r h1 hp >>= k) K) := by
  unfold owns
  iintro ⟨%f, %hf, H⟩ Hk
  subst hf
  iapply (wp_load_rect Variants.none (c : Thread nD τ) none E (m := m) (r := r) (S := m.view.set) (View.set_slice_subset _ _)) $$ H
  iintro H
  iapply Hk
  iexists f; isplitr; · ipureintro; rfl
  iexact H

/-- The queries' gradient's buffer, and its array. -/
abbrev acc : Memref sig .tc .vmem S4096x1024 .f32 := Memref.whole cc0_scratch0
abbrev out : Memref sig .tc .hbm S4096x1024 .f32 := Memref.whole main_v41_0

/-- The copy out, run: the array ends at what the buffer holds. -/
theorem wp_copy (c : Dev nD) (i : grid0.Coords) (h5 : k0_cond5 i = 1#1) (X Y : Vec F S4096x1024 .f32) (W : Waits sig Unit) (K : PUnit → sProp 𝕄) :
    iprop(owns (c : Thread nD τ) acc fullShare X ∗ owns (c : Thread nD τ) out fullShare Y
        ∗ semVal ((c : Thread nD τ), SemLoc.dma cc0_scratch1.sem) 0 ∗ owes (c : Thread nD τ) 0 W
        ∗ (iprop(owns (c : Thread nD τ) acc fullShare X ∗ owns (c : Thread nD τ) out fullShare X
            ∗ semVal ((c : Thread nD τ), SemLoc.dma cc0_scratch1.sem) 0 ∗ ∃ W', owes (c : Thread nD τ) 0 W') -∗ K ⟨⟩))
      ⊢ wp frame (𝕎 c none) Set.univ (do
        Prog.lift (.enqueueDma acc (.here (out.slice (Rect.unit (s := S4096x1024) (k0_off18 i) S4096x1024.size (k0_off18_inb i h5)) (fun _ => rfl))) (.dma cc0_scratch1.sem)
          (Memref.isWhole_whole cc0_scratch0).wordExact (View.wordExact_bits rfl) ⟨Or.inl rfl, trivial⟩)
        Prog.lift (.waitDma2 cc0_scratch1.sem acc (out.slice (Rect.unit (s := S4096x1024) (k0_off18 i) S4096x1024.size (k0_off18_inb i h5)) (fun _ => rfl))
          (Memref.isWhole_whole cc0_scratch0).wordExact (View.wordExact_bits rfl))) K := by
  unfold owns
  iintro ⟨⟨%f, %hf, HX⟩, ⟨%g, %hg, HY⟩, HS, HW, Hk⟩
  sl_exec
  sl_step
  iapply Hk
  isplitl [HX]; · iexists f; isplitr; · ipureintro; exact hf
                  iexact HX
  isplitl [HY]
  · iexists _; isplitr
    swap; · iexact HY
    ipureintro
    unfold wp_copy.sl.HY_w0
    exact (View.read_writes_full out.view g (k0_off18_inb i h5) _ []).trans hf
  isplitl [HS]; · iexact HS
  iexists _; iexact HW

end Cert.KernelIdeal.Flash

end
-- ==== Proof.Kernel.Point.lean ====
/- One point of the grid: what the body makes of the three gradients, from the two words it reads from the tables, and
   the run of the body that makes it. -/
module

public import proofs.«01_k».proof.Proof.Kernel.Copy

@[expose] public section

set_option synthInstance.maxSize 4096

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ
local notation "𝕎" => wpE (nD := nD) (τ := τ) (Ix := Unit) (Name := ℕ) (U := Pipeline.UD sig nD τ) (Lvl := ℕ) (defs₀ (F := F)) Variants.none

/-- A block of zeros. -/
def zeroBlock : Vec F S512x1024 .f32 := broadcast S512x1024 (Scalar.ofBits .f32 0x00000000#32 : F .f32)

/-- The queries' gradient at zero. -/
def zeroAll : Vec F S4096x1024 .f32 :=
  shapeCast S4096x1024 (broadcast S4096x1024 (Scalar.ofBits .f32 0x00000000#32 : F .f32) : FVec F S4096x1024 .f32) shapeCasts_S4096x1024_S4096x1024

/-- Whether a point is the first: the body's own test. -/
def first (i : grid0.Coords) : BitVec 1 := Scalar.cmpi .ne (Scalar.extui (Scalar.cmpi .eq (BitVec.ofNat 32 (i 1).val) 0#32)) 0#32

/-- At the first point the queries' gradient is put to zero. -/
def clearAll (i : grid0.Coords) (g : Grads F) : Grads F := if first i = 1#1 then ⟨g.dk, g.dv, zeroAll⟩ else g

/-- On the diagonal the block of the keys' and the values' gradients is put to zero. -/
def clearBlock (v1 v3 : BitVec 32) (g : Grads F) : Grads F := if k0_cond2 v1 v3 = 1#1 then ⟨zeroBlock, zeroBlock, g.dq⟩ else g

/-- Off the diagonal the heads add their shares. -/
def addFull (v1 v3 : BitVec 32) (hw : k0_chk1 v1 v3) (x : Operands F) (g : Grads F) : Grads F :=
  if h : k0_cond3 v1 v3 = 1#1 then headsStep weights x (row v1) (row_full v1 v3 hw h) g else g

/-- On the diagonal they do with the weights masked. -/
def addDiag (v1 v3 : BitVec 32) (hw : k0_chk1 v1 v3) (x : Operands F) (g : Grads F) : Grads F :=
  if h : k0_cond4 v1 v3 = 1#1 then headsStep weightsDiag x (row v1) (row_diag v1 v3 hw h) g else g

/-- What a point makes of the three gradients. -/
def pointStep (i : grid0.Coords) (v1 v3 : BitVec 32) (hw : k0_chk1 v1 v3) (x : Operands F) (g : Grads F) : Grads F :=
  addDiag v1 v3 hw x (addFull v1 v3 hw x (clearBlock v1 v3 (clearAll i g)))

/-- The word of a table at a point. -/
def wordAt (T : Vec F S36 .i32) (i : grid0.Coords) : BitVec 32 :=
  T ((Rect.unit (s := S36) (k0_off1 i) S1.size (k0_off1_inb i)).emb (Shape.Idx.first (numel1_S1.symm ▸ Nat.one_pos)))

/-- The two tables. -/
abbrev tab1 : Memref sig .tc .smem S36 .i32 := Memref.whole main_c
abbrev tab2 : Memref sig .tc .smem S36 .i32 := Memref.whole main_c_0

section
variable (c : Dev nD) (a4 a5 a6 : Memref sig .tc .vmem S512x1024 .bf16) (a7 a8 a10 a11 : Memref sig .tc .vmem S512x1024 .f32)

/-- A whole store into an owned memref leaves the payload. -/
theorem fill_owned (E : Set ℕ) {sp : CoreSpace} {s : Shape} {e : EltTy} (m : Memref sig .tc sp s e) (off : Fin s.rank → ℕ) (inb : ∀ a, off a + s.size a ≤ s.size a)
    (w : s.Idx → Elt F e)
    (hx : (m.access (Rect.unit off s.size inb)).Stores Finset.univ) (hm) (X : s.Idx → Elt F e)
    (k : PUnit → Prog (TpuEff nD τ sig (Elt F) Λ₀ .tc) PUnit) (K : PUnit → sProp 𝕄) :
    owns (c : Thread nD τ) m fullShare X
      ⊢ iprop((owns (c : Thread nD τ) m fullShare w -∗ wp frame (𝕎 c none) E (k ⟨⟩) K)
        -∗ wp frame (𝕎 c none) E (Prog.lift (.store m (Rect.unit off s.size inb) w Finset.univ hx hm) >>= k) K) := by
  unfold owns
  iintro ⟨%f, %hf, H⟩ Hk
  subst hf
  iapply (wp_store Variants.none (c : Thread nD τ) none E (m := m) (r := Rect.unit off s.size inb) (S := m.view.set)
    (by rw [View.setOn_univ]; exact View.set_slice_subset _ _)) $$ H
  iintro H
  iapply Hk
  iexists _; isplitr
  swap; · iexact H
  ipureintro
  exact View.read_writes_full m.view f inb w []

variable (i : grid0.Coords) (v1 v3 : BitVec 32) (hw : k0_chk1 v1 v3) (x : Operands F) (g : Grads F)

/-- The first test of the body. -/
theorem wp_clearAll (j : PUnit → Prog (TpuEff nD τ sig (Elt F) Λ₀ .tc) PUnit) (K : PUnit → sProp 𝕄) (hl) (hx) (hm) :
    held c a4 a5 a6 a7 a8 a10 a11 acc x g
      ⊢ iprop((held c a4 a5 a6 a7 a8 a10 a11 acc x (clearAll i g) -∗ wp frame (𝕎 c none) Set.univ (j ⟨⟩) K)
        -∗ wp frame (𝕎 c none) Set.univ (if _h : first i = 1#1 then
              Prog.lift (.load acc (Rect.unit (s := S4096x1024) ![0, 0] S4096x1024.size inb_S4096x1024_S4096x1024_0_0).toLoadRect hl) >>= fun _ =>
              Prog.lift (.store acc (Rect.unit (s := S4096x1024) ![0, 0] S4096x1024.size inb_S4096x1024_S4096x1024_0_0) zeroAll Finset.univ hx hm) >>= j
            else j ⟨⟩) K) := by
  by_cases h : first i = 1#1
  · simp only [clearAll, if_pos h, dif_pos h]
    unfold held
    iintro ⟨Hq, Hk, Hv, Ho, Hd, Hdk, Hdv, Hdq⟩ Hj
    iapply (load_owned c Set.univ acc _ hl fullShare _ _ _) $$ Hdq
    iintro Hdq
    iapply (fill_owned c Set.univ acc _ _ _ hx hm _ j _) $$ Hdq
    iintro Hdq
    iapply Hj
    isplitl [Hq]; · iexact Hq
    isplitl [Hk]; · iexact Hk
    isplitl [Hv]; · iexact Hv
    isplitl [Ho]; · iexact Ho
    isplitl [Hd]; · iexact Hd
    isplitl [Hdk]; · iexact Hdk
    isplitl [Hdv]; · iexact Hdv
    iexact Hdq
  · simp only [clearAll, if_neg h, dif_neg h]
    iintro H Hj
    iapply Hj
    iexact H

/-- The second: the diagonal's clearing of the keys' and the values' gradients. -/
theorem wp_clearBlock (j : PUnit → Prog (TpuEff nD τ sig (Elt F) Λ₀ .tc) PUnit) (K : PUnit → sProp 𝕄) (hl) (hx) (hm) (hl') (hx') (hm') :
    held c a4 a5 a6 a7 a8 a10 a11 acc x g
      ⊢ iprop((held c a4 a5 a6 a7 a8 a10 a11 acc x (clearBlock v1 v3 g) -∗ wp frame (𝕎 c none) Set.univ (j ⟨⟩) K)
        -∗ wp frame (𝕎 c none) Set.univ (if _h : k0_cond2 v1 v3 = 1#1 then
              Prog.lift (.load a10 (Rect.unit (s := S512x1024) ![0, 0] S512x1024.size inb_S512x1024_S512x1024_0_0).toLoadRect hl) >>= fun _ =>
              Prog.lift (.store a10 (Rect.unit (s := S512x1024) ![0, 0] S512x1024.size inb_S512x1024_S512x1024_0_0) zeroBlock Finset.univ hx hm) >>= fun _ =>
              Prog.lift (.load a11 (Rect.unit (s := S512x1024) ![0, 0] S512x1024.size inb_S512x1024_S512x1024_0_0).toLoadRect hl') >>= fun _ =>
              Prog.lift (.store a11 (Rect.unit (s := S512x1024) ![0, 0] S512x1024.size inb_S512x1024_S512x1024_0_0) zeroBlock Finset.univ hx' hm') >>= j
            else j ⟨⟩) K) := by
  by_cases h : k0_cond2 v1 v3 = 1#1
  · simp only [clearBlock, if_pos h, dif_pos h]
    unfold held
    iintro ⟨Hq, Hk, Hv, Ho, Hd, Hdk, Hdv, Hdq⟩ Hj
    iapply (load_owned c Set.univ a10 _ hl fullShare _ _ _) $$ Hdk
    iintro Hdk
    iapply (fill_owned c Set.univ a10 _ _ _ hx hm _ _ _) $$ Hdk
    iintro Hdk
    iapply (load_owned c Set.univ a11 _ hl' fullShare _ _ _) $$ Hdv
    iintro Hdv
    iapply (fill_owned c Set.univ a11 _ _ _ hx' hm' _ j _) $$ Hdv
    iintro Hdv
    iapply Hj
    isplitl [Hq]; · iexact Hq
    isplitl [Hk]; · iexact Hk
    isplitl [Hv]; · iexact Hv
    isplitl [Ho]; · iexact Ho
    isplitl [Hd]; · iexact Hd
    isplitl [Hdk]; · iexact Hdk
    isplitl [Hdv]; · iexact Hdv
    iexact Hdq
  · simp only [clearBlock, if_neg h, dif_neg h]
    iintro H Hj
    iapply Hj
    iexact H

/-- The third: a block below the diagonal. -/
theorem wp_addFull (j : PUnit → Prog (TpuEff nD τ sig (Elt F) Λ₀ .tc) PUnit) (K : PUnit → sProp 𝕄) :
    held c a4 a5 a6 a7 a8 a10 a11 acc x g
      ⊢ iprop((held c a4 a5 a6 a7 a8 a10 a11 acc x (addFull v1 v3 hw x g) -∗ wp frame (𝕎 c none) Set.univ (j ⟨⟩) K)
        -∗ wp frame (𝕎 c none) Set.univ (if h : k0_cond3 v1 v3 = 1#1 then
              heads weights a4 a5 a6 a7 a8 a10 a11 acc (row v1) (row_full v1 v3 hw h) >>= j
            else j ⟨⟩) K) := by
  by_cases h : k0_cond3 v1 v3 = 1#1
  · simp only [addFull, dif_pos h]
    exact wp_heads c Set.univ a4 a5 a6 a7 a8 a10 a11 acc weights x _ _ g j _
  · simp only [addFull, dif_neg h]
    iintro H Hj
    iapply Hj
    iexact H

/-- The fourth: a block on the diagonal. -/
theorem wp_addDiag (j : PUnit → Prog (TpuEff nD τ sig (Elt F) Λ₀ .tc) PUnit) (K : PUnit → sProp 𝕄) :
    held c a4 a5 a6 a7 a8 a10 a11 acc x g
      ⊢ iprop((held c a4 a5 a6 a7 a8 a10 a11 acc x (addDiag v1 v3 hw x g) -∗ wp frame (𝕎 c none) Set.univ (j ⟨⟩) K)
        -∗ wp frame (𝕎 c none) Set.univ (if h : k0_cond4 v1 v3 = 1#1 then
              heads weightsDiag a4 a5 a6 a7 a8 a10 a11 acc (row v1) (row_diag v1 v3 hw h) >>= j
            else j ⟨⟩) K) := by
  by_cases h : k0_cond4 v1 v3 = 1#1
  · simp only [addDiag, dif_pos h]
    exact wp_heads c Set.univ a4 a5 a6 a7 a8 a10 a11 acc weightsDiag x _ _ g j _
  · simp only [addDiag, dif_neg h]
    iintro H Hj
    iapply Hj
    iexact H

/-- An assumption that holds is passed. -/
theorem assume_owned (P : Prop) (d : Decidable P) (h : P) (k : PLift P → Prog (TpuEff nD τ sig (Elt F) Λ₀ .tc) PUnit) (K : PUnit → sProp 𝕄) :
    wp frame (𝕎 c none) Set.univ (k ⟨h⟩) K ⊢ wp frame (𝕎 c none) Set.univ (Prog.lift (.assume P d) >>= k) K :=
  wp_assume Variants.none (c : Thread nD τ) none Set.univ h

/-- The body, run at a point whose words are known: from the operands, the gradients and the two tables held, to the
    gradients stepped; at the last point the queries' gradient is in its array. -/
theorem wp_body (q : PosShare TreeShare) (T1 T2 : Vec F S36 .i32) (hw : k0_chk1 (wordAt T1 i) (wordAt T2 i))
    (Y : Vec F S4096x1024 .f32) (W : Waits sig Unit) (K : PUnit → sProp 𝕄) :
    iprop(held c a4 a5 a6 a7 a8 a10 a11 acc x g ∗ owns (c : Thread nD τ) tab1 q T1 ∗ owns (c : Thread nD τ) tab2 q T2
        ∗ owns (c : Thread nD τ) out fullShare Y
        ∗ semVal ((c : Thread nD τ), SemLoc.dma cc0_scratch1.sem) 0 ∗ owes (c : Thread nD τ) 0 W
        ∗ (iprop(held c a4 a5 a6 a7 a8 a10 a11 acc x (pointStep i (wordAt T1 i) (wordAt T2 i) hw x g)
            ∗ owns (c : Thread nD τ) tab1 q T1 ∗ owns (c : Thread nD τ) tab2 q T2
            ∗ owns (c : Thread nD τ) out fullShare (if k0_cond5 i = 1#1 then (pointStep i (wordAt T1 i) (wordAt T2 i) hw x g).dq else Y)
            ∗ semVal ((c : Thread nD τ), SemLoc.dma cc0_scratch1.sem) 0 ∗ ∃ W', owes (c : Thread nD τ) 0 W') -∗ K ⟨⟩))
      ⊢ wp frame (𝕎 c none) Set.univ
          (body i tab1 tab2 a4 a5 a6 a7 a8 out a10 a11 acc (Memref.isWhole_whole cc0_scratch0) cc0_scratch1) K := by
  unfold body
  iintro ⟨H, H1, H2, HO, HS, HW, Hk⟩
  iapply (word_owned c Set.univ tab1 _ numel1_S1 rfl q T1 _ _) $$ H1
  iintro H1
  iapply (word_owned c Set.univ tab2 _ numel1_S1 rfl q T2 _ _) $$ H2
  iintro H2
  iapply (assume_owned c _ _ hw _ K)
  dsimp only
  iapply (wp_clearAll c a4 a5 a6 a7 a8 a10 a11 i x g _ K _ _ _) $$ H
  iintro H
  iapply (wp_clearBlock c a4 a5 a6 a7 a8 a10 a11 (wordAt T1 i) (wordAt T2 i) x _ _ K _ _ _ _ _ _) $$ H
  iintro H
  iapply (wp_addFull c a4 a5 a6 a7 a8 a10 a11 (wordAt T1 i) (wordAt T2 i) hw x _ _ _) $$ H
  iintro H
  iapply (wp_addDiag c a4 a5 a6 a7 a8 a10 a11 (wordAt T1 i) (wordAt T2 i) hw x _ _ _) $$ H
  iintro H
  by_cases h : k0_cond5 i = 1#1
  · simp only [if_pos h, dif_pos h]
    unfold held pointStep
    icases H with ⟨Hq, Hkk, Hv, Ho, Hd, Hdk, Hdv, Hdq⟩
    iapply (wp_copy c i h _ Y W _)
    isplitl [Hdq]; · iexact Hdq
    isplitl [HO]; · iexact HO
    isplitl [HS]; · iexact HS
    isplitl [HW]; · iexact HW
    iintro ⟨Hdq, HO, HS, HW⟩
    iapply Hk
    isplitl [Hq Hkk Hv Ho Hd Hdk Hdv Hdq]
    · isplitl [Hq]; · iexact Hq
      isplitl [Hkk]; · iexact Hkk
      isplitl [Hv]; · iexact Hv
      isplitl [Ho]; · iexact Ho
      isplitl [Hd]; · iexact Hd
      isplitl [Hdk]; · iexact Hdk
      isplitl [Hdv]; · iexact Hdv
      iexact Hdq
    isplitl [H1]; · iexact H1
    isplitl [H2]; · iexact H2
    isplitl [HO]; · iexact HO
    isplitl [HS]; · iexact HS
    iexact HW
  · simp only [if_neg h, dif_neg h, wp_pure]
    imodintro
    iapply Hk
    isplitl [H]; · iexact H
    isplitl [H1]; · iexact H1
    isplitl [H2]; · iexact H2
    isplitl [HO]; · iexact HO
    isplitl [HS]; · iexact HS
    iexists W
    iexact HW

end

end Cert.KernelIdeal.Flash

end
-- ==== Proof.Kernel.Tables.lean ====
/- The two prefetched tables: point by point, the block of queries and the block of keys and values a point works on. Their
   words are literals, so what the pipeline does with them (which block each window holds, when it is fetched or written
   back) is decided here. -/
module

public import proofs.«01_k».proof.Proof.Kernel.Point
public import proofs.«01_k».proof.Proof.Gen.KernelIdeal.Launch

@[expose] public section

noncomputable section

namespace Cert.KernelIdeal.Flash

open Idealize.ShloMosaic Idealize.ShloMosaic.TcCoe
open Cert.KernelIdeal.Gen

variable {F : FTy → Type} [FloatOps F]

set_option backward.proofsInPublic true in
/-- The tables' contents. -/
def tables : pre0.Contents (Elt F) := fun
  | ⟨0, _⟩ => fun i => lit0 (S36.rowMajor i)
  | ⟨1, _⟩ => fun i => lit1 (S36.rowMajor i)
  | ⟨_ + 2, h⟩ => absurd h (by simp)

/-- The block of queries at a point, and the block of keys and values. -/
def qBlock (t : Fin 36) : ℕ := (lit0 t).toNat
def kBlock (t : Fin 36) : ℕ := (lit1 t).toNat

/-- A point reads a table at its own number. -/
theorem place (i : grid0.Coords) :
    S36.rowMajor ((Rect.unit (s := S36) (k0_off1 i) S1.size (k0_off1_inb i)).emb (Shape.Idx.first (numel1_S1.symm ▸ Nat.one_pos))) = i 1 := by
  have h : ∀ i : grid0.Coords, (S36.rowMajor ((Rect.unit (s := S36) (k0_off1 i) S1.size (k0_off1_inb i)).emb
      (Shape.Idx.first (numel1_S1.symm ▸ Nat.one_pos)))).val = (i 1).val := by decide +kernel
  exact Fin.ext (h i)

theorem wordAt_tables0 (i : grid0.Coords) : wordAt (F := F) (tables 0) i = lit0 (i 1) := congrArg lit0 (place i)
theorem wordAt_tables1 (i : grid0.Coords) : wordAt (F := F) (tables 1) i = lit1 (i 1) := congrArg lit1 (place i)

theorem heads_zero (i : grid0.Coords) : (BitVec.ofNat 32 (i 0).val).toNat = 0 := by
  have h : (i 0).val < 1 := (i 0).isLt
  rw [show (i 0).val = 0 by omega]; rfl

theorem ix_q (i : grid0.Coords) : cc0_transform_0 (F := F) k0_off1_inb numel1_S1 tables i = ![qBlock (i 1), 0] :=
  congrArg₂ (fun w n => ![BitVec.toNat w, n]) (wordAt_tables0 (F := F) i) (heads_zero i)
theorem ix_k (i : grid0.Coords) : cc0_transform_1 (F := F) k0_off1_inb numel1_S1 tables i = ![kBlock (i 1), 0] :=
  congrArg₂ (fun w n => ![BitVec.toNat w, n]) (wordAt_tables1 (F := F) i) (heads_zero i)
theorem ix_v (i : grid0.Coords) : cc0_transform_2 (F := F) k0_off1_inb numel1_S1 tables i = ![kBlock (i 1), 1] :=
  congrArg₂ (fun w n => ![BitVec.toNat w, n]) (wordAt_tables1 (F := F) i) (by
    have h : (i 0).val < 1 := (i 0).isLt
    rw [show (i 0).val = 0 by omega]; rfl)
theorem ix_o (i : grid0.Coords) : cc0_transform_3 (F := F) k0_off1_inb numel1_S1 tables i = ![qBlock (i 1), 0] :=
  congrArg₂ (fun w n => ![BitVec.toNat w, n]) (wordAt_tables0 (F := F) i) (heads_zero i)
theorem ix_d (i : grid0.Coords) : cc0_transform_4 (F := F) k0_off1_inb numel1_S1 tables i = ![qBlock (i 1), 0] :=
  congrArg₂ (fun w n => ![BitVec.toNat w, n]) (wordAt_tables0 (F := F) i) (heads_zero i)
theorem ix_dk (i : grid0.Coords) : cc0_transform_6 (F := F) k0_off1_inb numel1_S1 tables i = ![kBlock (i 1), 0] :=
  congrArg₂ (fun w n => ![BitVec.toNat w, n]) (wordAt_tables1 (F := F) i) (heads_zero i)
theorem ix_dv (i : grid0.Coords) : cc0_transform_7 (F := F) k0_off1_inb numel1_S1 tables i = ![kBlock (i 1), 0] :=
  congrArg₂ (fun w n => ![BitVec.toNat w, n]) (wordAt_tables1 (F := F) i) (heads_zero i)

/-- Every window's block lies inside its array at every point, and its transfers move whole words. -/
theorem tables_ok : ok0 (F := F) tables := by
  unfold ok0
  rw [funext (ix_q (F := F)), funext (ix_k (F := F)), funext (ix_v (F := F)), funext (ix_o (F := F)), funext (ix_d (F := F)),
    funext (ix_dk (F := F)), funext (ix_dv (F := F))]
  decide +kernel

/-- The tables, as the pipeline takes them. -/
def adm : (p : Fin 1) → (pcfgs (F := F) p).Adm := fun _ => ⟨tables, tables_ok⟩

/-- The pipeline at those tables. -/
abbrev cfg : Pipeline.Cfg sig Λ₀ := cfg0 (F := F) (adm 0)

/-- The point's number, as the second coordinate. -/
theorem coords_one (t : Fin 36) : (grid0.coords (t.cast N_0.symm)) 1 = t := by
  have h : ∀ t : Fin 36, ((grid0.coords (t.cast N_0.symm)) 1).val = t.val := by decide +kernel
  exact Fin.ext (h t)

end Cert.KernelIdeal.Flash

end
-- ==== Proof.Kernel.Data.lean ====
/- The run's proof data: the three gradients after each point, as the recursion over the grid's points that the body
   computes, and from it what every window's buffer holds after the body and what the body keeps from point to point. -/
module

public import proofs.«01_k».proof.Proof.Kernel.Tables
public import Idealize.ShloMosaic.Lib.Pipeline.FrameBody
public import Idealize.ShloMosaic.Lib.Pipeline.FrameValue

@[expose] public section

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- A point's number below 36. -/
def num (t : Fin (cfg (F := F)).N) : Fin 36 := t.cast N_0

theorem num_val (t : Fin (cfg (F := F)).N) : (num t).val = t.val := rfl

theorem coords_num (t : Fin (cfg (F := F)).N) : (grid0.coords t) 1 = num t := coords_one (num t)

/-- The words the two tables hold at a point pass the body's check. -/
theorem words_chk (t : Fin 36) : k0_chk1 (lit0 t) (lit1 t) := by
  revert t
  decide +kernel

variable (V : (c : Dev nD) → (b : Ref sig .tc) → Buf (Elt F) ((c.tc : Thread nD τ).loc b))

/-- The block of a window's array at a point. -/
abbrev iblk (c : Dev nD) (w : Fin 7) (t : Fin (cfg (F := F)).N) := ((win0 (F := F) (adm 0) w).blk t).view.read (Elt F) (V c (Pipeline.arrRef spec0 w))

/-- The five input blocks of a point. -/
def opsAt (c : Dev nD) (t : Fin (cfg (F := F)).N) : Operands F :=
  ⟨iblk V c 0 t, iblk V c 1 t, iblk V c 2 t, iblk V c 3 t, iblk V c 4 t⟩

/-- One point's step, on the gradients. -/
def stepAt (c : Dev nD) (t : Fin (cfg (F := F)).N) (g : Grads F) : Grads F :=
  pointStep (grid0.coords t) (lit0 (num t)) (lit1 (num t)) (words_chk (num t)) (opsAt V c t) g

/-- The gradients before point `n`: what the points before it have made. -/
def gradsAt (c : Dev nD) : ℕ → Grads F
  | 0 => ⟨zeroBlock, zeroBlock, zeroAll⟩
  | n + 1 => if h : n < (cfg (F := F)).N then stepAt V c ⟨n, h⟩ (gradsAt c n) else gradsAt c n

theorem gradsAt_succ (c : Dev nD) (t : Fin (cfg (F := F)).N) : gradsAt V c (t.val + 1) = stepAt V c t (gradsAt V c t.val) := by
  rw [gradsAt, dif_pos t.isLt]

/-- A point's step does not look at the blocks it clears. -/
theorem stepAt_congr (c : Dev nD) (t : Fin (cfg (F := F)).N) (g g' : Grads F)
    (hb : k0_cond2 (lit0 (num t)) (lit1 (num t)) = 1#1 ∨ (g.dk = g'.dk ∧ g.dv = g'.dv))
    (ha : first (grid0.coords t) = 1#1 ∨ g.dq = g'.dq) : stepAt V c t g = stepAt V c t g' := by
  have h : clearBlock (lit0 (num t)) (lit1 (num t)) (clearAll (grid0.coords t) g)
      = clearBlock (lit0 (num t)) (lit1 (num t)) (clearAll (grid0.coords t) g') := by
    obtain ⟨a, b, d⟩ := g
    obtain ⟨a', b', d'⟩ := g'
    unfold clearBlock clearAll
    by_cases h1 : first (grid0.coords t) = 1#1 <;> by_cases h2 : k0_cond2 (lit0 (num t)) (lit1 (num t)) = 1#1 <;>
      simp only [h1, h2, if_true, if_false, true_or, false_or] at hb ha ⊢
    · rw [hb.1, hb.2]
    · rw [ha]
    · rw [hb.1, hb.2, ha]
  unfold stepAt pointStep
  rw [h]

/-- The array of the queries' gradient before point `n`: written at the last point. -/
def outAt (c : Dev nD) (n : ℕ) : Vec F S4096x1024 .f32 := if n = 36 then (gradsAt V c 36).dq else V c main_v41_0

/-- What the body keeps from point to point: the accumulator, the generator's register, its semaphore at zero, the array
    it writes itself, and the tables. -/
def PhiS (c : Dev nD) (n : ℕ) : sProp 𝕄 :=
  iprop((∃ X, ⌜n ≠ 0 → X = (gradsAt V c n).dq⌝ ∗ owns (c : Thread nD τ) acc fullShare X) ∗ (∃ r, prngReg c r)
    ∗ semVal ((c : Thread nD τ), SemLoc.dma cc0_scratch1.sem) 0
    ∗ owns (c : Thread nD τ) out fullShare (outAt V c n)
    ∗ owns (c : Thread nD τ) tab1 fullShare.right (tables 0) ∗ owns (c : Thread nD τ) tab2 fullShare.right (tables 1))

/-- The proof data. -/
def dats (_ : Fin 1) (c : Dev nD) : Dat τ (Elt F) Unit ℕ (Pipeline.UD sig nD τ) ℕ (cfg (F := F)) c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (gradsAt V c (t.val + 1)).dk
    | ⟨6, _⟩ => (gradsAt V c (t.val + 1)).dv
  Φ t := PhiS V c t.val
  q _ := fullShare
  owed _ := 0

theorem A_eq (c : Dev nD) (w : Fin (cfg (F := F)).W) : (dats V 0 c).A w = V c (Pipeline.arrRef spec0 w) := by dsimp only [dats]

theorem after_0 (c : Dev nD) (t : Fin (cfg (F := F)).N) : (dats V 0 c).after 0 t = (opsAt V c t).q := rfl
theorem after_1 (c : Dev nD) (t : Fin (cfg (F := F)).N) : (dats V 0 c).after 1 t = (opsAt V c t).k := rfl
theorem after_2 (c : Dev nD) (t : Fin (cfg (F := F)).N) : (dats V 0 c).after 2 t = (opsAt V c t).v := rfl
theorem after_3 (c : Dev nD) (t : Fin (cfg (F := F)).N) : (dats V 0 c).after 3 t = (opsAt V c t).o := rfl
theorem after_4 (c : Dev nD) (t : Fin (cfg (F := F)).N) : (dats V 0 c).after 4 t = (opsAt V c t).d := rfl
theorem after_5 (c : Dev nD) (t : Fin (cfg (F := F)).N) : (dats V 0 c).after 5 t = (gradsAt V c (t.val + 1)).dk := rfl
theorem after_6 (c : Dev nD) (t : Fin (cfg (F := F)).N) : (dats V 0 c).after 6 t = (gradsAt V c (t.val + 1)).dv := rfl

/-- The invariant and the debt at a point. -/
theorem Phi_eq (c : Dev nD) (n : Fin ((cfg (F := F)).N + 1)) : (dats V 0 c).Φ n = PhiS V c n.val := by dsimp only [dats]
theorem owed_eq (c : Dev nD) (n : Fin ((cfg (F := F)).N + 1)) : (dats V 0 c).owed n = 0 := by dsimp only [dats]

/-- An input's buffer holds its block at every point. -/
theorem before_0 (c : Dev nD) (t : Fin (cfg (F := F)).N) (d) : (dats V 0 c).before 0 t d = (opsAt V c t).q :=
  (Dat.before_in_eq_fetched _ 0 rfl (fun _ => rfl) (fun _ _ _ => rfl) (fun _ => rfl) t d).trans rfl
theorem before_1 (c : Dev nD) (t : Fin (cfg (F := F)).N) (d) : (dats V 0 c).before 1 t d = (opsAt V c t).k :=
  (Dat.before_in_eq_fetched _ 1 rfl (fun _ => rfl) (fun _ _ _ => rfl) (fun _ => rfl) t d).trans rfl
theorem before_2 (c : Dev nD) (t : Fin (cfg (F := F)).N) (d) : (dats V 0 c).before 2 t d = (opsAt V c t).v :=
  (Dat.before_in_eq_fetched _ 2 rfl (fun _ => rfl) (fun _ _ _ => rfl) (fun _ => rfl) t d).trans rfl
theorem before_3 (c : Dev nD) (t : Fin (cfg (F := F)).N) (d) : (dats V 0 c).before 3 t d = (opsAt V c t).o :=
  (Dat.before_in_eq_fetched _ 3 rfl (fun _ => rfl) (fun _ _ _ => rfl) (fun _ => rfl) t d).trans rfl
theorem before_4 (c : Dev nD) (t : Fin (cfg (F := F)).N) (d) : (dats V 0 c).before 4 t d = (opsAt V c t).d :=
  (Dat.before_in_eq_fetched _ 4 rfl (fun _ => rfl) (fun _ _ _ => rfl) (fun _ => rfl) t d).trans rfl

end Cert.KernelIdeal.Flash

end
-- ==== Proof.Kernel.Printed.lean ====
/- The printed body is the body written head by head: the printed one's windows are opened, both are brought to one chain
   of steps, and the steps are compared one by one, under each of the body's five conditions apart. -/
module

public import proofs.«01_k».proof.Proof.Kernel.Body

@[expose] public section

set_option synthInstance.maxSize 4096

noncomputable section

namespace Cert.KernelIdeal.Flash

open Idealize.ShloMosaic Idealize.SL.Sem Gen

variable {F : FTy → Type} [FloatOps F]

/-- Two programs are equal if their first steps are and what follows is, at every value read. -/
theorem step_congr {α β : Type} {e e' : Prog (TpuEff nD τ sig (Elt F) Λ₀ .tc) α} {k k' : α → Prog (TpuEff nD τ sig (Elt F) Λ₀ .tc) β}
    (h : e = e') (hk : ∀ x, k x = k' x) : (e >>= k) = (e' >>= k') := by
  subst h; exact congrArg _ (funext hk)

set_option maxRecDepth 65536 in
set_option maxHeartbeats 4000000 in
/-- The printed body is this program. -/
theorem body_eq (i : grid0.Coords) (arg2 : Memref sig .tc .smem S36 .i32) (harg2 : arg2.IsWhole) (arg3 : Memref sig .tc .smem S36 .i32) (harg3 : arg3.IsWhole)
    (a4 : Memref sig .tc .vmem S512x1024 .bf16) (h4 : a4.IsWhole) (a5 : Memref sig .tc .vmem S512x1024 .bf16) (h5 : a5.IsWhole)
    (a6 : Memref sig .tc .vmem S512x1024 .bf16) (h6 : a6.IsWhole) (a7 : Memref sig .tc .vmem S512x1024 .f32) (h7 : a7.IsWhole)
    (a8 : Memref sig .tc .vmem S512x1024 .f32) (h8 : a8.IsWhole) (a9 : Memref sig .tc .hbm S4096x1024 .f32) (h9 : a9.IsWhole)
    (a10 : Memref sig .tc .vmem S512x1024 .f32) (h10 : a10.IsWhole) (a11 : Memref sig .tc .vmem S512x1024 .f32) (h11 : a11.IsWhole)
    (a12 : Memref sig .tc .vmem S4096x1024 .f32) (h12 : a12.IsWhole) (a13 : DmaSems sig S_) :
    cc0_mla_flash_bwd (F := F) i arg2 harg2 arg3 harg3 a4 h4 a5 h5 a6 h6 a7 h7 a8 h8 a9 h9 a10 h10 a11 h11 a12 h12 a13
      = body i arg2 arg3 a4 a5 a6 a7 a8 a9 a10 a11 a12 h12 a13 := by
  rw [cc0_mla_flash_bwd_eq_skeleton]
  unfold cc0_mla_flash_bwd_skel body
  refine step_congr rfl fun v1 => step_congr rfl fun v3 => step_congr rfl fun hw => ?_
  extract_lets
  rename_i P5 P4 P3 P2 hw' Q5 Q4 Q3 Q2
  have e5 : P5 = Q5 := by
    funext x
    refine dite_congr rfl (fun h => ?_) (fun h => rfl)
    refine step_congr rfl fun _ => ?_
    rfl
  clear_value P5 Q5
  subst e5
  have e4 : P4 = Q4 := by
    funext x
    refine dite_congr rfl (fun h => ?_) (fun h => rfl)
    simp only [k0_part11_eq_skeleton, k0_part11_skel, k0_part12_eq_skeleton, k0_part12_skel, k0_part13_eq_skeleton,
        k0_part13_skel, k0_part14_eq_skeleton, k0_part14_skel, k0_part15_eq_skeleton, k0_part15_skel, k0_part16_eq_skeleton,
        k0_part16_skel, k0_part17_eq_skeleton, k0_part17_skel, k0_part18_eq_skeleton, k0_part18_skel, k0_part19_eq_skeleton,
        k0_part19_skel, k0_part20_eq_skeleton, k0_part20_skel, heads, head, bind_assoc, pure_bind]
    repeat (refine step_congr (by rfl) fun _ => ?_)
    rfl
  clear_value P4 Q4
  subst e4
  have e3 : P3 = Q3 := by
    funext x
    refine dite_congr rfl (fun h => ?_) (fun h => rfl)
    simp only [k0_part1_eq_skeleton, k0_part1_skel, k0_part2_eq_skeleton, k0_part2_skel, k0_part3_eq_skeleton, k0_part3_skel,
        k0_part4_eq_skeleton, k0_part4_skel, k0_part5_eq_skeleton, k0_part5_skel, k0_part6_eq_skeleton, k0_part6_skel,
        k0_part7_eq_skeleton, k0_part7_skel, k0_part8_eq_skeleton, k0_part8_skel, k0_part9_eq_skeleton, k0_part9_skel,
        k0_part10_eq_skeleton, k0_part10_skel, heads, head, bind_assoc, pure_bind]
    repeat (refine step_congr (by rfl) fun _ => ?_)
    rfl
  clear_value P3 Q3
  subst e3
  have e2 : P2 = Q2 := by
    funext x
    refine dite_congr rfl (fun h => ?_) (fun h => rfl)
    repeat (refine step_congr (by rfl) fun _ => ?_)
    rfl
  clear_value P2 Q2
  subst e2
  refine dite_congr rfl (fun h => ?_) (fun h => rfl)
  repeat (refine step_congr (by rfl) fun _ => ?_)
  rfl

end Cert.KernelIdeal.Flash

end
-- ==== Proof.Kernel.Obligation.lean ====
/- The body at any point of the grid, from the proof data before it to the proof data after it. -/
module

public import proofs.«01_k».proof.Proof.Kernel.Data
public import proofs.«01_k».proof.Proof.Kernel.Printed

@[expose] public section

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## What the tables decide -/

/-- Every point either clears or adds: none leaves the two output buffers alone. -/
theorem idle_words (i : grid0.Coords) :
    (!(k0_cond2 (lit0 (i 1)) (lit1 (i 1)) == 1#1) && !(k0_cond3 (lit0 (i 1)) (lit1 (i 1)) == 1#1) && !(k0_cond4 (lit0 (i 1)) (lit1 (i 1)) == 1#1)) = false := by
  have h : ∀ t : Fin 36, (!(k0_cond2 (lit0 t) (lit1 t) == 1#1) && !(k0_cond3 (lit0 t) (lit1 t) == 1#1) && !(k0_cond4 (lit0 t) (lit1 t) == 1#1)) = false := by
    decide +kernel
  exact h (i 1)

theorem place_off (i : grid0.Coords) (h : ∀ a, k0_off1 i a + 1 ≤ S36.size a) :
    S36.rowMajor (fun a => ⟨k0_off1 i a, h a⟩) = i 1 := by
  have h' : ∀ i : grid0.Coords, ∀ h : (∀ a, k0_off1 i a + 1 ≤ S36.size a), (S36.rowMajor (fun a => ⟨k0_off1 i a, h a⟩)).val = (i 1).val := by
    decide +kernel
  exact Fin.ext (h' i h)

theorem off_lt (i : grid0.Coords) : ∀ a, k0_off1 i a + 1 ≤ S36.size a := by
  revert i
  decide +kernel

theorem atD_tables0 (i : grid0.Coords) : Pipeline.Prefetch.Contents.atD (tables (F := F)) 0 (k0_off1 i) = lit0 (i 1) :=  (dif_pos (off_lt i)).trans (congrArg lit0 (place_off i _))
theorem atD_tables1 (i : grid0.Coords) : Pipeline.Prefetch.Contents.atD (tables (F := F)) 1 (k0_off1 i) = lit1 (i 1) :=  (dif_pos (off_lt i)).trans (congrArg lit1 (place_off i _))

theorem idle_5 (i : grid0.Coords) : (cfg (F := F)).idle 5 i = false := by
  refine Eq.trans ?_ (idle_words i)
  rw [← atD_tables0 (F := F) i, ← atD_tables1 (F := F) i]
  rfl
theorem idle_6 (i : grid0.Coords) : (cfg (F := F)).idle 6 i = false := by
  refine Eq.trans ?_ (idle_words i)
  rw [← atD_tables0 (F := F) i, ← atD_tables1 (F := F) i]
  rfl

theorem index_5 (t : Fin (cfg (F := F)).N) : ((cfg (F := F)).win 5).index t = ![kBlock (num t), 0] :=
  (ix_dk (F := F) (grid0.coords t)).trans (by rw [coords_num])
theorem index_6 (t : Fin (cfg (F := F)).N) : ((cfg (F := F)).win 6).index t = ![kBlock (num t), 0] :=
  (ix_dv (F := F) (grid0.coords t)).trans (by rw [coords_num])

/-- A point off the diagonal has a point before it, on the same block of keys. -/
theorem same_block (t : Fin 36) (h : k0_cond2 (lit0 t) (lit1 t) ≠ 1#1) :
    t.val ≠ 0 ∧ kBlock ⟨t.val - 1, Nat.lt_of_le_of_lt (Nat.sub_le _ _) t.isLt⟩ = kBlock t := by
  revert t
  decide +kernel

/-- A window at the block it had a point earlier was not written back there. -/
theorem flush_same (w : Fin 7) (t : Fin (cfg (F := F)).N) (h0 : t.val ≠ 0)
    (he : ((cfg (F := F)).win w).index t = ((cfg (F := F)).win w).index ⟨t.val - 1, Nat.lt_of_le_of_lt (Nat.sub_le _ _) t.isLt⟩) :
    ((cfg (F := F)).win w).flush ⟨t.val - 1, Nat.lt_of_le_of_lt (Nat.sub_le _ _) t.isLt⟩ = false := by
  have ht := t.isLt
  unfold Window.flush
  rw [Bool.and_eq_false_iff]; right
  rw [Bool.or_eq_false_iff]
  refine ⟨decide_eq_false (by show ¬ (t.val - 1 + 1 = (cfg (F := F)).N); omega), decide_eq_false ?_⟩
  rintro ⟨h1, h2⟩
  refine h2 ?_
  have e : (⟨t.val - 1 + 1, h1⟩ : Fin (cfg (F := F)).N) = t := Fin.ext (by show t.val - 1 + 1 = t.val; omega)
  exact (congrArg _ e).trans he

section
variable (V : (c : Dev nD) → (b : Ref sig .tc) → Buf (Elt F) ((c.tc : Thread nD τ).loc b)) (c : Dev nD) (t : Fin (cfg (F := F)).N)

/-- Off the diagonal the two output buffers hold what the point before left. -/
theorem before_5 (h : k0_cond2 (lit0 (num t)) (lit1 (num t)) ≠ 1#1) (d) : (dats V 0 c).before 5 t d = (gradsAt V c t.val).dk := by
  obtain ⟨h0, hb⟩ := same_block (num t) h
  have h0 : t.val ≠ 0 := h0
  have he : ((cfg (F := F)).win 5).index t = ((cfg (F := F)).win 5).index ⟨t.val - 1, Nat.lt_of_le_of_lt (Nat.sub_le _ _) t.isLt⟩ := by
    rw [index_5, index_5]; exact congrArg (fun n => ![n, 0]) hb.symm
  refine ((dats V 0 c).before_of_pos 5 t h0 rfl d).trans ?_
  refine (if_neg (fun e => Bool.false_ne_true ((flush_same 5 t h0 he).symm.trans e))).trans ?_
  unfold Dat.left
  rw [idle_5]
  show (gradsAt V c (t.val - 1 + 1)).dk = _
  rw [Nat.sub_add_cancel (Nat.pos_of_ne_zero h0)]
theorem before_6 (h : k0_cond2 (lit0 (num t)) (lit1 (num t)) ≠ 1#1) (d) : (dats V 0 c).before 6 t d = (gradsAt V c t.val).dv := by
  obtain ⟨h0, hb⟩ := same_block (num t) h
  have h0 : t.val ≠ 0 := h0
  have he : ((cfg (F := F)).win 6).index t = ((cfg (F := F)).win 6).index ⟨t.val - 1, Nat.lt_of_le_of_lt (Nat.sub_le _ _) t.isLt⟩ := by
    rw [index_6, index_6]; exact congrArg (fun n => ![n, 0]) hb.symm
  refine ((dats V 0 c).before_of_pos 6 t h0 rfl d).trans ?_
  refine (if_neg (fun e => Bool.false_ne_true ((flush_same 6 t h0 he).symm.trans e))).trans ?_
  unfold Dat.left
  rw [idle_6]
  show (gradsAt V c (t.val - 1 + 1)).dv = _
  rw [Nat.sub_add_cancel (Nat.pos_of_ne_zero h0)]

/-- The first point is the body's first. -/
theorem first_zero (h : t.val = 0) : first (grid0.coords t) = 1#1 := by
  have h' : ∀ i : grid0.Coords, (i 1).val = 0 → first i = 1#1 := by decide +kernel
  exact h' _ (by rw [coords_num]; exact h)

/-- The last point is the one that copies the queries' gradient out. -/
theorem last_iff : k0_cond5 (grid0.coords t) = 1#1 ↔ t.val + 1 = 36 := by
  have h' : ∀ i : grid0.Coords, k0_cond5 i = 1#1 ↔ (i 1).val + 1 = 36 := by decide +kernel
  rw [h', coords_num]; rfl

/-- What the body finds, stepped, is what the data say of the next point. -/
theorem step_found (d5 d6) (X : Vec F S4096x1024 .f32) (hX : t.val ≠ 0 → X = (gradsAt V c t.val).dq) :
    stepAt V c t ⟨(dats V 0 c).before 5 t d5, (dats V 0 c).before 6 t d6, X⟩ = gradsAt V c (t.val + 1) := by
  rw [gradsAt_succ]
  refine stepAt_congr V c t _ _ ?_ ?_
  · by_cases h : k0_cond2 (lit0 (num t)) (lit1 (num t)) = 1#1
    · exact .inl h
    · exact .inr ⟨before_5 V c t h d5, before_6 V c t h d6⟩
  · by_cases h : t.val = 0
    · exact .inl (first_zero t h)
    · exact .inr (hX h)

/-- A window's buffer at a point. -/
abbrev st (w : Fin 7) := ((cfg (F := F)).win w).stage ((cfg (F := F)).slots t w)

/-- What the body is called with, -/
def bodyPre : sProp 𝕄 :=
  iprop((dats V 0 c).Φ t.castSucc ∗ (dats V 0 c).owesAt () t.castSucc
    ∗ (∃ d, owns (c : Thread nD τ) (st t 0) fullShare ((dats V 0 c).before 0 t d))
    ∗ (∃ d, owns (c : Thread nD τ) (st t 1) fullShare ((dats V 0 c).before 1 t d))
    ∗ (∃ d, owns (c : Thread nD τ) (st t 2) fullShare ((dats V 0 c).before 2 t d))
    ∗ (∃ d, owns (c : Thread nD τ) (st t 3) fullShare ((dats V 0 c).before 3 t d))
    ∗ (∃ d, owns (c : Thread nD τ) (st t 4) fullShare ((dats V 0 c).before 4 t d))
    ∗ (∃ d, owns (c : Thread nD τ) (st t 5) fullShare ((dats V 0 c).before 5 t d))
    ∗ (∃ d, owns (c : Thread nD τ) (st t 6) fullShare ((dats V 0 c).before 6 t d)))

/-- and what it returns. -/
def bodyPost : sProp 𝕄 :=
  iprop((dats V 0 c).Φ t.succ ∗ (dats V 0 c).owesAt () t.succ
    ∗ owns (c : Thread nD τ) (st t 0) fullShare ((dats V 0 c).after 0 t)
    ∗ owns (c : Thread nD τ) (st t 1) fullShare ((dats V 0 c).after 1 t)
    ∗ owns (c : Thread nD τ) (st t 2) fullShare ((dats V 0 c).after 2 t)
    ∗ owns (c : Thread nD τ) (st t 3) fullShare ((dats V 0 c).after 3 t)
    ∗ owns (c : Thread nD τ) (st t 4) fullShare ((dats V 0 c).after 4 t)
    ∗ owns (c : Thread nD τ) (st t 5) fullShare ((dats V 0 c).after 5 t)
    ∗ owns (c : Thread nD τ) (st t 6) fullShare ((dats V 0 c).after 6 t))

/-- The body as the pipeline calls it at a point. -/
abbrev bodyAt : Prog (TpuEff nD τ sig (Elt F) Λ₀ .tc) PUnit :=
  body (grid0.coords t) tab1 tab2 (st t 0) (st t 1) (st t 2) (st t 3) (st t 4) out (st t 5) (st t 6) acc (Memref.isWhole_whole cc0_scratch0) cc0_scratch1

theorem row_eq : defs₀ (F := F) .tc (cfg (F := F)).body ((cfg (F := F)).bodyArgs t ((cfg (F := F)).slots t)) = bodyAt t := by
  unfold defs₀; rw [Defs.onTc_tc]
  exact body_eq _ _ _ _ _ _ _ _ _ _ _ _ _ _ _ _ _ _ _ _ _ _ _ _

/-- The run of the body with the tables' words named. -/
theorem wp_point (a4 a5 a6 : Memref sig .tc .vmem S512x1024 .bf16) (a7 a8 a10 a11 : Memref sig .tc .vmem S512x1024 .f32)
    (i : grid0.Coords) (v1 v3 : BitVec 32) (hw : k0_chk1 v1 v3) (h1 : wordAt (F := F) (tables 0) i = v1) (h3 : wordAt (F := F) (tables 1) i = v3)
    (x : Operands F) (g : Grads F) (Y : Vec F S4096x1024 .f32) (W : Waits sig Unit) (K : PUnit → sProp 𝕄) :
    iprop(held c a4 a5 a6 a7 a8 a10 a11 acc x g ∗ owns (c : Thread nD τ) tab1 fullShare.right (tables 0) ∗ owns (c : Thread nD τ) tab2 fullShare.right (tables 1)
        ∗ owns (c : Thread nD τ) out fullShare Y
        ∗ semVal ((c : Thread nD τ), SemLoc.dma cc0_scratch1.sem) 0 ∗ owes (c : Thread nD τ) 0 W
        ∗ (iprop(held c a4 a5 a6 a7 a8 a10 a11 acc x (pointStep i v1 v3 hw x g)
            ∗ owns (c : Thread nD τ) tab1 fullShare.right (tables 0) ∗ owns (c : Thread nD τ) tab2 fullShare.right (tables 1)
            ∗ owns (c : Thread nD τ) out fullShare (if k0_cond5 i = 1#1 then (pointStep i v1 v3 hw x g).dq else Y)
            ∗ semVal ((c : Thread nD τ), SemLoc.dma cc0_scratch1.sem) 0 ∗ ∃ W', owes (c : Thread nD τ) 0 W') -∗ K ⟨⟩))
      ⊢ wp frame (wpE (defs₀ (F := F)) Variants.none c none) Set.univ
          (body i tab1 tab2 a4 a5 a6 a7 a8 out a10 a11 acc (Memref.isWhole_whole cc0_scratch0) cc0_scratch1) K := by
  subst h1 h3
  exact wp_body c a4 a5 a6 a7 a8 a10 a11 i x g fullShare.right (tables 0) (tables 1) hw Y W K

/-- The array written by the body itself, stepped. -/
theorem out_step : (if k0_cond5 (grid0.coords t) = 1#1 then (gradsAt V c (t.val + 1)).dq else outAt V c t.val) = outAt V c (t.val + 1) := by
  have ht : t.val < 36 := lt_of_lt_of_eq t.isLt N_0
  unfold outAt
  by_cases h : t.val + 1 = 36
  · rw [if_pos ((last_iff t).mpr h), if_pos h, h]
  · rw [if_neg (fun e => h ((last_iff t).mp e)), if_neg h, if_neg (by omega)]

theorem sound_body : bodyPre V c t ⊢ wp frame (wpE (defs₀ (F := F)) Variants.none c none) Set.univ (bodyAt t) (fun _ => bodyPost V c t) := by
  unfold bodyPre bodyPost
  simp only [before_0, before_1, before_2, before_3, before_4]
  rw [Phi_eq, Phi_eq, Fin.val_castSucc, Fin.val_succ,
    after_0, after_1, after_2, after_3, after_4, after_5, after_6]
  unfold Dat.owesAt Pipeline.owesWithin PhiS
  rw [owed_eq, owed_eq]
  iintro ⟨⟨⟨%X, %hX, HX⟩, HR, HS, HO, HT1, HT2⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (wp_point c (st t 0) (st t 1) (st t 2) (st t 3) (st t 4) (st t 5) (st t 6) (grid0.coords t) (lit0 (num t)) (lit1 (num t)) (words_chk (num t))
    ((wordAt_tables0 (grid0.coords t)).trans (congrArg lit0 (coords_num t))) ((wordAt_tables1 (grid0.coords t)).trans (congrArg lit1 (coords_num t)))
    (opsAt V c t) ⟨(dats V 0 c).before 5 t d5, (dats V 0 c).before 6 t d6, X⟩ (outAt V c t.val) W _)
  rw [show pointStep (grid0.coords t) (lit0 (num t)) (lit1 (num t)) (words_chk (num t)) (opsAt V c t) ⟨(dats V 0 c).before 5 t d5, (dats V 0 c).before 6 t d6, X⟩
    = gradsAt V c (t.val + 1) from step_found V c t d5 d6 X hX, out_step]
  unfold held
  isplitl [H0 H1 H2 H3 H4 H5 H6 HX]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HX
  isplitl [HT1]; · iexact HT1
  isplitl [HT2]; · iexact HT2
  isplitl [HO]; · iexact HO
  isplitl [HS]; · iexact HS
  isplitl [HW]; · iexact HW
  iintro ⟨⟨H0, H1, H2, H3, H4, H5, H6, HX⟩, HT1, HT2, HO, HS, ⟨%W', HW⟩⟩
  isplitl [HX HR HS HO HT1 HT2]
  · isplitl [HX]
    · iexists _; isplitr
      swap; · iexact HX
      ipureintro; exact fun _ => rfl
    isplitl [HR]; · iexact HR
    isplitl [HS]; · iexact HS
    isplitl [HO]; · iexact HO
    isplitl [HT1]; · iexact HT1
    iexact HT2
  isplitl [HW]
  · iexists W'; isplitr
    swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  iexact H6

end

/-- The library's body obligation, at every point. -/
theorem body_obligation (V : (c : Dev nD) → (b : Ref sig .tc) → Buf (Elt F) ((c.tc : Thread nD τ).loc b)) (c : Dev nD) :
    BodyObligation (dats (F := F) V 0 c) (defs₀ (F := F)) Variants.none () Set.univ := fun t => by
  rw [bigSep_W0, bigSep_W0, row_eq]
  rw [idle_5, idle_6]
  exact triple_restated (sound_body V c t) rfl .rfl fun _ => .rfl

end Cert.KernelIdeal.Flash

end
-- ==== Proof.Kernel.Launch.lean ====
/- The launch: the host operations before the kernel, then the pipeline. The run ends with every argument unchanged, every
   semaphore at zero, and the three gradients where the data say. -/
module

public import proofs.«01_k».proof.Proof.Kernel.Obligation
public import Idealize.ShloMosaic.Lib.Pipeline.FrameValue
public import Idealize.ShloMosaic.Lib.StableHlo.RunRead

@[expose] public section

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The stretches of host operations before the kernel. -/
def stretches : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12]

variable (m : (ℓ : Loc nD τ sig) → Buf (Elt F) ℓ) (ρ : Dev nD → PrngReg)

/-- What the buffers hold when the kernel starts. -/
def V (c : Dev nD) (b : Ref sig .tc) : Buf (Elt F) ((c.tc : Thread nD τ).loc b) :=
  StableHlo.after (stretches (F := F)).flatten (fun b => m (c, b)) b

theorem V_arg0 (c : Dev nD) : V m c main_arg0 = m ((c.tc : Thread nD τ).loc main_arg0) := by
  unfold V stretches; after_reads_simp
theorem V_arg1 (c : Dev nD) : V m c main_arg1 = m ((c.tc : Thread nD τ).loc main_arg1) := by
  unfold V stretches; after_reads_simp
theorem V_arg2 (c : Dev nD) : V m c main_arg2 = m ((c.tc : Thread nD τ).loc main_arg2) := by
  unfold V stretches; after_reads_simp
theorem V_arg3 (c : Dev nD) : V m c main_arg3 = m ((c.tc : Thread nD τ).loc main_arg3) := by
  unfold V stretches; after_reads_simp

/-- The tables hold their words. -/
theorem V_tables (c : Dev nD) (k : Fin 2) : V m c (pre0.ref k) = tables (F := F) k := by
  match k with
  | ⟨0, _⟩ => show V m c main_c = _; unfold V stretches; after_reads_simp; rfl
  | ⟨1, _⟩ => show V m c main_c_0 = _; unfold V stretches; after_reads_simp; rfl

theorem hmain : Pipeline.HMainP (Ix := Unit) (Name := ℕ) (U := Pipeline.UD sig nD τ) (Lvl := ℕ) (pcfgs (F := F)) (0 : Fin 1) defs₀ Variants.none m
    (main (F := F)) (V m) :=
  Pipeline.hmainP_prefixes (pcfgs (F := F)) (0 : Fin 1) defs₀ Variants.none m main (stretches (F := F))
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub, hostOps0_11_sub, hostOps0_12_sub⟩
    (by unfold stretches; simp only [List.Forall]; repeat' constructor)
    (fun c => main_chain c)

/-- The body's own semaphore. -/
abbrev osem : Fin 1 → SemLoc sig := fun _ => SemLoc.dma cc0_scratch1.sem
theorem ownSemFacts : Pipeline.OwnSemFacts spec0 osem := by decide

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma cc0_scratch1.sem) 0 := by
  rw [Pipeline.ownSems0_eq_of_list c osem [0] (by decide) (by decide)]; rfl

/-- The array the body writes itself. -/
abbrev written : Finset (Ref sig .tc) := {main_v41_0}
theorem written_sub : written ⊆ Pipeline.restRefsP sig pre0 spec0 \ ∅ := by decide

/-- What that array holds at the end. -/
def G (c : Dev nD) (b : Ref sig .tc) : Buf (Elt F) ((c.tc : Thread nD τ).loc b) :=
  if h : b = main_v41_0 then h ▸ (gradsAt (V m) c 36).dq else V m c b

theorem G_out (c : Dev nD) : G m c main_v41_0 = (gradsAt (V m) c 36).dq := dif_pos rfl

theorem routed_eq (c : Dev nD) (W : (b : Ref sig .tc) → Buf (Elt F) ((c.tc : Thread nD τ).loc b)) :
    (Pipeline.routed written c W : sProp 𝕄)
      = owns (c : Thread nD τ) out fullShare (W main_v41_0) := by
  unfold Pipeline.routed
  rw [bigSep_singleton, owns_whole]

theorem tables_held (c : Dev nD) :
    (Pipeline.ΦT pre0 (tables (F := F)) c : sProp 𝕄)
      = iprop(owns (c : Thread nD τ) tab1 fullShare.right (tables 0) ∗ owns (c : Thread nD τ) tab2 fullShare.right (tables 1)) := by
  unfold Pipeline.ΦT Pipeline.prefHeld
  rw [bigSep_univ_eq_bigSepL [(0 : Fin 2), (1 : Fin 2)] (by decide) (by decide)]
  exact congrArg₂ BI.sep (owns_whole (c : Thread nD τ) main_c fullShare.right (tables 0)).symm
    (owns_whole (c : Thread nD τ) main_c_0 fullShare.right (tables 1)).symm

/-- What the launch hands the body before the first point, -/
theorem enter (c : Dev nD) :
    iprop(Pipeline.ΦDRG osem spec0 ∅ written (V m) (V m) c ∗ Pipeline.ΦT pre0 (tables (F := F)) c) ⊢ (PhiS (V m) c 0 : sProp 𝕄) := by
  rw [Pipeline.ΦDRG_eq, scopedRest0_eq, ownSems_eq, routed_eq, tables_held]
  unfold PhiS outAt
  rw [if_neg (by decide)]
  iintro ⟨⟨⟨%X, HX⟩, HR, HS, -, HO⟩, HT1, HT2⟩
  isplitl [HX]
  · iexists X; isplitr
    · ipureintro; exact fun h => absurd rfl h
    · rw [owns_whole]; iexact HX
  isplitl [HR]; · iexact HR
  isplitl [HS]; · iexact HS
  isplitl [HO]; · iexact HO
  isplitl [HT1]; · iexact HT1
  iexact HT2

/-- and what it takes back after the last. -/
theorem leave (c : Dev nD) : (PhiS (V m) c 36 : sProp 𝕄) ⊢ Pipeline.ΦDRG osem spec0 ∅ written (V m) (G m) c := by
  rw [Pipeline.ΦDRG_eq, scopedRest0_eq, ownSems_eq, routed_eq, G_out, bigSep_empty]
  unfold PhiS outAt
  rw [if_pos rfl]
  simp only [owns_whole]
  iintro ⟨⟨%X, -, HX⟩, HR, HS, HO, -, -⟩
  isplitl [HX]; · iexists X; iexact HX
  isplitl [HR]; · iexact HR
  isplitl [HS]; · iexact HS
  isplitr; · iempintro
  iexact HO

set_option backward.isDefEq.respectTransparency.types false in
/-- THE RUN. -/
theorem run_main : θ_run defs (onTc (τ := τ) (main (F := F))) ⟨m, fun _ => 0, ρ⟩
    (fun r => Pipeline.FramePostRG (Pipeline.pin (pcfgs (F := F)) adm) (dats (V m)) 0 written (V m) (G m) r ∧ r.2.sem = fun _ => 0) :=
  Pipeline.θ_run_frameP_dmaRG (Q' := _) (pcfgs (F := F)) adm (dats (V m)) (0 : Fin 1) launch0 osem defs₀ Variants.none ownSemFacts ∅ written
    (Finset.empty_subset _) written_sub m ρ main
    (hbody := fun c => (body_obligation (V m) c).loose) (hshare := fun c => (dats (V m) 0 c).share_full fun _ => rfl)
    (howed := fun c t => owed_eq (V m) c t) (V := V m) (hmain := hmain m) (hA := A_eq (V m)) (hpf := V_tables m) (G := G m)
    (hin := enter m) (hout := leave m) (hQ' := fun _ h => h)

/-- No argument is an array a window moves. -/
theorem arr_ne : (∀ w : Fin 7, (spec0 w).arr.view.ref ≠ main_arg0) ∧ (∀ w : Fin 7, (spec0 w).arr.view.ref ≠ main_arg1)
    ∧ (∀ w : Fin 7, (spec0 w).arr.view.ref ≠ main_arg2) ∧ (∀ w : Fin 7, (spec0 w).arr.view.ref ≠ main_arg3) := by decide

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1.1 c).2 main_arg0 (Finset.mem_sdiff.mpr ⟨Pipeline.mem_restRefs_of main_arg0 (by decide) arr_ne.1, by decide⟩)).trans (V_arg0 m c),
     ((h.1.1 c).2 main_arg1 (Finset.mem_sdiff.mpr ⟨Pipeline.mem_restRefs_of main_arg1 (by decide) arr_ne.2.1, by decide⟩)).trans (V_arg1 m c),
     ((h.1.1 c).2 main_arg2 (Finset.mem_sdiff.mpr ⟨Pipeline.mem_restRefs_of main_arg2 (by decide) arr_ne.2.2.1, by decide⟩)).trans (V_arg2 m c),
     ((h.1.1 c).2 main_arg3 (Finset.mem_sdiff.mpr ⟨Pipeline.mem_restRefs_of main_arg3 (by decide) arr_ne.2.2.2, by decide⟩)).trans (V_arg3 m c)⟩,
    h.2⟩) (run_main m ρ)

end Cert.KernelIdeal.Flash

end
-- ==== Proof.Frames.lean ====
/- The frames. The kernel as printed and the kernel read over the reals have one text, so one run serves both; the reference
   is a line of host operations. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Kernel.Launch

@[expose] public section

noncomputable section

namespace Cert.Proof

open Idealize.ShloMosaic Idealize.SL.Sem

/-- The frame of the kernel's text at any float values: from every memory it ends, faults nowhere, leaves the arguments as
    they were and every semaphore at zero. -/
def Quiet (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem quiet (F : FTy → Type) [FloatOps F] : Quiet F := fun m ρ _ => Cert.KernelIdeal.Flash.frame m ρ

/-- The printed kernel's frame is `Quiet` at the words: the two programs are the same text. -/
theorem same_text : Cert.quiescent_Kernel = Quiet Bits := by sl_kernel_rfl

theorem frame_kernel : Cert.quiescent_Kernel := same_text.mpr (quiet Bits)

theorem frame_ideal : Cert.quiescent_KernelIdeal := fun m ρ _ => Cert.KernelIdeal.Flash.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

end Cert.Proof

end
-- ==== Proof.Value.Attention.lean ====
/- The mathematics of one attention head and of its gradients, in real numbers.

   A head has 4,096 queries, keys and values of 128 lanes each (lanes a head does not use hold zeros) and a cotangent
   of its output.  Everything below is written with the plain exponentials of the scores; that shifting the scores of a
   row by a constant changes nothing is a lemma (`shifted`). -/
module

public import Idealize.ShloMosaic.Lib.Pointwise

@[expose] public section

noncomputable section

namespace Cert.Attention

open Finset

/-- One head: its queries (with the softmax scale in them), keys, values, and the cotangent of its output. -/
structure Head where
  q : Fin 4096 → Fin 128 → ℝ
  k : Fin 4096 → Fin 128 → ℝ
  v : Fin 4096 → Fin 128 → ℝ
  d : Fin 4096 → Fin 128 → ℝ

namespace Head

variable (x : Head)

/-- The score of query `t` against key `s`. -/
def score (t s : Fin 4096) : ℝ := ∑ e, x.q t e * x.k s e

/-- The sum of the exponentials of query `t`'s scores, over the keys up to `t`. -/
def denom (t : Fin 4096) : ℝ := ∑ s, if s ≤ t then Real.exp (x.score t s) else 0

/-- The attention weight of key `s` for query `t`: none for a key after the query. -/
def weight (t s : Fin 4096) : ℝ := if s ≤ t then Real.exp (x.score t s) / x.denom t else 0

/-- The head's output. -/
def out (t : Fin 4096) (e : Fin 128) : ℝ := ∑ s, weight x t s * x.v s e

/-- The logarithm of a row's sum. -/
def logSum (t : Fin 4096) : ℝ := Real.log (x.denom t)

/-- The gradient of a weight. -/
def dweight (t s : Fin 4096) : ℝ := ∑ e, x.d t e * x.v s e

/-- The mean of a row's weight gradients under the weights. -/
def mean (t : Fin 4096) : ℝ := ∑ s, x.weight t s * x.dweight t s

/-- The gradient of a score. -/
def dscore (t s : Fin 4096) : ℝ := x.weight t s * (x.dweight t s - x.mean t)

/-- The gradient of the scaled queries. -/
def dq (t : Fin 4096) (e : Fin 128) : ℝ := ∑ s, x.dscore t s * x.k s e

/-- The gradient of the keys. -/
def dk (s : Fin 4096) (e : Fin 128) : ℝ := ∑ t, x.dscore t s * x.q t e

/-- The gradient of the values. -/
def dv (s : Fin 4096) (e : Fin 128) : ℝ := ∑ t, x.weight t s * x.d t e

theorem denom_pos (t : Fin 4096) : 0 < x.denom t := by
  refine sum_pos' (fun s _ => ?_) ⟨t, mem_univ t, ?_⟩
  · split_ifs
    · exact (Real.exp_pos _).le
    · exact le_refl _
  · rw [if_pos (le_refl t)]
    exact Real.exp_pos _

/-- The weight of a key that counts, from the saved log-sum. -/
theorem weight_of_le {t s : Fin 4096} (h : s ≤ t) : x.weight t s = Real.exp (x.score t s - x.logSum t) := by
  rw [weight, if_pos h, Real.exp_sub, logSum, Real.exp_log (x.denom_pos t)]

theorem weight_of_lt {t s : Fin 4096} (h : t < s) : x.weight t s = 0 := if_neg (not_le.2 h)

theorem dscore_of_lt {t s : Fin 4096} (h : t < s) : x.dscore t s = 0 := by rw [dscore, weight_of_lt x h, zero_mul]

/-- The mean of the weights' gradients is the inner product of the output and its cotangent. -/
theorem inner_out (t : Fin 4096) : ∑ e, x.d t e * x.out t e = x.mean t := by
  unfold out mean dweight
  simp_rw [mul_sum]
  rw [sum_comm]
  exact sum_congr rfl fun s _ => sum_congr rfl fun e _ => by ring

/-- The exponentials of a row shifted by `m`. -/
def shifted (m : ℝ) (t s : Fin 4096) : ℝ := if s ≤ t then Real.exp (x.score t s - m) else 0

/-- Their sum. -/
theorem sum_shifted (m : ℝ) (t : Fin 4096) : ∑ s, x.shifted m t s = Real.exp (-m) * x.denom t := by
  rw [denom, mul_sum]
  refine sum_congr rfl fun s _ => ?_
  unfold shifted
  split_ifs
  · rw [← Real.exp_add]; congr 1; ring
  · rw [mul_zero]

theorem sum_shifted_pos (m : ℝ) (t : Fin 4096) : 0 < ∑ s, x.shifted m t s := by
  rw [sum_shifted]; exact mul_pos (Real.exp_pos _) (x.denom_pos t)

theorem shifted_div (m : ℝ) (t s : Fin 4096) : x.shifted m t s / ∑ s', x.shifted m t s' = x.weight t s := by
  rw [sum_shifted]
  unfold shifted weight
  split_ifs
  · rw [sub_eq_add_neg, Real.exp_add, mul_comm (Real.exp (x.score t s)), mul_div_mul_left _ _ (Real.exp_ne_zero _)]
  · rw [zero_div]

theorem shifted_log (m : ℝ) (t : Fin 4096) : m + Real.log (∑ s, x.shifted m t s) = x.logSum t := by
  rw [sum_shifted, Real.log_mul (Real.exp_ne_zero _) (x.denom_pos t).ne', Real.log_exp, logSum]; ring

/-- The gradient of a score as differentiating the quotient gives it. -/
theorem dscore_quotient (m : ℝ) (t s : Fin 4096) :
    (x.dweight t s * (1 / ∑ s', x.shifted m t s')
        + -(∑ s', x.dweight t s' * (1 / ((∑ u, x.shifted m t u) * ∑ u, x.shifted m t u)) * x.shifted m t s')) * x.shifted m t s
      = x.dscore t s := by
  have hl := (x.sum_shifted_pos m t).ne'
  have hm : x.mean t = (∑ s', x.dweight t s' * (1 / ((∑ u, x.shifted m t u) * ∑ u, x.shifted m t u)) * x.shifted m t s')
      * ∑ u, x.shifted m t u := by
    rw [mean, sum_mul]
    refine sum_congr rfl fun s' _ => ?_
    rw [← shifted_div x m]
    field_simp
  rw [dscore, hm, ← shifted_div x m]
  field_simp
  ring

end Head

end Cert.Attention
-- ==== Proof.Value.Reals.lean ====
/- Arrays of extended reals all of whose entries are real numbers, and the sums of such entries. -/
module

public import Idealize.ShloMosaic.Lib.Pointwise

@[expose] public section

noncomputable section

namespace Cert.Attention

open Idealize.ShloMosaic

/-- A matrix of extended reals that holds the real numbers `f`. -/
def Holds {a b : ℕ} (X : (⟨2, ![a, b]⟩ : Shape).Idx → EReal) (f : Fin a → Fin b → ℝ) : Prop := ∀ r s, X (ix2 r s) = ((f r s : ℝ) : EReal)

/-- Lane `e` of head `h`, among the 1,024 lanes of the eight heads. -/
def lane (h : Fin 8) (e : Fin 128) : Fin 1024 := ⟨h.val * 128 + e.val, by omega⟩

/-- A matrix of 1,024 lanes that holds the real numbers `f`, head by head. -/
def Wide {a : ℕ} (X : (⟨2, ![a, 1024]⟩ : Shape).Idx → EReal) (f : Fin 8 → Fin a → Fin 128 → ℝ) : Prop :=
  ∀ h r e, X (ix2 r (lane h e)) = ((f h r e : ℝ) : EReal)

/-- A finite sum of real numbers, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers, taken among the extended reals. -/
theorem coe_dot {n : ℕ} (f g : Fin n → ℝ) : ∑ i, ((f i : ℝ) : EReal) * ((g i : ℝ) : EReal) = ((∑ i, f i * g i : ℝ) : EReal) := by
  rw [← coe_sum]
  exact Finset.sum_congr rfl fun i _ => (EReal.coe_mul _ _).symm

/-- Every lane is some head's. -/
theorem exists_lane (l : Fin 1024) : ∃ h e, l = lane h e :=
  ⟨⟨l.val / 128, by omega⟩, ⟨l.val % 128, by omega⟩, Fin.ext (by simp only [lane]; omega)⟩

end Cert.Attention
-- ==== Proof.Value.Rows.lean ====
/- A row of masked scores among the extended reals: its greatest entry is a real number, the shifted exponentials are real
   numbers, and so is everything made of them. And the arguments as real numbers: eight heads of the scaled queries, the
   keys, the values and the cotangent, zeros in the lanes they do not use. -/
module

public import proofs.«01_k».proof.Proof.Value.Attention
public import proofs.«01_k».proof.Proof.Value.Reals
public import Idealize.ShloMosaic.Lib.IdealHost

@[expose] public section

noncomputable section

namespace Cert.Attention

open Idealize.ShloMosaic Finset

/-! ## Rows -/

/-- The greatest of a row of masked scores is a real number. -/
theorem max_row (f : Fin 4096 → ℝ) (t : Fin 4096) :
    ∃ μ : ℝ, (univ.fold max (⊥ : EReal) fun s => if s ≤ t then ((f s : ℝ) : EReal) else ⊥) = ((μ : ℝ) : EReal) := by
  refine ⟨_, (EReal.coe_toReal ?_ ?_).symm⟩
  · refine ne_of_lt ((fold_max_lt _).2 ⟨bot_lt_top, fun s _ => ?_⟩)
    split_ifs
    · exact EReal.coe_lt_top _
    · exact bot_lt_top
  · refine ne_of_gt (lt_of_lt_of_le (EReal.bot_lt_coe (f t)) ((le_fold_max _).2 (.inr ⟨t, mem_univ t, ?_⟩)))
    rw [if_pos (le_refl t)]

/-- The word of the mask is minus infinity. -/
theorem mask_word : Ideal.ofBits .f32 0xFF800000#32 = (⊥ : EReal) := by
  simp [Ideal.ofBits, Ideal.ieee]

/-- A masked score, shifted and exponentiated. -/
theorem exp_row (x : Head) (μ : ℝ) (t s : Fin 4096) :
    Ideal.exp ((if s ≤ t then ((x.score t s : ℝ) : EReal) else ⊥) - ((μ : ℝ) : EReal)) = ((x.shifted μ t s : ℝ) : EReal) := by
  unfold Head.shifted
  split_ifs
  · rw [← EReal.coe_sub, Ideal.exp_coe]
  · rw [EReal.bot_sub, Ideal.exp_bot, EReal.coe_zero]

/-- A quotient of real numbers. -/
theorem div_real {a b : ℝ} (hb : b ≠ 0) : Ideal.div ((a : ℝ) : EReal) ((b : ℝ) : EReal) = ((a / b : ℝ) : EReal) := by
  rw [Ideal.div_coe hb, ← EReal.coe_mul, mul_one_div]

/-- A logarithm of a positive number. -/
theorem log_real {a : ℝ} (ha : 0 < a) : Ideal.log ((a : ℝ) : EReal) = ((Real.log a : ℝ) : EReal) := by
  rw [Ideal.log_coe, if_neg (not_le.2 ha)]

/-! ## The arguments -/

/-- An array of rank 3 that holds real numbers. -/
def Holds3 {a b c : ℕ} (X : (⟨3, ![a, b, c]⟩ : Shape).Idx → EReal) (f : Fin a → Fin b → Fin c → ℝ) : Prop :=
  ∀ i j k, X (ix3 i j k) = ((f i j k : ℝ) : EReal)

/-- The softmax scale, as the float word denotes it. -/
def scale : ℝ := 13698540 * (2 ^ 27)⁻¹

theorem scale_word : Ideal.ofBits .f32 0x3DD105EC#32 = ((scale : ℝ) : EReal) := by
  rw [scale, EReal.coe_mul]
  simp [Ideal.ofBits, Ideal.ieee]

/-- `n` lanes followed by zeros. -/
def padded {n : ℕ} (f : Fin n → ℝ) (e : Fin 128) : ℝ := if h : e.val < n then f ⟨e.val, h⟩ else 0

theorem padded_lt {n : ℕ} (f : Fin n → ℝ) (e : Fin n) (h : e.val < 128) : padded f ⟨e.val, h⟩ = f e := dif_pos e.isLt

/-- An inner product of padded lanes. -/
theorem dot_padded {n : ℕ} (hn : n ≤ 128) (f g : Fin n → ℝ) : ∑ e, padded f e * padded g e = ∑ e, f e * g e := by
  refine (Fintype.sum_of_injective (Fin.castLE hn) (Fin.castLE_injective hn) _ _ (fun e he => ?_) fun e => ?_).symm
  · have h : ¬ e.val < n := fun h => he ⟨⟨e.val, h⟩, rfl⟩
    rw [padded, dif_neg h, zero_mul]
  · exact congrArg₂ (· * ·) (padded_lt f e _).symm (padded_lt g e _).symm

theorem lane_div (h : Fin 8) (e : Fin 128) : (lane h e).val / 128 = h.val := by
  show (h.val * 128 + e.val) / 128 = h.val; omega

theorem lane_mod (h : Fin 8) (e : Fin 128) : (lane h e).val % 128 = e.val := by
  show (h.val * 128 + e.val) % 128 = e.val; omega

/-- The four arguments as real numbers. -/
structure Args where
  q : Fin 4096 → Fin 8 → Fin 96 → ℝ
  k : Fin 4096 → Fin 8 → Fin 96 → ℝ
  v : Fin 4096 → Fin 8 → Fin 64 → ℝ
  d : Fin 4096 → Fin 8 → Fin 64 → ℝ

/-- A head of them. -/
def Args.head (A : Args) (h : Fin 8) : Head where
  q t := padded fun e => A.q t h e * scale
  k t := padded fun e => A.k t h e
  v t := padded fun e => A.v t h e
  d t := padded fun e => A.d t h e

variable (A : Args) (h : Fin 8)

theorem Args.score_eq (t s : Fin 4096) : (A.head h).score t s = ∑ e, (A.q t h e * scale) * A.k s h e :=
  dot_padded (n := 96) (by decide) (fun e => A.q t h e * scale) fun e => A.k s h e

/-- The scale taken out of the inner product. -/
theorem Args.score_scale (t s : Fin 4096) : (A.head h).score t s = (∑ e, A.q t h e * A.k s h e) * scale := by
  rw [A.score_eq, sum_mul]
  exact sum_congr rfl fun e _ => by ring

theorem Args.dweight_eq (t s : Fin 4096) : (A.head h).dweight t s = ∑ e, A.d t h e * A.v s h e :=
  dot_padded (n := 64) (by decide) (fun e => A.d t h e) fun e => A.v s h e

theorem Args.out_lt (t : Fin 4096) (e : Fin 64) (he : e.val < 128) : (A.head h).out t ⟨e.val, he⟩ = ∑ s, (A.head h).weight t s * A.v s h e :=
  sum_congr rfl fun s _ => congrArg _ (padded_lt (fun e => A.v s h e) e he)

/-- A sum of multiples of padded lanes. -/
theorem sum_padded {n : ℕ} (w : Fin 4096 → ℝ) (f : Fin 4096 → Fin n → ℝ) (e : Fin 128) :
    ∑ s, w s * padded (f s) e = padded (fun e => ∑ s, w s * f s e) e := by
  unfold padded
  split_ifs
  · rfl
  · simp

theorem Args.dq_eq (t : Fin 4096) (e : Fin 128) : (A.head h).dq t e = padded (fun e => ∑ s, (A.head h).dscore t s * A.k s h e) e :=
  sum_padded ((A.head h).dscore t) (fun s e => A.k s h e) e

theorem Args.dk_eq (s : Fin 4096) (e : Fin 128) :
    (A.head h).dk s e = padded (fun e => ∑ t, (A.head h).dscore t s * (A.q t h e * scale)) e :=
  sum_padded (fun t => (A.head h).dscore t s) (fun t e => A.q t h e * scale) e

theorem Args.dv_eq (s : Fin 4096) (e : Fin 128) : (A.head h).dv s e = padded (fun e => ∑ t, (A.head h).weight t s * A.d t h e) e :=
  sum_padded (fun t => (A.head h).weight t s) (fun t e => A.d t h e) e

end Cert.Attention
-- ==== Proof.Value.Block.lean ====
/- What one block of 512 queries against 512 keys adds to the three gradients of a head, over the reals: the values
   of `Body.lean`, read entry by entry at the extended reals. -/
module

public import proofs.«01_k».proof.Proof.Kernel.Body
public import proofs.«01_k».proof.Proof.Value.Reals

@[expose] public section

set_option maxRecDepth 16384

noncomputable section

namespace Cert.KernelIdeal.Flash

open Idealize.ShloMosaic Idealize.SL.Sem Gen Cert.Attention

variable {q k v : FVec Ideal S512x128 .bf16} {o d x : FVec Ideal S512x128 .f32} {p s : FVec Ideal S512x512 .f32}
  {fq fk fv fo fd fx : Fin 512 → Fin 128 → ℝ} {fp fs : Fin 512 → Fin 512 → ℝ}

/-- The weights of a block. -/
theorem weights_holds (hq : Holds q fq) (hk : Holds k fk) (ho : Holds o fo) :
    Holds (weights (F := Ideal) q k o) fun r s => Real.exp ((∑ e, fq r e * fk s e) - fo r 64) := by
  intro r s
  pointwise [weights]
  simp_rw [hq r _, hk s _, ho r 64, coe_dot, ← EReal.coe_sub, Ideal.exp_coe]

/-- Two numbers below 4,096, compared as words. -/
theorem sge_ofNat {a b : ℕ} (ha : a < 4096) (hb : b < 4096) :
    IntOp.cmpi .sge (BitVec.ofNat 32 a) (BitVec.ofNat 32 b) = BitVec.ofBool (decide (b ≤ a)) := by
  have h : ∀ n, n < 4096 → (BitVec.ofNat 32 n).toInt = n := fun n hn => by
    rw [BitVec.toInt_eq_toNat_of_lt] <;> rw [BitVec.toNat_ofNat] <;> omega
  show BitVec.ofBool ((BitVec.ofNat 32 b).sle (BitVec.ofNat 32 a)) = _
  rw [BitVec.sle_eq_decide, h a ha, h b hb]
  simp only [Nat.cast_le]

/-- The weights of a block on the diagonal. -/
theorem weightsDiag_holds (hq : Holds q fq) (hk : Holds k fk) (ho : Holds o fo) :
    Holds (weightsDiag (F := Ideal) q k o) fun r s => if s ≤ r then Real.exp ((∑ e, fq r e * fk s e) - fo r 64) else 0 := by
  intro r s
  have h := weights_holds hq hk ho r s
  pointwise [weightsDiag]
  rw [h, sge_ofNat (by omega) (by omega)]
  by_cases hle : s ≤ r
  · rw [if_pos hle, decide_eq_true (Fin.le_def.1 hle)]; rfl
  · rw [if_neg hle, decide_eq_false (fun h => hle (Fin.le_def.2 h))]; rfl

/-- The gradient of a block's scores. -/
theorem scoreGrad_holds (hp : Holds p fp) (hv : Holds v fv) (ho : Holds o fo) (hd : Holds d fd) :
    Holds (scoreGrad (F := Ideal) p v o d) fun r s => fp r s * ((∑ e, fd r e * fv s e) - ∑ e, fd r e * fo r e) := by
  intro r s
  pointwise [scoreGrad]
  simp_rw [hp r s, hd r _, hv s _, ho r _, coe_dot, ← EReal.coe_sub, ← EReal.coe_mul]

/-- The values' gradient with a block's share added. -/
theorem dvNext_holds (hp : Holds p fp) (hd : Holds d fd) (hx : Holds x fx) :
    Holds (dvNext (F := Ideal) p d x) fun s e => fx s e + ∑ r, fp r s * fd r e := by
  intro r s
  pointwise [dvNext]
  simp_rw [hx r s, hp _ r, hd _ s, coe_dot, ← EReal.coe_add]

/-- The keys' gradient with a block's share added. -/
theorem dkNext_holds (hs : Holds s fs) (hq : Holds q fq) (hx : Holds x fx) :
    Holds (dkNext (F := Ideal) s q x) fun j e => fx j e + ∑ r, fs r j * fq r e := by
  intro r c
  pointwise [dkNext]
  simp_rw [hx r c, hs _ r, hq _ c, coe_dot, ← EReal.coe_add]

/-- The queries' gradient with a block's share added. -/
theorem dqNext_holds (hs : Holds s fs) (hk : Holds k fk) (hx : Holds x fx) :
    Holds (dqNext (F := Ideal) s k x) fun r e => fx r e + ∑ j, fs r j * fk j e := by
  intro r c
  pointwise [dqNext]
  simp_rw [hx r c, hs r _, hk _ c, coe_dot, ← EReal.coe_add]

end Cert.KernelIdeal.Flash
-- ==== Proof.Value.Saved.lean ====
/- What the host computes of the forward pass before the launch: the masked scores, the softmax of their rows, the outputs
   and the log-sums, over the reals. -/
module

public import proofs.«01_k».proof.Proof.Value.Rows
public import proofs.«01_k».proof.Proof.Value.Block
public import proofs.«01_k».proof.Proof.Gen.KernelIdeal

@[expose] public section

set_option maxRecDepth 16384

noncomputable section

namespace Cert.KernelIdeal.Flash

open Idealize.ShloMosaic Idealize.SL.Sem Gen Cert.Attention

/-- The scaled scores, masked. -/
def maskedScores (q k : FVec Ideal S4096x8x96 .f32) : FVec Ideal S8x4096x4096 .f32 :=
  select
    (broadcastInDim S8x4096x4096 ![1, 2] bcast_S4096x4096_S8x4096x4096_1_2
      (cmpi .sge
        (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (mulf (Host.dotGeneral dot_S4096x8x96_S4096x8x96_S8x4096x4096_2_2_0_0_1_1 none q k)
      (broadcastInDim S8x4096x4096 ![] bcast_S_S8x4096x4096 (constant S_ .f32 0x3DD105EC#32)))
    (broadcastInDim S8x4096x4096 ![] bcast_S_S8x4096x4096 (id (constant S_ .f32 0xFF800000#32)))

/-- The greatest score of each row, in a unit lane. -/
def rowMax (X : FVec Ideal S8x4096x4096 .f32) : FVec Ideal S8x4096x1 .f32 :=
  broadcastInDim S8x4096x1 ![0, 1] bcast_S8x4096_S8x4096x1_0_1
    (Host.reduce FloatOps.maximumf X (constant S_ .f32 0xFF800000#32) reducesTo_S8x4096x4096_S8x4096_d2 h_S_)

/-- The exponentials of the shifted scores. -/
def rowExp (X : FVec Ideal S8x4096x4096 .f32) : FVec Ideal S8x4096x4096 .f32 :=
  Host.exp (subf X (broadcastInDim S8x4096x4096 ![0, 1, 2] bcast_S8x4096x1_S8x4096x4096_0_1_2 (rowMax X)))

/-- Their sum, in a unit lane. -/
def rowSum (E : FVec Ideal S8x4096x4096 .f32) : FVec Ideal S8x4096x1 .f32 :=
  broadcastInDim S8x4096x1 ![0, 1] bcast_S8x4096_S8x4096x1_0_1
    (Host.reduceAdd E (constant S_ .f32 0x00000000#32) reducesTo_S8x4096x4096_S8x4096_d2 h_S_)

/-- The outputs. -/
def outputs (v : FVec Ideal S4096x8x64 .f32) (E : FVec Ideal S8x4096x4096 .f32) : FVec Ideal S4096x8x64 .f32 :=
  transpose S4096x8x64 [2, 0, 1]
    (Host.dotGeneral dot_S4096x8x64_S8x4096x4096_S8x64x4096_0_2_2_1_1_0 none v
      (Host.divf E (broadcastInDim S8x4096x4096 ![0, 1, 2] bcast_S8x4096x1_S8x4096x4096_0_1_2 (rowSum E))))
    transposes_S8x64x4096_S4096x8x64_2_0_1

/-- The log-sums, from the rows' greatest scores and their sums. -/
def logSums (M S : FVec Ideal S8x4096x1 .f32) : FVec Ideal S4096x8x1 .f32 :=
  transpose S4096x8x1 [1, 0, 2] (addf M (Host.log S)) transposes_S8x4096x1_S4096x8x1_1_0_2

variable {A : Args} {q k : FVec Ideal S4096x8x96 .f32} {v : FVec Ideal S4096x8x64 .f32}

theorem maskedScores_apply (hq : Holds3 q A.q) (hk : Holds3 k A.k) (h : Fin 8) (t s : Fin 4096) :
    maskedScores q k (ix3 h t s) = if s ≤ t then (((A.head h).score t s : ℝ) : EReal) else ⊥ := by
  pointwise [maskedScores]
  rw [sge_ofNat t.isLt s.isLt]
  simp_rw [hq t h _, hk s h _, coe_dot, scale_word, ← EReal.coe_mul, ← A.score_scale]
  by_cases hle : s ≤ t
  · rw [if_pos hle, decide_eq_true (Fin.le_def.1 hle)]; rfl
  · rw [if_neg hle, decide_eq_false (fun h => hle (Fin.le_def.2 h))]; exact mask_word

section
variable {X : FVec Ideal S8x4096x4096 .f32} (hX : ∀ h t s, X (ix3 h t s) = if s ≤ t then (((A.head h).score t s : ℝ) : EReal) else ⊥)
include hX

theorem rowMax_apply (h : Fin 8) (t : Fin 4096) : ∃ μ : ℝ, rowMax X (ix3 h t 0) = ((μ : ℝ) : EReal) := by
  pointwise [rowMax]
  rw [mask_word]
  simp_rw [hX]
  exact max_row _ t

theorem rowExp_apply (h : Fin 8) (t : Fin 4096) {μ : ℝ} (hμ : rowMax X (ix3 h t 0) = ((μ : ℝ) : EReal)) (s : Fin 4096) :
    rowExp X (ix3 h t s) = (((A.head h).shifted μ t s : ℝ) : EReal) := by
  pointwise [rowExp]
  rw [hμ, hX, exp_row]
end

section
variable {E : FVec Ideal S8x4096x4096 .f32} {μ : Fin 8 → Fin 4096 → ℝ} (hE : ∀ h t s, E (ix3 h t s) = (((A.head h).shifted (μ h t) t s : ℝ) : EReal))
include hE

theorem rowSum_apply (h : Fin 8) (t : Fin 4096) : rowSum E (ix3 h t 0) = ((∑ s, (A.head h).shifted (μ h t) t s : ℝ) : EReal) := by
  pointwise [rowSum]
  simp_rw [hE]
  exact coe_sum _ _

theorem outputs_apply (hv : Holds3 v A.v) (t : Fin 4096) (h : Fin 8) (e : Fin 64) (he : e.val < 128) :
    outputs v E (ix3 t h e) = (((A.head h).out t ⟨e.val, he⟩ : ℝ) : EReal) := by
  pointwise [outputs]
  rw [rowSum_apply hE, A.out_lt]
  simp_rw [hE, hv _ h e, div_real ((A.head h).sum_shifted_pos (μ h t) t).ne', Head.shifted_div, ← EReal.coe_mul, mul_comm (A.v _ h e)]
  exact coe_sum _ _
end

theorem logSums_apply {M S : FVec Ideal S8x4096x1 .f32} {μ : Fin 8 → Fin 4096 → ℝ} (hM : ∀ h t, M (ix3 h t 0) = ((μ h t : ℝ) : EReal))
    (hS : ∀ h t, S (ix3 h t 0) = ((∑ s, (A.head h).shifted (μ h t) t s : ℝ) : EReal)) (t : Fin 4096) (h : Fin 8) :
    logSums M S (ix3 t h 0) = (((A.head h).logSum t : ℝ) : EReal) := by
  pointwise [logSums]
  rw [hM, hS, log_real ((A.head h).sum_shifted_pos (μ h t) t), ← EReal.coe_add, Head.shifted_log]

end Cert.KernelIdeal.Flash
-- ==== Proof.Value.Heads.lean ====
/- What the eight heads of one block of queries against one block of keys add to the gradients, over the reals. -/
module

public import proofs.«01_k».proof.Proof.Kernel.Step
public import proofs.«01_k».proof.Proof.Value.Block

@[expose] public section

set_option maxRecDepth 16384

noncomputable section

namespace Cert.KernelIdeal.Flash

open Idealize.ShloMosaic Idealize.SL.Sem Gen Cert.Attention

/-- The lanes of a head, read out of a block. -/
theorem lanesOf_holds {X : FVec Ideal S512x1024 .f32} {f : Fin 8 → Fin 512 → Fin 128 → ℝ} (hX : Wide X f) (h : Fin 8) (c : ℕ)
    (hc : c + 128 ≤ 1024) (e : c = h.val * 128) : Holds (lanesOf (F := Ideal) (e := .f32) X c hc) (f h) := by
  intro r y
  rw [← hX h r y]
  refine congrArg X (funext fun a => Fin.ext ?_)
  match a with
  | 0 => show 0 + 1 * r.val = r.val; omega
  | 1 => show c + 1 * y.val = h.val * 128 + y.val; omega

/-- The same of 512 rows of the queries' gradient. -/
theorem rowsOf_holds {X : FVec Ideal S4096x1024 .f32} {f : Fin 8 → Fin 4096 → Fin 128 → ℝ} (hX : Wide X f) (h : Fin 8) (r0 : ℕ)
    (hr : r0 + 512 ≤ 4096) (c : ℕ) (hc : c + 128 ≤ 1024) (e : c = h.val * 128) :
    Holds (rowsOf (F := Ideal) X r0 hr c hc) (fun r => f h ⟨r0 + r.val, by omega⟩) := by
  intro r y
  rw [← hX h ⟨r0 + r.val, by omega⟩ y]
  refine congrArg X (funext fun a => Fin.ext ?_)
  match a with
  | 0 => show r0 + 1 * r.val = r0 + r.val; omega
  | 1 => show c + 1 * y.val = h.val * 128 + y.val; omega

/-- A head's lanes of some rows replaced. -/
theorem put_wide {n : ℕ} {X : (⟨2, ![n, 1024]⟩ : Shape).Idx → EReal} {f : Fin 8 → Fin n → Fin 128 → ℝ} (hX : Wide X f)
    {w : (⟨2, ![512, 128]⟩ : Shape).Idx → EReal} {fw : Fin 512 → Fin 128 → ℝ} (hw : Holds w fw) (g : Fin 8) (r0 c : ℕ) (e : c = g.val * 128) :
    Wide (VecWindow.put (s := ⟨2, ![n, 1024]⟩) X ![r0, c] S512x128.size w)
      (fun h r y => if b : h = g ∧ r0 ≤ r.val ∧ r.val < r0 + 512 then fw ⟨r.val - r0, by omega⟩ y else f h r y) := by
  intro h r y
  by_cases b : h = g ∧ r0 ≤ r.val ∧ r.val < r0 + 512
  · simp only [dif_pos b]
    have hb : ∀ a : Fin 2, (![r0, c] : Fin 2 → ℕ) a ≤ ((ix2 r (lane h y) : (⟨2, ![n, 1024]⟩ : Shape).Idx) a).val
        ∧ ((ix2 r (lane h y) : (⟨2, ![n, 1024]⟩ : Shape).Idx) a).val < (![r0, c] : Fin 2 → ℕ) a + S512x128.size a := by
      intro a
      match a with
      | 0 => exact b.2
      | 1 => show c ≤ h.val * 128 + y.val ∧ h.val * 128 + y.val < c + 128; rw [b.1]; omega
    refine (dif_pos hb).trans ?_
    rw [← hw]
    refine congrArg w (funext fun a => Fin.ext ?_)
    match a with
    | 0 => rfl
    | 1 => show h.val * 128 + y.val - c = y.val; rw [b.1]; omega
  · simp only [dif_neg b]
    rw [← hX h r y]
    refine dif_neg fun hb => b ⟨?_, hb 0⟩
    have h1 : c ≤ h.val * 128 + y.val ∧ h.val * 128 + y.val < c + 128 := hb 1
    exact Fin.ext (by omega)

/-- The five input blocks as real numbers, head by head. -/
structure Blocks where
  q : Fin 8 → Fin 512 → Fin 128 → ℝ
  k : Fin 8 → Fin 512 → Fin 128 → ℝ
  v : Fin 8 → Fin 512 → Fin 128 → ℝ
  o : Fin 8 → Fin 512 → Fin 128 → ℝ
  d : Fin 8 → Fin 512 → Fin 128 → ℝ

/-- The input blocks hold these numbers. -/
structure OpsHold (x : Operands Ideal) (R : Blocks) : Prop where
  q : Wide x.q R.q
  k : Wide x.k R.k
  v : Wide x.v R.v
  o : Wide x.o R.o
  d : Wide x.d R.d

/-- The three gradients as real numbers. -/
structure Sums where
  dk : Fin 8 → Fin 512 → Fin 128 → ℝ
  dv : Fin 8 → Fin 512 → Fin 128 → ℝ
  dq : Fin 8 → Fin 4096 → Fin 128 → ℝ

/-- The gradients hold these numbers. -/
structure GradsHold (g : Grads Ideal) (G : Sums) : Prop where
  dk : Wide g.dk G.dk
  dv : Wide g.dv G.dv
  dq : Wide g.dq G.dq

/-- The gradient of a block's scores, from its weights. -/
def Blocks.ds (R : Blocks) (p : Fin 8 → Fin 512 → Fin 512 → ℝ) (h : Fin 8) (r s : Fin 512) : ℝ :=
  p h r s * ((∑ e, R.d h r e * R.v h s e) - ∑ e, R.d h r e * R.o h r e)

/-- What one head adds. -/
def headSums (R : Blocks) (p : Fin 8 → Fin 512 → Fin 512 → ℝ) (r0 : ℕ) (g : Fin 8) (G : Sums) : Sums where
  dk h s e := if h = g then G.dk h s e + ∑ r, R.ds p h r s * R.q h r e else G.dk h s e
  dv h s e := if h = g then G.dv h s e + ∑ r, p h r s * R.d h r e else G.dv h s e
  dq h t e := if b : h = g ∧ r0 ≤ t.val ∧ t.val < r0 + 512 then G.dq h t e + ∑ s, R.ds p h ⟨t.val - r0, by omega⟩ s * R.k h s e else G.dq h t e

/-- What the eight heads add. -/
def allSums (R : Blocks) (p : Fin 8 → Fin 512 → Fin 512 → ℝ) (r0 : ℕ) (G : Sums) : Sums where
  dk h s e := G.dk h s e + ∑ r, R.ds p h r s * R.q h r e
  dv h s e := G.dv h s e + ∑ r, p h r s * R.d h r e
  dq h t e := if b : r0 ≤ t.val ∧ t.val < r0 + 512 then G.dq h t e + ∑ s, R.ds p h ⟨t.val - r0, by omega⟩ s * R.k h s e else G.dq h t e

section
variable {wt : Weigh Ideal} {x : Operands Ideal} {R : Blocks} {p : Fin 8 → Fin 512 → Fin 512 → ℝ} (hx : OpsHold x R)
  (hp : ∀ h c hc, c = h.val * 128 → Holds (wt (lanesOf x.q c hc) (lanesOf x.k c hc) (lanesOf x.o c hc)) (p h))
  (r0 : ℕ) (hr : r0 + 512 ≤ 4096)
include hx hp

theorem headStep_holds {g : Grads Ideal} {G : Sums} (hg : GradsHold g G) (h : Fin 8) (c : ℕ) (hc : c + 128 ≤ 1024) (e : c = h.val * 128) :
    GradsHold (headStep wt x r0 hr c hc g) (headSums R p r0 h G) := by
  have w := hp h c hc e
  have lq := lanesOf_holds hx.q h c hc e
  have lk := lanesOf_holds hx.k h c hc e
  have lv := lanesOf_holds hx.v h c hc e
  have lo := lanesOf_holds hx.o h c hc e
  have ld := lanesOf_holds hx.d h c hc e
  have s := scoreGrad_holds w lv lo ld
  refine ⟨fun h' r y => ?_, fun h' r y => ?_, fun h' r y => ?_⟩
  · refine (put_wide hg.dk (dkNext_holds s lq (lanesOf_holds hg.dk h c hc e)) h 0 c e h' r y).trans (congrArg _ ?_)
    by_cases b : h' = h
    · subst b
      exact (dif_pos ⟨rfl, by omega, by omega⟩).trans (if_pos rfl).symm
    · exact (dif_neg fun b' => b b'.1).trans (if_neg b).symm
  · refine (put_wide hg.dv (dvNext_holds w ld (lanesOf_holds hg.dv h c hc e)) h 0 c e h' r y).trans (congrArg _ ?_)
    by_cases b : h' = h
    · subst b
      exact (dif_pos ⟨rfl, by omega, by omega⟩).trans (if_pos rfl).symm
    · exact (dif_neg fun b' => b b'.1).trans (if_neg b).symm
  · refine (put_wide hg.dq (dqNext_holds s lk (rowsOf_holds hg.dq h r0 hr c hc e)) h r0 c e h' r y).trans (congrArg _ ?_)
    by_cases b : h' = h ∧ r0 ≤ r.val ∧ r.val < r0 + 512
    · obtain ⟨rfl, b1, b2⟩ := b
      refine (dif_pos ⟨rfl, b1, b2⟩).trans (Eq.trans ?_ (dif_pos ⟨rfl, b1, b2⟩).symm)
      refine congrArg₂ (· + ·) (congrArg (G.dq h' · y) (Fin.ext ?_)) rfl
      show r0 + (r.val - r0) = r.val
      omega
    · simp only [headSums, dif_neg b]

/-- The eight heads together. -/
theorem headsStep_holds {g : Grads Ideal} {G : Sums} (hg : GradsHold g G) : GradsHold (headsStep wt x r0 hr g) (allSums R p r0 G) := by
  have st := fun {g : Grads Ideal} {G : Sums} (hg : GradsHold g G) (h : Fin 8) (c : ℕ) (hc : c + 128 ≤ 1024) (e : c = h.val * 128) =>
    headStep_holds hx hp r0 hr hg h c hc e
  have h8 := st (st (st (st (st (st (st (st hg 0 0 (by decide) rfl) 1 128 (by decide) rfl) 2 256 (by decide) rfl) 3 384 (by decide) rfl)
    4 512 (by decide) rfl) 5 640 (by decide) rfl) 6 768 (by decide) rfl) 7 896 (by decide) rfl
  have e : ∀ h : Fin 8, h = 0 ∨ h = 1 ∨ h = 2 ∨ h = 3 ∨ h = 4 ∨ h = 5 ∨ h = 6 ∨ h = 7 := by decide
  refine ⟨fun h r y => (h8.dk h r y).trans (congrArg _ ?_), fun h r y => (h8.dv h r y).trans (congrArg _ ?_),
    fun h r y => (h8.dq h r y).trans (congrArg _ ?_)⟩
  all_goals
    simp only [headSums, allSums]
    rcases e h with rfl | rfl | rfl | rfl | rfl | rfl | rfl | rfl <;> simp
end

end Cert.KernelIdeal.Flash
-- ==== Proof.Value.Reads.lean ====
/- What the five input windows hold at a point of the grid: 512 rows of the arrays, at the two blocks the tables name. -/
module

public import proofs.«01_k».proof.Proof.Kernel.Obligation
public import proofs.«01_k».proof.Proof.Value.Heads
public import proofs.«01_k».proof.Proof.Value.Attention
public import Idealize.ShloMosaic.Lib.Pipeline.ValueKit

@[expose] public section

set_option maxRecDepth 16384

noncomputable section

namespace Cert.Attention

/-- Row `r` of a block of 512 rows. -/
def rowIn (I : Fin 8) (r : Fin 512) : Fin 4096 := ⟨I.val * 512 + r.val, by omega⟩

/-- What is saved of a head's forward pass: the output in lanes 0 to 63, the log-sum in lane 64. -/
def Head.saved (x : Head) (t : Fin 4096) (e : Fin 128) : ℝ :=
  if e.val < 64 then x.out t e else if e.val = 64 then x.logSum t else 0

theorem Head.saved_logSum (x : Head) (t : Fin 4096) : x.saved t 64 = x.logSum t := by
  unfold Head.saved
  rw [if_neg (by decide), if_pos (by decide)]

/-- A cotangent of 64 lanes meets only the output. -/
theorem Head.inner_saved (x : Head) (h0 : ∀ t e, 64 ≤ e.val → x.d t e = 0) (t : Fin 4096) :
    ∑ e, x.d t e * x.saved t e = x.mean t := by
  rw [← x.inner_out]
  refine Finset.sum_congr rfl fun e _ => ?_
  by_cases h : e.val < 64
  · rw [Head.saved, if_pos h]
  · rw [h0 t e (by omega), zero_mul, zero_mul]

end Cert.Attention

namespace Cert.KernelIdeal.Flash

open Idealize.ShloMosaic Idealize.ShloMosaic.TcCoe Idealize.SL.Sem Gen Cert.Attention

/-- The two blocks of a point, as block numbers. -/
def qAt (t : Fin 36) : Fin 8 := ⟨qBlock t, by revert t; decide +kernel⟩
def kAt (t : Fin 36) : Fin 8 := ⟨kBlock t, by revert t; decide +kernel⟩

section
variable (V : (c : Dev nD) → (b : Ref sig .tc) → Buf (Elt Ideal) ((c.tc : Thread nD τ).loc b)) (c : Dev nD) (t : Fin (cfg (F := Ideal)).N)

theorem index_0 : ((cfg (F := Ideal)).win 0).index t = ![qBlock (num t), 0] :=
  (ix_q (F := Ideal) (grid0.coords t)).trans (by rw [coords_num])
theorem index_1 : ((cfg (F := Ideal)).win 1).index t = ![kBlock (num t), 0] :=
  (ix_k (F := Ideal) (grid0.coords t)).trans (by rw [coords_num])
theorem index_2 : ((cfg (F := Ideal)).win 2).index t = ![kBlock (num t), 1] :=
  (ix_v (F := Ideal) (grid0.coords t)).trans (by rw [coords_num])
theorem index_3 : ((cfg (F := Ideal)).win 3).index t = ![qBlock (num t), 0] :=
  (ix_o (F := Ideal) (grid0.coords t)).trans (by rw [coords_num])
theorem index_4 : ((cfg (F := Ideal)).win 4).index t = ![qBlock (num t), 0] :=
  (ix_d (F := Ideal) (grid0.coords t)).trans (by rw [coords_num])

theorem read_q (r : Fin 512) (l : Fin 1024) : (opsAt V c t).q (ix2 r l) = V c main_v4 (ix2 (rowIn (qAt (num t)) r) l) := by
  refine congrArg (V c main_v4) (funext fun a => Fin.ext ((ValueKit.rect_emb_unit_val _ _ _ _ a).trans ?_))
  refine (congrArg (fun n => n * ((cfg (F := Ideal)).win 0).size a + _) (congrFun (index_0 t) a)).trans ?_
  match a with
  | 0 => rfl
  | 1 => show 0 * 1024 + l.val = l.val; omega
theorem read_k (r : Fin 512) (l : Fin 1024) : (opsAt V c t).k (ix2 r l) = V c main_v7 (ix2 (rowIn (kAt (num t)) r) l) := by
  refine congrArg (V c main_v7) (funext fun a => Fin.ext ((ValueKit.rect_emb_unit_val _ _ _ _ a).trans ?_))
  refine (congrArg (fun n => n * ((cfg (F := Ideal)).win 1).size a + _) (congrFun (index_1 t) a)).trans ?_
  match a with
  | 0 => rfl
  | 1 => show 0 * 1024 + l.val = l.val; omega
theorem read_v (r : Fin 512) (l : Fin 1024) :
    (opsAt V c t).v (ix2 r l) = V c main_v11 (ix2 (rowIn (kAt (num t)) r) (⟨1024 + l.val, by omega⟩ : Fin 2048)) := by
  refine congrArg (V c main_v11) (funext fun a => Fin.ext ((ValueKit.rect_emb_unit_val _ _ _ _ a).trans ?_))
  refine (congrArg (fun n => n * ((cfg (F := Ideal)).win 2).size a + _) (congrFun (index_2 t) a)).trans ?_
  match a with
  | 0 => rfl
  | 1 => show 1 * 1024 + l.val = 1024 + l.val; omega
theorem read_o (r : Fin 512) (l : Fin 1024) : (opsAt V c t).o (ix2 r l) = V c main_v38 (ix2 (rowIn (qAt (num t)) r) l) := by
  refine congrArg (V c main_v38) (funext fun a => Fin.ext ((ValueKit.rect_emb_unit_val _ _ _ _ a).trans ?_))
  refine (congrArg (fun n => n * ((cfg (F := Ideal)).win 3).size a + _) (congrFun (index_3 t) a)).trans ?_
  match a with
  | 0 => rfl
  | 1 => show 0 * 1024 + l.val = l.val; omega
theorem read_d (r : Fin 512) (l : Fin 1024) : (opsAt V c t).d (ix2 r l) = V c main_v40 (ix2 (rowIn (qAt (num t)) r) l) := by
  refine congrArg (V c main_v40) (funext fun a => Fin.ext ((ValueKit.rect_emb_unit_val _ _ _ _ a).trans ?_))
  refine (congrArg (fun n => n * ((cfg (F := Ideal)).win 4).size a + _) (congrFun (index_4 t) a)).trans ?_
  match a with
  | 0 => rfl
  | 1 => show 0 * 1024 + l.val = l.val; omega

/-- The arrays the kernel is launched on hold eight heads: the scaled queries, the keys, the values (the upper half of a
    wider array), what the forward pass saved, and the cotangent, of 64 lanes. -/
structure Launched (H : Fin 8 → Head) : Prop where
  q : Wide (a := 4096) (V c main_v4) fun h => (H h).q
  k : Wide (a := 4096) (V c main_v7) fun h => (H h).k
  v : ∀ h r e, V c main_v11 (ix2 r (⟨1024 + (lane h e).val, by omega⟩ : Fin 2048)) = (((H h).v r e : ℝ) : EReal)
  o : Wide (a := 4096) (V c main_v38) fun h => (H h).saved
  d : Wide (a := 4096) (V c main_v40) fun h => (H h).d
  short : ∀ h t e, 64 ≤ e.val → (H h).d t e = 0

/-- The blocks of a point, of eight heads. -/
def blocksAt (H : Fin 8 → Head) (t : Fin 36) : Blocks where
  q h r e := (H h).q (rowIn (qAt t) r) e
  k h s e := (H h).k (rowIn (kAt t) s) e
  v h s e := (H h).v (rowIn (kAt t) s) e
  o h r e := (H h).saved (rowIn (qAt t) r) e
  d h r e := (H h).d (rowIn (qAt t) r) e

/-- The windows hold them. -/
theorem opsAt_hold {H : Fin 8 → Head} (L : Launched V c H) : OpsHold (opsAt V c t) (blocksAt H (num t)) where
  q h r e := (read_q V c t r _).trans (L.q h _ e)
  k h r e := (read_k V c t r _).trans (L.k h _ e)
  v h r e := (read_v V c t r _).trans (L.v h _ e)
  o h r e := (read_o V c t r _).trans (L.o h _ e)
  d h r e := (read_d V c t r _).trans (L.d h _ e)

end

end Cert.KernelIdeal.Flash
-- ==== Proof.Value.Points.lean ====
/- What one point of the grid adds to the gradients, over the reals, and what the points before one have added: the queries'
   gradient collects every point's share, the keys' and the values' those of the points on the same block of keys. -/
module

public import proofs.«01_k».proof.Proof.Value.Reads

@[expose] public section

set_option maxRecDepth 16384

noncomputable section

namespace Cert.KernelIdeal.Flash

open Idealize.ShloMosaic Idealize.ShloMosaic.TcCoe Idealize.SL.Sem Gen Cert.Attention

/-! ## The tables, point by point -/

/-- Whether the point is on the diagonal: its two blocks agree. -/
theorem clears_iff (t : Fin 36) : k0_cond2 (lit0 t) (lit1 t) = 1#1 ↔ qAt t = kAt t := by revert t; decide +kernel
theorem full_iff (t : Fin 36) : k0_cond3 (lit0 t) (lit1 t) = 1#1 ↔ kAt t < qAt t := by revert t; decide +kernel
theorem diag_iff (t : Fin 36) : k0_cond4 (lit0 t) (lit1 t) = 1#1 ↔ qAt t = kAt t := by revert t; decide +kernel
theorem kAt_le_qAt (t : Fin 36) : kAt t ≤ qAt t := by revert t; decide +kernel
theorem row_first (t : Fin 36) : row (lit0 t) = (qAt t).val * 512 := by revert t; decide +kernel
theorem first_iff (i : grid0.Coords) : first i = 1#1 ↔ (i 1).val = 0 := by revert i; decide +kernel

theorem zeroBlock_wide : Wide (a := 512) (zeroBlock (F := Ideal)) fun _ _ _ => 0 := by
  intro h r e
  exact Ideal.ofBits_zero_f32
theorem zeroAll_wide : Wide (a := 4096) (zeroAll (F := Ideal)) fun _ _ _ => 0 := by
  intro h r e
  exact Ideal.ofBits_zero_f32

/-! ## One point -/

variable (H : Fin 8 → Head)

/-- What a point adds to the keys' gradient, to the values' and to the queries'. -/
def addK (t : Fin 36) (h : Fin 8) (s : Fin 512) (e : Fin 128) : ℝ :=
  ∑ r, (H h).dscore (rowIn (qAt t) r) (rowIn (kAt t) s) * (H h).q (rowIn (qAt t) r) e
def addV (t : Fin 36) (h : Fin 8) (s : Fin 512) (e : Fin 128) : ℝ :=
  ∑ r, (H h).weight (rowIn (qAt t) r) (rowIn (kAt t) s) * (H h).d (rowIn (qAt t) r) e
def addQ (t : Fin 36) (h : Fin 8) (T : Fin 4096) (e : Fin 128) : ℝ :=
  if T.val / 512 = (qAt t).val then ∑ s, (H h).dscore T (rowIn (kAt t) s) * (H h).k (rowIn (kAt t) s) e else 0

/-- What a point makes of the gradients. -/
def sumsNext (t : Fin 36) (G : Sums) : Sums where
  dk h s e := (if qAt t = kAt t then 0 else G.dk h s e) + addK H t h s e
  dv h s e := (if qAt t = kAt t then 0 else G.dv h s e) + addV H t h s e
  dq h T e := (if t.val = 0 then 0 else G.dq h T e) + addQ H t h T e

section
variable {H}
variable (V : (c : Dev nD) → (b : Ref sig .tc) → Buf (Elt Ideal) ((c.tc : Thread nD τ).loc b)) (c : Dev nD) (L : Launched V c H)
include L

/-- The weights of a block are the head's. -/
def wts (H : Fin 8 → Head) (t : Fin 36) (h : Fin 8) (r s : Fin 512) : ℝ := (H h).weight (rowIn (qAt t) r) (rowIn (kAt t) s)

/-- The gradient of a block's scores is the head's. -/
theorem ds_eq (t : Fin 36) (h : Fin 8) (r s : Fin 512) :
    (blocksAt H t).ds (wts H t) h r s = (H h).dscore (rowIn (qAt t) r) (rowIn (kAt t) s) := by
  unfold Blocks.ds Head.dscore
  rw [← (H h).inner_saved (L.short h)]
  rfl

/-- Eight heads' step, once their weights are known. -/
theorem heads_add {wt : Weigh Ideal} (t : Fin (cfg (F := Ideal)).N) (hp : ∀ h c' hc, c' = h.val * 128 →
      Holds (wt (lanesOf (opsAt V c t).q c' hc) (lanesOf (opsAt V c t).k c' hc) (lanesOf (opsAt V c t).o c' hc)) (wts H (num t) h))
    (r0 : ℕ) (e0 : r0 = (qAt (num t)).val * 512) (hr : r0 + 512 ≤ 4096) {g : Grads Ideal} {G : Sums} (hg : GradsHold g G) :
    GradsHold (headsStep wt (opsAt V c t) r0 hr g)
      ⟨fun h s e => G.dk h s e + addK H (num t) h s e, fun h s e => G.dv h s e + addV H (num t) h s e,
        fun h T e => G.dq h T e + addQ H (num t) h T e⟩ := by
  have hh := headsStep_holds (opsAt_hold V c t L) hp r0 hr hg
  refine ⟨fun h s e => (hh.dk h s e).trans (congrArg _ ?_), fun h s e => (hh.dv h s e).trans (congrArg _ ?_),
    fun h T e => (hh.dq h T e).trans (congrArg _ ?_)⟩
  · simp only [allSums, ds_eq V c L]; rfl
  · rfl
  · subst e0
    simp only [allSums, ds_eq V c L, addQ]
    by_cases b : T.val / 512 = (qAt (num t)).val
    · rw [if_pos b, dif_pos (by omega)]
      have er : ∀ hb, rowIn (qAt (num t)) ⟨T.val - (qAt (num t)).val * 512, hb⟩ = T := fun hb => Fin.ext (by
        show (qAt (num t)).val * 512 + (T.val - (qAt (num t)).val * 512) = T.val; omega)
      simp only [er]
      rfl
    · rw [if_neg b, dif_neg (by omega), add_zero]

/-- A block below the diagonal: every key counts. -/
theorem full_weights (t : Fin (cfg (F := Ideal)).N) (hlt : kAt (num t) < qAt (num t)) (h : Fin 8) (c' : ℕ) (hc : c' + 128 ≤ 1024) (e : c' = h.val * 128) :
    Holds (weights (F := Ideal) (lanesOf (opsAt V c t).q c' hc) (lanesOf (opsAt V c t).k c' hc) (lanesOf (opsAt V c t).o c' hc)) (wts H (num t) h) := by
  have hx := opsAt_hold V c t L
  intro r s
  refine (weights_holds (lanesOf_holds hx.q h c' hc e) (lanesOf_holds hx.k h c' hc e) (lanesOf_holds hx.o h c' hc e) r s).trans (congrArg _ ?_)
  have hle : rowIn (kAt (num t)) s ≤ rowIn (qAt (num t)) r := by
    have : (kAt (num t)).val < (qAt (num t)).val := hlt
    show (kAt (num t)).val * 512 + s.val ≤ (qAt (num t)).val * 512 + r.val
    omega
  rw [wts, Head.weight_of_le _ hle, ← Head.saved_logSum]
  rfl

/-- A block on the diagonal: the keys up to the query count. -/
theorem diag_weights (t : Fin (cfg (F := Ideal)).N) (heq : qAt (num t) = kAt (num t)) (h : Fin 8) (c' : ℕ) (hc : c' + 128 ≤ 1024) (e : c' = h.val * 128) :
    Holds (weightsDiag (F := Ideal) (lanesOf (opsAt V c t).q c' hc) (lanesOf (opsAt V c t).k c' hc) (lanesOf (opsAt V c t).o c' hc)) (wts H (num t) h) := by
  have hx := opsAt_hold V c t L
  intro r s
  refine (weightsDiag_holds (lanesOf_holds hx.q h c' hc e) (lanesOf_holds hx.k h c' hc e) (lanesOf_holds hx.o h c' hc e) r s).trans (congrArg _ ?_)
  have hv : (qAt (num t)).val = (kAt (num t)).val := congrArg Fin.val heq
  by_cases hle : s ≤ r
  · have hle' : rowIn (kAt (num t)) s ≤ rowIn (qAt (num t)) r := by
      have : s.val ≤ r.val := hle
      show (kAt (num t)).val * 512 + s.val ≤ (qAt (num t)).val * 512 + r.val
      omega
    refine (if_pos hle).trans ?_
    rw [wts, Head.weight_of_le _ hle', ← Head.saved_logSum]
    rfl
  · have hlt' : rowIn (qAt (num t)) r < rowIn (kAt (num t)) s := by
      have : r.val < s.val := not_le.1 hle
      show (qAt (num t)).val * 512 + r.val < (kAt (num t)).val * 512 + s.val
      omega
    exact (if_neg hle).trans (Head.weight_of_lt _ hlt').symm

/-- One point's step. -/
theorem stepAt_hold (t : Fin (cfg (F := Ideal)).N) {g : Grads Ideal} {G : Sums} (hg : GradsHold g G) :
    GradsHold (stepAt V c t g) (sumsNext H (num t) G) := by
  have h1 : GradsHold (clearAll (grid0.coords t) g) ⟨G.dk, G.dv, fun h T e => if (num t).val = 0 then 0 else G.dq h T e⟩ := by
    unfold clearAll
    by_cases h0 : (num t).val = 0
    · rw [if_pos ((first_iff _).2 (by rw [coords_num]; exact h0))]
      simp only [if_pos h0]
      exact ⟨hg.dk, hg.dv, zeroAll_wide⟩
    · rw [if_neg (fun hf => h0 (by rw [← coords_num]; exact (first_iff _).1 hf))]
      simp only [if_neg h0]
      exact hg
  have h2 : GradsHold (clearBlock (lit0 (num t)) (lit1 (num t)) (clearAll (grid0.coords t) g))
      ⟨fun h s e => if qAt (num t) = kAt (num t) then 0 else G.dk h s e, fun h s e => if qAt (num t) = kAt (num t) then 0 else G.dv h s e,
        fun h T e => if (num t).val = 0 then 0 else G.dq h T e⟩ := by
    unfold clearBlock
    by_cases h0 : qAt (num t) = kAt (num t)
    · rw [if_pos ((clears_iff _).2 h0)]
      simp only [if_pos h0]
      exact ⟨zeroBlock_wide, zeroBlock_wide, h1.dq⟩
    · rw [if_neg (fun hf => h0 ((clears_iff _).1 hf))]
      simp only [if_neg h0]
      exact h1
  unfold stepAt pointStep addDiag addFull
  by_cases h0 : qAt (num t) = kAt (num t)
  · rw [dif_pos ((diag_iff _).2 h0), dif_neg (fun hf => absurd ((full_iff _).1 hf) (by rw [h0]; exact lt_irrefl _))]
    exact heads_add V c L t (diag_weights V c L t h0) _ (row_first _) _ h2
  · have hlt : kAt (num t) < qAt (num t) := lt_of_le_of_ne (kAt_le_qAt _) (Ne.symm h0)
    rw [dif_neg (fun hf => h0 ((diag_iff _).1 hf)), dif_pos ((full_iff _).2 hlt)]
    exact heads_add V c L t (full_weights V c L t hlt) _ (row_first _) _ h2
end

/-! ## All the points before one -/

/-- The gradients before point `n`. -/
def sumsAt : ℕ → Sums
  | 0 => ⟨fun _ _ _ => 0, fun _ _ _ => 0, fun _ _ _ => 0⟩
  | n + 1 => if h : n < 36 then sumsNext H ⟨n, h⟩ (sumsAt n) else sumsAt n

theorem gradsAt_hold {H : Fin 8 → Head} (V : (c : Dev nD) → (b : Ref sig .tc) → Buf (Elt Ideal) ((c.tc : Thread nD τ).loc b)) (c : Dev nD)
    (L : Launched V c H) (n : ℕ) (hn : n ≤ 36) : GradsHold (gradsAt V c n) (sumsAt H n) := by
  induction n with
  | zero => exact ⟨zeroBlock_wide, zeroBlock_wide, zeroAll_wide⟩
  | succ n ih =>
    have hN : n < (cfg (F := Ideal)).N := by rw [show (cfg (F := Ideal)).N = 36 from N_0]; omega
    rw [sumsAt, dif_pos (by omega : n < 36), gradsAt, dif_pos hN]
    exact stepAt_hold V c L ⟨n, hN⟩ (ih (by omega))

/-- The points up to `n` on the same block of keys as `n`. -/
def run (n : Fin 36) : Finset (Fin 36) := Finset.univ.filter fun i => i ≤ n ∧ kAt i = kAt n

theorem run_diag (n : Fin 36) (h : qAt n = kAt n) : run n = {n} := by revert n; decide +kernel
theorem run_next (n : Fin 36) (h : qAt n ≠ kAt n) : ∃ m : Fin 36, m.val + 1 = n.val ∧ n ∉ run m ∧ run n = insert n (run m) := by
  revert n; decide +kernel

/-- A number put to zero on the diagonal and added to at every point: after point `n` it is the sum over `n`'s run. -/
theorem collect (a : ℕ → ℝ) (f : Fin 36 → ℝ)
    (ha : ∀ k (hk : k < 36), a (k + 1) = (if qAt ⟨k, hk⟩ = kAt ⟨k, hk⟩ then 0 else a k) + f ⟨k, hk⟩) (n : Fin 36) :
    a (n.val + 1) = ∑ i ∈ run n, f i := by
  have key : ∀ k (hk : k < 36), a (k + 1) = ∑ i ∈ run ⟨k, hk⟩, f i := by
    intro k
    induction k with
    | zero =>
      intro hk
      have h0 : qAt ⟨0, hk⟩ = kAt ⟨0, hk⟩ := (by decide +kernel : qAt 0 = kAt 0)
      rw [ha 0 hk, if_pos h0, zero_add, run_diag _ h0, Finset.sum_singleton]
    | succ k ih =>
      intro hk
      rw [ha _ hk]
      by_cases b : qAt ⟨k + 1, hk⟩ = kAt ⟨k + 1, hk⟩
      · rw [if_pos b, zero_add, run_diag _ b, Finset.sum_singleton]
      · obtain ⟨m, hm, hn, hr⟩ := run_next _ b
        have em : m = ⟨k, by omega⟩ := Fin.ext (Nat.succ.inj hm)
        rw [if_neg b, hr, Finset.sum_insert hn, em, ih (by omega), add_comm]
  exact key n.val n.isLt

/-- After point `n`, the keys' gradient holds the shares of the points on `n`'s block of keys, -/
theorem sumsAt_dk (n : Fin 36) (h : Fin 8) (s : Fin 512) (e : Fin 128) : (sumsAt H (n.val + 1)).dk h s e = ∑ i ∈ run n, addK H i h s e :=
  collect (fun k => (sumsAt H k).dk h s e) (fun i => addK H i h s e) (fun k hk => by rw [sumsAt, dif_pos hk]; rfl) n

/-- and the values' gradient likewise. -/
theorem sumsAt_dv (n : Fin 36) (h : Fin 8) (s : Fin 512) (e : Fin 128) : (sumsAt H (n.val + 1)).dv h s e = ∑ i ∈ run n, addV H i h s e :=
  collect (fun k => (sumsAt H k).dv h s e) (fun i => addV H i h s e) (fun k hk => by rw [sumsAt, dif_pos hk]; rfl) n

/-- After all of them the queries' gradient holds every point's share. -/
theorem sumsAt_dq (h : Fin 8) (T : Fin 4096) (e : Fin 128) : (sumsAt H 36).dq h T e = ∑ i, addQ H i h T e := by
  have key : ∀ n, n ≤ 36 → (sumsAt H n).dq h T e = ∑ i ∈ Finset.range n, if hi : i < 36 then addQ H ⟨i, hi⟩ h T e else 0 := by
    intro n
    induction n with
    | zero => intro _; rfl
    | succ n ih =>
      intro hn
      rw [sumsAt, dif_pos (by omega : n < 36), Finset.sum_range_succ, dif_pos (by omega : n < 36), ← ih (by omega)]
      show (if n = 0 then 0 else (sumsAt H n).dq h T e) + _ = _
      by_cases b : n = 0
      · subst b; rfl
      · rw [if_neg b]
  rw [key 36 (le_refl _), Finset.sum_range]
  exact Finset.sum_congr rfl fun i _ => dif_pos i.isLt

end Cert.KernelIdeal.Flash
-- ==== Proof.Value.Arrays.lean ====
/- The three arrays the launch leaves: the gradients of the scaled queries, of the keys and of the values, of eight heads. -/
module

public import proofs.«01_k».proof.Proof.Value.Points
public import proofs.«01_k».proof.Proof.Kernel.Launch

@[expose] public section

set_option maxRecDepth 16384

noncomputable section

namespace Cert.Attention

open Idealize.ShloMosaic

/-- The matrix of 1,024 lanes that holds `f`, head by head. -/
def wideOf {a : ℕ} (f : Fin 8 → Fin a → Fin 128 → ℝ) : (⟨2, ![a, 1024]⟩ : Shape).Idx → EReal := fun i =>
  ((f ⟨(i 1).val / 128, by have : (i 1).val < 1024 := (i 1).isLt; omega⟩ (i 0) ⟨(i 1).val % 128, Nat.mod_lt _ (by decide)⟩ : ℝ) : EReal)

theorem wideOf_wide {a : ℕ} (f : Fin 8 → Fin a → Fin 128 → ℝ) : Wide (wideOf f) f := by
  intro h r e
  show ((f ⟨(h.val * 128 + e.val) / 128, _⟩ r ⟨(h.val * 128 + e.val) % 128, _⟩ : ℝ) : EReal) = _
  have e1 : (⟨(h.val * 128 + e.val) / 128, by omega⟩ : Fin 8) = h := Fin.ext (by show (h.val * 128 + e.val) / 128 = h.val; omega)
  have e2 : (⟨(h.val * 128 + e.val) % 128, Nat.mod_lt _ (by decide)⟩ : Fin 128) = e := Fin.ext (by show (h.val * 128 + e.val) % 128 = e.val; omega)
  rw [e1, e2]

/-- A matrix that holds `f` is that one. -/
theorem Wide.eq {a : ℕ} {X : (⟨2, ![a, 1024]⟩ : Shape).Idx → EReal} {f : Fin 8 → Fin a → Fin 128 → ℝ} (hX : Wide X f) : X = wideOf f := by
  funext i
  have e : i = ix2 (i 0) (i 1) := funext fun b => by match b with | 0 => rfl | 1 => rfl
  obtain ⟨h, l, hl⟩ := exists_lane (i 1)
  rw [e, hl]
  exact (hX h (i 0) l).trans (wideOf_wide f h (i 0) l).symm

/-- A sum over the rows, block by block. -/
theorem sum_rows (f : Fin 4096 → ℝ) : ∑ t, f t = ∑ I, ∑ r, f (rowIn I r) := by
  rw [← Fintype.sum_prod_type' (fun I r => f (rowIn I r))]
  refine (Fintype.sum_equiv (finProdFinEquiv (m := 8) (n := 512)) _ _ fun p => congrArg f (Fin.ext ?_)).symm
  show p.1.val * 512 + p.2.val = p.2.val + 512 * p.1.val
  omega

end Cert.Attention

namespace Cert.KernelIdeal.Flash

open Idealize.ShloMosaic Idealize.ShloMosaic.TcCoe Idealize.SL.Sem Gen Cert.Attention
open Idealize.ShloMosaic.Pipeline (Window)

/-! ## The sums over the points -/

/-- The last point of a run has met every block of queries from its block of keys on. -/
theorem sum_run (n : Fin 36) (h7 : qAt n = 7) (g : Fin 8 → ℝ) : ∑ i ∈ run n, g (qAt i) = ∑ I, if kAt n ≤ I then g I else 0 := by
  rw [← Finset.sum_filter]
  have hm : ∀ n : Fin 36, qAt n = 7 → ∀ i ∈ run n, kAt n ≤ qAt i := by decide +kernel
  have hi : ∀ n : Fin 36, ∀ i ∈ run n, ∀ j ∈ run n, qAt i = qAt j → i = j := by decide +kernel
  have hs : ∀ n : Fin 36, qAt n = 7 → ∀ I, kAt n ≤ I → ∃ i ∈ run n, qAt i = I := by decide +kernel
  refine Finset.sum_nbij qAt (fun i hi' => by simpa using hm n h7 i hi') (fun i h1 j h2 e => hi n i h1 j h2 e) ?_ fun _ _ => rfl
  intro I hI
  exact hs n h7 I (by simpa using hI)

/-- A block of queries meets every block of keys up to its own. -/
theorem sum_points (I : Fin 8) (g : Fin 8 → ℝ) : ∑ i : Fin 36, (if I.val = (qAt i).val then g (kAt i) else 0) = ∑ J, if J ≤ I then g J else 0 := by
  rw [← Finset.sum_filter, ← Finset.sum_filter]
  have hm : ∀ I : Fin 8, ∀ i, I.val = (qAt i).val → kAt i ≤ I := by decide +kernel
  have hi : ∀ I : Fin 8, ∀ i, I.val = (qAt i).val → ∀ j, I.val = (qAt j).val → kAt i = kAt j → i = j := by decide +kernel
  have hs : ∀ I J : Fin 8, J ≤ I → ∃ i, I.val = (qAt i).val ∧ kAt i = J := by decide +kernel
  refine Finset.sum_nbij kAt (fun i hi' => by simpa using hm I i (by simpa using hi'))
    (fun i h1 j h2 e => hi I i (by simpa using h1) j (by simpa using h2) e) ?_ fun _ _ => rfl
  intro J hJ
  obtain ⟨i, h1, h2⟩ := hs I J (by simpa using hJ)
  exact ⟨i, by simpa using h1, h2⟩

variable (H : Fin 8 → Head)

theorem run_keys (n i : Fin 36) (hi : i ∈ run n) : kAt i = kAt n := (Finset.mem_filter.1 hi).2.2

/-- A later block's rows lie after an earlier one's. -/
theorem rowIn_lt {I J : Fin 8} (h : ¬ J ≤ I) (r s : Fin 512) : rowIn I r < rowIn J s := by
  have : I.val < J.val := not_le.1 h
  show I.val * 512 + r.val < J.val * 512 + s.val
  omega

theorem run_dk (n : Fin 36) (h7 : qAt n = 7) (h : Fin 8) (s : Fin 512) (e : Fin 128) :
    ∑ i ∈ run n, addK H i h s e = (H h).dk (rowIn (kAt n) s) e := by
  unfold Head.dk addK
  rw [sum_rows, Finset.sum_congr rfl fun i hi => by rw [run_keys n i hi],
    sum_run n h7 fun I => ∑ r, (H h).dscore (rowIn I r) (rowIn (kAt n) s) * (H h).q (rowIn I r) e]
  refine Finset.sum_congr rfl fun I _ => ?_
  by_cases b : kAt n ≤ I
  · rw [if_pos b]
  · rw [if_neg b]
    exact (Finset.sum_eq_zero fun r _ => by rw [Head.dscore_of_lt _ (rowIn_lt b r s), zero_mul]).symm

theorem run_dv (n : Fin 36) (h7 : qAt n = 7) (h : Fin 8) (s : Fin 512) (e : Fin 128) :
    ∑ i ∈ run n, addV H i h s e = (H h).dv (rowIn (kAt n) s) e := by
  unfold Head.dv addV
  rw [sum_rows, Finset.sum_congr rfl fun i hi => by rw [run_keys n i hi],
    sum_run n h7 fun I => ∑ r, (H h).weight (rowIn I r) (rowIn (kAt n) s) * (H h).d (rowIn I r) e]
  refine Finset.sum_congr rfl fun I _ => ?_
  by_cases b : kAt n ≤ I
  · rw [if_pos b]
  · rw [if_neg b]
    exact (Finset.sum_eq_zero fun r _ => by rw [Head.weight_of_lt _ (rowIn_lt b r s), zero_mul]).symm

theorem all_dq (h : Fin 8) (T : Fin 4096) (e : Fin 128) : ∑ i, addQ H i h T e = (H h).dq T e := by
  unfold Head.dq addQ
  rw [sum_rows, sum_points ⟨T.val / 512, by omega⟩ fun J => ∑ s, (H h).dscore T (rowIn J s) * (H h).k (rowIn J s) e]
  refine Finset.sum_congr rfl fun J _ => ?_
  by_cases b : J ≤ (⟨T.val / 512, by omega⟩ : Fin 8)
  · rw [if_pos b]
  · rw [if_neg b]
    refine (Finset.sum_eq_zero fun s _ => ?_).symm
    have hlt : T < rowIn J s := by
      have : T.val / 512 < J.val := not_le.1 b
      show T.val < J.val * 512 + s.val
      omega
    rw [Head.dscore_of_lt _ hlt, zero_mul]

/-! ## The arrays -/

/-- A point after which the block of keys goes on is not the last of its run. -/
theorem run_on (t : Fin 36) (h : qAt t ≠ 7) : ∃ t' : Fin 36, t'.val = t.val + 1 ∧ kBlock t' = kBlock t := by revert t; decide +kernel

/-- Every block of keys has a last point. -/
theorem run_last (J : Fin 8) : ∃ t : Fin 36, kAt t = J ∧ qAt t = 7 ∧ (t.val + 1 = 36 ∨ ∃ t' : Fin 36, t'.val = t.val + 1 ∧ kBlock t' ≠ kBlock t) := by
  revert J; decide +kernel

section
variable (w : Fin 7) (hw : ∀ t t', ((cfg (F := Ideal)).win w).index t = ((cfg (F := Ideal)).win w).index t' ↔ kBlock (num t) = kBlock (num t'))
include hw

/-- A block is written back at the last point of its run only, -/
theorem flush_last (t : Fin (cfg (F := Ideal)).N) (hf : ((cfg (F := Ideal)).win w).flush t = true) : qAt (num t) = 7 := by
  by_contra h7
  obtain ⟨t', ht, hk⟩ := run_on (num t) h7
  have hv : t'.val = t.val + 1 := ht
  have e : (⟨(t'.cast N_0.symm : Fin (cfg (F := Ideal)).N).val - 1, by have := t.isLt; show t'.val - 1 < _; omega⟩ : Fin (cfg (F := Ideal)).N) = t :=
    Fin.ext (by show t'.val - 1 = t.val; omega)
  have hff := flush_same (F := Ideal) w (t'.cast N_0.symm) (by show t'.val ≠ 0; omega) (by
    rw [e]; exact (hw _ _).2 hk)
  rw [e] at hff
  rw [hff] at hf
  exact Bool.false_ne_true hf

/-- and there it is written. -/
theorem last_flush (ho : ((cfg (F := Ideal)).win w).isOut = true) (t : Fin (cfg (F := Ideal)).N)
    (h : (num t).val + 1 = 36 ∨ ∃ t' : Fin 36, t'.val = (num t).val + 1 ∧ kBlock t' ≠ kBlock (num t)) :
    ((cfg (F := Ideal)).win w).flush t = true := by
  unfold Window.flush
  rw [ho, Bool.true_and, Bool.or_eq_true]
  rcases h with h | ⟨t', ht, hk⟩
  · exact .inl (decide_eq_true (h.trans N_0.symm))
  · refine .inr (decide_eq_true ⟨?_, fun e => hk ?_⟩)
    · have := t'.isLt
      show t.val + 1 < grid0.N
      have hv : t'.val = t.val + 1 := ht
      have hN : grid0.N = 36 := N_0
      omega
    · have e1 := (hw _ _).1 e
      have e2 : num (F := Ideal) ⟨t.val + 1, by have hv : t'.val = t.val + 1 := ht; have := t'.isLt; have hN : grid0.N = 36 := N_0; show _ < grid0.N; omega⟩ = t' :=
        Fin.ext ht.symm
      rw [← e2]
      exact e1
end

theorem index_5_iff (t t' : Fin (cfg (F := Ideal)).N) :
    ((cfg (F := Ideal)).win 5).index t = ((cfg (F := Ideal)).win 5).index t' ↔ kBlock (num t) = kBlock (num t') := by
  rw [index_5, index_5]
  exact ⟨fun e => congrFun e 0, fun e => congrArg (fun n => ![n, 0]) e⟩
theorem index_6_iff (t t' : Fin (cfg (F := Ideal)).N) :
    ((cfg (F := Ideal)).win 6).index t = ((cfg (F := Ideal)).win 6).index t' ↔ kBlock (num t) = kBlock (num t') := by
  rw [index_6, index_6]
  exact ⟨fun e => congrFun e 0, fun e => congrArg (fun n => ![n, 0]) e⟩

variable {H}
variable (V : (c : Dev nD) → (b : Ref sig .tc) → Buf (Elt Ideal) ((c.tc : Thread nD τ).loc b)) (c : Dev nD)

/-- Where a block of the keys' gradient lies in its array. -/
theorem emb_dk (t : Fin (cfg (F := Ideal)).N) (y : S512x1024.Idx) (l : Fin 1024) (hl : y 1 = l) :
    (((cfg (F := Ideal)).win 5).blk t).view.emb y = (ix2 (rowIn (kAt (num t)) (y 0)) l : S4096x1024.Idx) := by
  subst hl
  refine funext fun a => Fin.ext ((ValueKit.rect_emb_unit_val _ _ _ _ a).trans ?_)
  refine (congrArg (fun n => n * ((cfg (F := Ideal)).win 5).size a + _) (congrFun (index_5 t) a)).trans ?_
  match a with
  | 0 => rfl
  | 1 => show 0 * 1024 + (y 1).val = (y 1).val; omega

/-- The keys' gradient. -/
theorem arr_dk (L : Launched V c H) : (dats V 0 c).arrAt 5 (cfg (F := Ideal)).N = wideOf (a := 4096) fun h => (H h).dk := by
  refine (dats V 0 c).arrAt_eq_of_emb 5 _ (fun t hf y => ?_) fun i => ?_
  · have h7 := flush_last 5 index_5_iff t hf
    show (gradsAt V c (t.val + 1)).dk y = wideOf (a := 4096) (fun h => (H h).dk) _
    obtain ⟨h, e, hl⟩ := exists_lane (y 1)
    have ey : y = ix2 (y 0) (lane h e) := funext fun b => by match b with | 0 => rfl | 1 => exact hl
    refine Eq.trans ?_ (congrArg (wideOf (a := 4096) fun h => (H h).dk) (emb_dk t y _ hl)).symm
    rw [wideOf_wide (fun h => (H h).dk) h, ey]
    refine ((gradsAt_hold V c L (t.val + 1) (by have h36 : t.val < 36 := (num t).isLt; omega)).dk h (y 0) e).trans (congrArg _ ?_)
    exact (sumsAt_dk H (num t) h (y 0) e).trans (run_dk H (num t) h7 h (y 0) e)
  · have i0 : (i 0).val < 4096 := (i 0).isLt
    obtain ⟨t, hk, h7, hlast⟩ := run_last ⟨(i 0).val / 512, by omega⟩
    refine ⟨t.cast N_0.symm, last_flush 5 index_5_iff rfl _ hlast, ?_⟩
    refine Finset.mem_map.2 ⟨(ix2 ⟨(i 0).val % 512, Nat.mod_lt _ (by decide)⟩ (i 1) : S512x1024.Idx), Finset.mem_univ _, ?_⟩
    refine (emb_dk (t.cast N_0.symm) _ (i 1) rfl).trans (funext fun a => Fin.ext ?_)
    match a with
    | 0 =>
      show (kAt t).val * 512 + (i 0).val % 512 = (i 0).val
      rw [hk]
      show (i 0).val / 512 * 512 + (i 0).val % 512 = (i 0).val
      omega
    | 1 => rfl

/-- Where a block of the values' gradient lies in its array. -/
theorem emb_dv (t : Fin (cfg (F := Ideal)).N) (y : S512x1024.Idx) (l : Fin 1024) (hl : y 1 = l) :
    (((cfg (F := Ideal)).win 6).blk t).view.emb y = (ix2 (rowIn (kAt (num t)) (y 0)) l : S4096x1024.Idx) := by
  subst hl
  refine funext fun a => Fin.ext ((ValueKit.rect_emb_unit_val _ _ _ _ a).trans ?_)
  refine (congrArg (fun n => n * ((cfg (F := Ideal)).win 6).size a + _) (congrFun (index_6 t) a)).trans ?_
  match a with
  | 0 => rfl
  | 1 => show 0 * 1024 + (y 1).val = (y 1).val; omega

/-- The values' gradient. -/
theorem arr_dv (L : Launched V c H) : (dats V 0 c).arrAt 6 (cfg (F := Ideal)).N = wideOf (a := 4096) fun h => (H h).dv := by
  refine (dats V 0 c).arrAt_eq_of_emb 6 _ (fun t hf y => ?_) fun i => ?_
  · have h7 := flush_last 6 index_6_iff t hf
    show (gradsAt V c (t.val + 1)).dv y = wideOf (a := 4096) (fun h => (H h).dv) _
    obtain ⟨h, e, hl⟩ := exists_lane (y 1)
    have ey : y = ix2 (y 0) (lane h e) := funext fun b => by match b with | 0 => rfl | 1 => exact hl
    refine Eq.trans ?_ (congrArg (wideOf (a := 4096) fun h => (H h).dv) (emb_dv t y _ hl)).symm
    rw [wideOf_wide (fun h => (H h).dv) h, ey]
    refine ((gradsAt_hold V c L (t.val + 1) (by have h36 : t.val < 36 := (num t).isLt; omega)).dv h (y 0) e).trans (congrArg _ ?_)
    exact (sumsAt_dv H (num t) h (y 0) e).trans (run_dv H (num t) h7 h (y 0) e)
  · have i0 : (i 0).val < 4096 := (i 0).isLt
    obtain ⟨t, hk, h7, hlast⟩ := run_last ⟨(i 0).val / 512, by omega⟩
    refine ⟨t.cast N_0.symm, last_flush 6 index_6_iff rfl _ hlast, ?_⟩
    refine Finset.mem_map.2 ⟨(ix2 ⟨(i 0).val % 512, Nat.mod_lt _ (by decide)⟩ (i 1) : S512x1024.Idx), Finset.mem_univ _, ?_⟩
    refine (emb_dv (t.cast N_0.symm) _ (i 1) rfl).trans (funext fun a => Fin.ext ?_)
    match a with
    | 0 =>
      show (kAt t).val * 512 + (i 0).val % 512 = (i 0).val
      rw [hk]
      show (i 0).val / 512 * 512 + (i 0).val % 512 = (i 0).val
      omega
    | 1 => rfl

/-- The queries' gradient. -/
theorem arr_dq (L : Launched V c H) : (gradsAt V c 36).dq = wideOf (a := 4096) fun h => (H h).dq := by
  refine Wide.eq fun h T e => ((gradsAt_hold V c L 36 (le_refl _)).dq h T e).trans (congrArg _ ?_)
  rw [sumsAt_dq, all_dq]

end Cert.KernelIdeal.Flash
-- ==== Proof.Value.Host.lean ====
/- The arrays the kernel is launched on, of arguments that are real numbers: the host pads each head's lanes with zeros to
   128 and lays the heads side by side, and puts a row's log-sum behind its output. -/
module

public import proofs.«01_k».proof.Proof.Value.Saved
public import proofs.«01_k».proof.Proof.Value.Arrays
public import Idealize.ShloMosaic.Lib.StableHlo.RunRead

@[expose] public section

set_option maxRecDepth 16384

noncomputable section

namespace Cert.KernelIdeal.Flash

open Idealize.ShloMosaic Idealize.ShloMosaic.TcCoe Idealize.SL.Sem Gen Cert.Attention

/-! ## Padding and laying side by side -/

/-- Heads of 96 lanes. -/
def wide96 (x : FVec Ideal S4096x8x96 .f32) : FVec Ideal S4096x1024 .f32 :=
  shapeCast S4096x1024
    (pad S4096x8x128 ![0, 0, 0] ![0, 0, 32] ![0, 0, 0] x (sitofp .f32 (constantI S_ 32 0#32)) pads_S4096x8x96_S4096x8x128_000_000_0320 h_S_)
    shapeCasts_S4096x8x128_S4096x1024

/-- Heads of 64 lanes. -/
def wide64 (x : FVec Ideal S4096x8x64 .f32) : FVec Ideal S4096x1024 .f32 :=
  shapeCast S4096x1024
    (pad S4096x8x128 ![0, 0, 0] ![0, 0, 64] ![0, 0, 0] x (sitofp .f32 (constantI S_ 32 0#32)) pads_S4096x8x64_S4096x8x128_000_000_0640 h_S_)
    shapeCasts_S4096x8x128_S4096x1024

/-- A lane put behind heads of 64 lanes. -/
def joined (x : FVec Ideal S4096x8x64 .f32) (y : FVec Ideal S4096x8x1 .f32) : FVec Ideal S4096x8x65 .f32 :=
  concatenate S4096x8x65 2 [⟨S4096x8x64, x⟩, ⟨S4096x8x1, y⟩] concatenates_S4096x8x64_S4096x8x1_S4096x8x65_d2

/-- Heads of 65 lanes. -/
def wide65 (z : FVec Ideal S4096x8x65 .f32) : FVec Ideal S4096x1024 .f32 :=
  shapeCast S4096x1024
    (pad S4096x8x128 ![0, 0, 0] ![0, 0, 63] ![0, 0, 0] z (sitofp .f32 (constantI S_ 32 0#32)) pads_S4096x8x65_S4096x8x128_000_000_0630 h_S_)
    shapeCasts_S4096x8x128_S4096x1024

/-- The integer zero, as a float. -/
theorem pad_zero : (FloatOps.sitofp FTy.f32 0#32 : Ideal .f32) = ((0 : ℝ) : EReal) := by
  simp [FloatOps.sitofp]

theorem wide96_wide {x : FVec Ideal S4096x8x96 .f32} {f : Fin 4096 → Fin 8 → Fin 96 → ℝ} (hx : Holds3 x f) :
    Wide (a := 4096) (wide96 x) fun h r => padded fun e => f r h e := by
  intro h r e
  pointwise [wide96]
  simp only [lane_div, lane_mod, padded, Fin.isLt, true_and]
  split_ifs with he
  · exact hx r h ⟨e.val, he⟩
  · exact pad_zero

theorem wide64_wide {x : FVec Ideal S4096x8x64 .f32} {f : Fin 4096 → Fin 8 → Fin 64 → ℝ} (hx : Holds3 x f) :
    Wide (a := 4096) (wide64 x) fun h r => padded fun e => f r h e := by
  intro h r e
  pointwise [wide64]
  simp only [lane_div, lane_mod, padded, Fin.isLt, true_and]
  split_ifs with he
  · exact hx r h ⟨e.val, he⟩
  · exact pad_zero

theorem wide65_wide {x : FVec Ideal S4096x8x65 .f32} {f : Fin 4096 → Fin 8 → Fin 65 → ℝ} (hx : Holds3 x f) :
    Wide (a := 4096) (wide65 x) fun h r => padded fun e => f r h e := by
  intro h r e
  pointwise [wide65]
  simp only [lane_div, lane_mod, padded, Fin.isLt, true_and]
  split_ifs with he
  · exact hx r h ⟨e.val, he⟩
  · exact pad_zero

theorem joined_holds {x : FVec Ideal S4096x8x64 .f32} {y : FVec Ideal S4096x8x1 .f32} {f : Fin 4096 → Fin 8 → Fin 64 → ℝ}
    {g : Fin 4096 → Fin 8 → ℝ} (hx : Holds3 x f) (hy : ∀ t h, y (ix3 t h 0) = ((g t h : ℝ) : EReal)) :
    Holds3 (joined x y) fun t h (e : Fin 65) => if he : e.val < 64 then f t h ⟨e.val, he⟩ else g t h := by
  intro t h e
  pointwise [joined]
  split_ifs with he
  · exact hx t h ⟨e.val, he⟩
  all_goals exact (congrArg y (congrArg (ix3 t h) (Fin.ext (by show e.val - 64 = 0; omega)))).trans (hy t h)

/-- What a head saves of the forward pass, from its outputs and its log-sums. -/
theorem saved_wide {A : Args} {x : FVec Ideal S4096x8x64 .f32} {y : FVec Ideal S4096x8x1 .f32}
    (hx : ∀ t h (e : Fin 64) (he : e.val < 128), x (ix3 t h e) = (((A.head h).out t ⟨e.val, he⟩ : ℝ) : EReal))
    (hy : ∀ t h, y (ix3 t h 0) = (((A.head h).logSum t : ℝ) : EReal)) :
    Wide (a := 4096) (wide65 (joined x y)) fun h => (A.head h).saved := by
  intro h r e
  refine (wide65_wide (joined_holds (f := fun t h e => (A.head h).out t ⟨e.val, by omega⟩) (g := fun t h => (A.head h).logSum t)
    (fun t h e => hx t h e _) hy) h r e).trans ?_
  refine congrArg _ ?_
  show (if he : e.val < 65 then if h64 : e.val < 64 then (A.head h).out r ⟨e.val, _⟩ else (A.head h).logSum r else 0)
    = (if e.val < 64 then (A.head h).out r e else if e.val = 64 then (A.head h).logSum r else 0 : ℝ)
  by_cases he : e.val < 64
  · rw [dif_pos (show e.val < 65 by omega), dif_pos he, if_pos he]
  · rw [if_neg he]
    by_cases h64 : e.val = 64
    · rw [dif_pos (show e.val < 65 by omega), dif_neg he, if_pos h64]
    · rw [dif_neg (show ¬ e.val < 65 by omega), if_neg h64]

/-! ## The host's arrays -/

variable (m : (ℓ : Loc nD τ sig) → Buf (Elt Ideal) ℓ) (c : Dev nD)

/-- The queries, scaled. -/
def scaled (q : FVec Ideal S4096x8x96 .f32) : FVec Ideal S4096x8x96 .f32 :=
  mulf q (broadcastInDim S4096x8x96 ![] bcast_S_S4096x8x96 (constant S_ .f32 0x3DD105EC#32))

/-- The four arguments. -/
abbrev argQ : FVec Ideal S4096x8x96 .f32 := m ((c.tc : Thread nD τ).loc main_arg0)
abbrev argK : FVec Ideal S4096x8x96 .f32 := m ((c.tc : Thread nD τ).loc main_arg1)
abbrev argV : FVec Ideal S4096x8x64 .f32 := m ((c.tc : Thread nD τ).loc main_arg2)
abbrev argD : FVec Ideal S4096x8x64 .f32 := m ((c.tc : Thread nD τ).loc main_arg3)

theorem V_q : V m c main_v4 = truncf .bf16 (wide96 (scaled (argQ m c))) bitsLt_bf16_f32 := by
  unfold V stretches
  after_reads_simp
  rfl

theorem V_k : V m c main_v7 = truncf .bf16 (wide96 (argK m c)) bitsLt_bf16_f32 := by
  unfold V stretches
  after_reads_simp
  rfl

/-- The keys and the values side by side. -/
def pair (k v : FVec Ideal S4096x1024 .bf16) : FVec Ideal S4096x2048 .bf16 :=
  concatenate S4096x2048 1 [⟨S4096x1024, k⟩, ⟨S4096x1024, v⟩] concatenates_S4096x1024_S4096x1024_S4096x2048_d1

theorem V_v : V m c main_v11 = pair (truncf .bf16 (wide96 (argK m c)) bitsLt_bf16_f32) (truncf .bf16 (wide64 (argV m c)) bitsLt_bf16_f32) := by
  unfold V stretches
  after_reads_simp
  refine congrArg₂ pair ?_ ?_
  · after_reads_simp
    rfl
  · after_reads_simp
    rfl

theorem V_d : V m c main_v40 = wide64 (argD m c) := by
  unfold V stretches
  after_reads_simp
  rfl

/-- The masked scores, and the exponentials of the rows. -/
abbrev scoresOf : FVec Ideal S8x4096x4096 .f32 := maskedScores (argQ m c) (argK m c)

theorem V_saved : V m c main_v38
    = wide65 (joined (outputs (argV m c) (rowExp (scoresOf m c))) (logSums (rowMax (scoresOf m c)) (rowSum (rowExp (scoresOf m c))))) := by
  unfold V stretches
  after_reads_simp
  refine congrArg₂ (fun x y => wide65 (joined x y)) ?_ ?_
  · after_reads_simp
    rfl
  · after_reads_simp
    rfl

/-! ## Their entries -/

/-- The arguments hold the real numbers `A`. -/
structure ArgsHold (A : Args) : Prop where
  q : Holds3 (argQ m c) A.q
  k : Holds3 (argK m c) A.k
  v : Holds3 (argV m c) A.v
  d : Holds3 (argD m c) A.d

theorem scaled_holds {q : FVec Ideal S4096x8x96 .f32} {f : Fin 4096 → Fin 8 → Fin 96 → ℝ} (hq : Holds3 q f) :
    Holds3 (scaled q) fun t h e => f t h e * scale := by
  intro t h e
  pointwise [scaled]
  rw [hq t h e, scale_word, ← EReal.coe_mul]

theorem pair_right {k v : FVec Ideal S4096x1024 .bf16} (r : Fin 4096) (l : Fin 1024) (hl : 1024 + l.val < 2048) :
    pair k v (ix2 r (⟨1024 + l.val, hl⟩ : Fin 2048)) = v (ix2 r l) := by
  pointwise [pair]

variable {m c} {A : Args}

theorem saved_held (a : ArgsHold m c A) :
    Wide (a := 4096) (wide65 (joined (outputs (argV m c) (rowExp (scoresOf m c))) (logSums (rowMax (scoresOf m c)) (rowSum (rowExp (scoresOf m c))))))
      fun h => (A.head h).saved := by
  have hX := maskedScores_apply (A := A) a.q a.k
  choose μ hμ using fun h t => rowMax_apply (A := A) hX h t
  have hE := fun h t s => rowExp_apply (A := A) hX h t (hμ h t) s
  exact saved_wide (A := A) (fun t h e he => outputs_apply (A := A) hE a.v t h e he)
    (logSums_apply (A := A) hμ (rowSum_apply (A := A) hE))

/-- The kernel is launched on the heads of the arguments. -/
theorem launched (a : ArgsHold m c A) : Launched (V m) c A.head where
  q := by rw [V_q]; exact wide96_wide (scaled_holds a.q)
  k := by rw [V_k]; exact wide96_wide a.k
  v h r e := by
    rw [V_v]
    exact (pair_right r (lane h e) _).trans (wide64_wide a.v h r e)
  o := by rw [V_saved]; exact saved_held a
  d := by rw [V_d]; exact wide64_wide a.d
  short h t e he := dif_neg (not_lt.2 he)

end Cert.KernelIdeal.Flash
-- ==== Proof.Value.Finite.lean ====
/- The precondition read back: each of the four arguments' entries is a finite float, that is, a real number. -/
module

public import proofs.«01_k».proof.Defs
public import proofs.«01_k».proof.Proof.Value.Host
public import Idealize.ShloMosaic.Lib.ReduceAll
public import Idealize.ShloMosaic.Lib.Decide

@[expose] public section

set_option maxRecDepth 16384

noncomputable section

namespace Cert.Proof.Finite

open Idealize.ShloMosaic Idealize.ShloMosaic.TcCoe Idealize.SL.Sem Cert.Attention

/-- The shape relations the precondition states. -/
instance facts : Cert.Pre_finite.Facts where
  bcast_S_S4096x8x96 := by decide
  reducesTo_S4096x8x96_S_d0_1_2 := by decide
  h_S_ := by decide
  bcast_S_S4096x8x64 := by decide
  reducesTo_S4096x8x64_S_d0_1_2 := by decide

instance : Subsingleton Cert.Pre_finite.S_.Idx := ⟨fun a b => funext fun i => i.elim0⟩

theorem andi_one {a b : BitVec 1} (h : IntOp.andi a b = 1#1) : a = 1#1 ∧ b = 1#1 := by
  revert a b; decide

/-- The word of plus infinity. -/
theorem top_word : Ideal.ofBits .f32 0x7F800000#32 = (⊤ : EReal) := by
  simp [Ideal.ofBits, Ideal.ieee]

/-- A number whose absolute value is below plus infinity is real. -/
theorem real_of_lt {x : EReal} (h : max x (-x) < ⊤) : x = ((x.toReal : ℝ) : EReal) := by
  refine (EReal.coe_toReal (fun e => ?_) fun e => ?_).symm
  · rw [e] at h; simp at h
  · rw [e] at h; simp at h

theorem real_of_one {x : Ideal .f32} (h : FloatOps.cmpf .olt (FloatOps.absf x) (Ideal.ofBits .f32 0x7F800000#32) = 1#1) :
    x = ((EReal.toReal x : ℝ) : EReal) := by
  rw [top_word] at h
  refine real_of_lt ?_
  by_contra hlt
  simp [Ideal.cmpf_def, Ideal.absf_def, Ideal.cmp, hlt] at h

open Cert.Pre_finite in
/-- The four arguments' entries, of the precondition. -/
theorem entries {q k : FVec Ideal S4096x8x96 .f32} {v d : FVec Ideal S4096x8x64 .f32}
    (h : Cert.Pre_finite.fn (F := Ideal) q k v d = fun _ => 1#1) :
    (∀ i, q i = ((EReal.toReal (q i) : ℝ) : EReal)) ∧ (∀ i, k i = ((EReal.toReal (k i) : ℝ) : EReal))
      ∧ (∀ i, v i = ((EReal.toReal (v i) : ℝ) : EReal)) ∧ (∀ i, d i = ((EReal.toReal (d i) : ℝ) : EReal)) := by
  have h0 := congrFun h (Shape.Idx.first Facts.h_S_)
  obtain ⟨h1, hd⟩ := andi_one h0
  obtain ⟨h2, hv⟩ := andi_one h1
  obtain ⟨hq, hk⟩ := andi_one h2
  exact ⟨fun i => real_of_one (Host.reduce_andi_all _ _ _ _ _ hq i), fun i => real_of_one (Host.reduce_andi_all _ _ _ _ _ hk i),
    fun i => real_of_one (Host.reduce_andi_all _ _ _ _ _ hv i), fun i => real_of_one (Host.reduce_andi_all _ _ _ _ _ hd i)⟩

open Cert.KernelIdeal

variable (m : (ℓ : Loc nD τ sig) → Buf (Elt Ideal) ℓ) (c : Dev nD)

/-- The arguments as real numbers. -/
def args : Args where
  q t h e := EReal.toReal (Flash.argQ m c (ix3 t h e))
  k t h e := EReal.toReal (Flash.argK m c (ix3 t h e))
  v t h e := EReal.toReal (Flash.argV m c (ix3 t h e))
  d t h e := EReal.toReal (Flash.argD m c (ix3 t h e))

theorem args_hold (h : Cert.Pre_KernelIdeal_finite m) : Flash.ArgsHold m c (args m c) where
  q t h' e := (entries (h c)).1 _
  k t h' e := (entries (h c)).2.1 _
  v t h' e := (entries (h c)).2.2.1 _
  d t h' e := (entries (h c)).2.2.2 _

end Cert.Proof.Finite
-- ==== Proof.Value.Reference.lean ====
/- What the reference computes: the softmax of the masked scores and, by the rule of differentiation of each of its steps,
   the gradients of the scaled queries, the keys and the values, over the reals. -/
module

public import proofs.«01_k».proof.Proof.Value.Rows
public import proofs.«01_k».proof.Proof.Value.Arrays
public import proofs.«01_k».proof.Proof.Gen.ReferenceIdeal
public import proofs.«01_k».proof.Proof.Gen.ReferenceIdeal.Run

@[expose] public section

set_option maxRecDepth 16384

noncomputable section

namespace Cert.ReferenceIdeal.Grad

open Idealize.ShloMosaic Idealize.ShloMosaic.TcCoe Idealize.SL.Sem Gen Cert.Attention

/-! ## The steps -/

/-- The scaled queries. -/
def scaled (q : FVec Ideal S4096x8x96 .f32) : FVec Ideal S4096x8x96 .f32 :=
  mulf q (broadcastInDim S4096x8x96 ![] bcast_S_S4096x8x96 (constant S_ .f32 0x3DD105EC#32))

/-- Which keys a query sees. -/
def seen : IVec S8x4096x4096 1 :=
  broadcastInDim S8x4096x4096 ![1, 2] bcast_S4096x4096_S8x4096x4096_1_2
    (cmpi .sge
      (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))

/-- The masked scores of the scaled queries. -/
def maskedScores (q k : FVec Ideal S4096x8x96 .f32) : FVec Ideal S8x4096x4096 .f32 :=
  select seen (Host.dotGeneral dot_S4096x8x96_S4096x8x96_S8x4096x4096_2_2_0_0_1_1 none q k)
    (broadcastInDim S8x4096x4096 ![] bcast_S_S8x4096x4096 (id (constant S_ .f32 0xFF800000#32)))

/-- The greatest score of each row. -/
def rowTop (X : FVec Ideal S8x4096x4096 .f32) : FVec Ideal S8x4096 .f32 :=
  Host.reduce FloatOps.maximumf X (constant S_ .f32 0xFF800000#32) reducesTo_S8x4096x4096_S8x4096_d2 h_S_

/-- Not below minus infinity, in a unit lane. -/
def rowMax (T : FVec Ideal S8x4096 .f32) : FVec Ideal S8x4096x1 .f32 :=
  broadcastInDim S8x4096x1 ![0, 1] bcast_S8x4096_S8x4096x1_0_1
    (maximumf (broadcastInDim S8x4096 ![] bcast_S_S8x4096 (constant S_ .f32 0xFF800000#32)) T)

/-- The exponentials of the shifted scores. -/
def rowExp (X : FVec Ideal S8x4096x4096 .f32) (M : FVec Ideal S8x4096x1 .f32) : FVec Ideal S8x4096x4096 .f32 :=
  Host.exp (subf X (broadcastInDim S8x4096x4096 ![0, 1, 2] bcast_S8x4096x1_S8x4096x4096_0_1_2 M))

/-- Their sum, in a unit lane. -/
def rowSum (E : FVec Ideal S8x4096x4096 .f32) : FVec Ideal S8x4096x1 .f32 :=
  broadcastInDim S8x4096x1 ![0, 1] bcast_S8x4096_S8x4096x1_0_1
    (Host.reduceAdd E (constant S_ .f32 0x00000000#32) reducesTo_S8x4096x4096_S8x4096_d2 h_S_)

/-- A row's number at every key. -/
def spread (S : FVec Ideal S8x4096x1 .f32) : FVec Ideal S8x4096x4096 .f32 :=
  broadcastInDim S8x4096x4096 ![0, 1, 2] bcast_S8x4096x1_S8x4096x4096_0_1_2 S

/-- The weights. -/
def weights (E : FVec Ideal S8x4096x4096 .f32) (S : FVec Ideal S8x4096x1 .f32) : FVec Ideal S8x4096x4096 .f32 :=
  Host.divf E (spread S)

/-- The gradients of the weights. -/
def dweights (v d : FVec Ideal S4096x8x64 .f32) : FVec Ideal S8x4096x4096 .f32 :=
  Host.dotGeneral dot_S8x64x4096_S4096x8x64_S8x4096x4096_1_2_2_0_0_1 none (transpose S8x64x4096 [1, 2, 0] d transposes_S4096x8x64_S8x64x4096_1_2_0) v

/-- The gradients of the values. -/
def dvalues (d : FVec Ideal S4096x8x64 .f32) (P : FVec Ideal S8x4096x4096 .f32) : FVec Ideal S4096x8x64 .f32 :=
  transpose S4096x8x64 [2, 0, 1]
    (Host.dotGeneral dot_S8x64x4096_S8x4096x4096_S8x64x4096_2_1_1_2_0_0 none (transpose S8x64x4096 [1, 2, 0] d transposes_S4096x8x64_S8x64x4096_1_2_0) P)
    transposes_S8x64x4096_S4096x8x64_2_0_1

/-- One over the square of a row's sum. -/
def inverseSquare (S : FVec Ideal S8x4096x1 .f32) : FVec Ideal S8x4096x1 .f32 :=
  Host.divf (broadcastInDim S8x4096x1 ![] bcast_S_S8x4096x1 (constant S_ .f32 0x3F800000#32)) (mulf S S)

/-- The gradient of a row's sum, before its sign. -/
def rowGrad (D E : FVec Ideal S8x4096x4096 .f32) (R : FVec Ideal S8x4096x1 .f32) : FVec Ideal S8x4096 .f32 :=
  Host.reduceAdd (mulf (mulf D (spread R)) E) (constant S_ .f32 0x00000000#32) reducesTo_S8x4096x4096_S8x4096_d2 h_S_

/-- With its sign. -/
def rowNeg (G : FVec Ideal S8x4096 .f32) : FVec Ideal S8x4096 .f32 :=
  Host.reduceAdd (Host.negf (shapeCast S8x4096x1 G shapeCasts_S8x4096_S8x4096x1)) (constant S_ .f32 0x00000000#32) reducesTo_S8x4096x1_S8x4096_d2 h_S_

/-- The gradients of the scores. -/
def dscores (D E : FVec Ideal S8x4096x4096 .f32) (S : FVec Ideal S8x4096x1 .f32) (N : FVec Ideal S8x4096 .f32) : FVec Ideal S8x4096x4096 .f32 :=
  select seen
    (mulf (addf (Host.divf D (spread S)) (broadcastInDim S8x4096x4096 ![0, 1] bcast_S8x4096_S8x4096x4096_0_1 N)) E)
    (broadcastInDim S8x4096x4096 ![] bcast_S_S8x4096x4096 (constant S_ .f32 0x00000000#32))

/-- The gradients of the keys. -/
def dkeys (G : FVec Ideal S8x4096x4096 .f32) (q : FVec Ideal S4096x8x96 .f32) : FVec Ideal S4096x8x96 .f32 :=
  transpose S4096x8x96 [1, 0, 2] (Host.dotGeneral dot_S8x4096x4096_S4096x8x96_S8x4096x96_1_0_2_2_0_1 none G q) transposes_S8x4096x96_S4096x8x96_1_0_2

/-- The gradients of the scaled queries. -/
def dqueries (G : FVec Ideal S8x4096x4096 .f32) (k : FVec Ideal S4096x8x96 .f32) : FVec Ideal S4096x8x96 .f32 :=
  transpose S4096x8x96 [1, 0, 2] (Host.dotGeneral dot_S8x4096x4096_S4096x8x96_S8x4096x96_2_0_1_2_0_1 none G k) transposes_S8x4096x96_S4096x8x96_1_0_2

/-- Heads of 96 lanes, zeros behind them, side by side. -/
def wide96 (x : FVec Ideal S4096x8x96 .f32) : FVec Ideal S4096x1024 .f32 :=
  shapeCast S4096x1024
    (concatenate S4096x8x128 2 [⟨S4096x8x96, x⟩, ⟨S4096x8x32, broadcastInDim S4096x8x32 ![] bcast_S_S4096x8x32 (constant S_ .f32 0x00000000#32)⟩]
      concatenates_S4096x8x96_S4096x8x32_S4096x8x128_d2) shapeCasts_S4096x8x128_S4096x1024

/-- Heads of 64 lanes. -/
def wide64 (x : FVec Ideal S4096x8x64 .f32) : FVec Ideal S4096x1024 .f32 :=
  shapeCast S4096x1024
    (concatenate S4096x8x128 2 [⟨S4096x8x64, x⟩, ⟨S4096x8x64, broadcastInDim S4096x8x64 ![] bcast_S_S4096x8x64 (constant S_ .f32 0x00000000#32)⟩]
      concatenates_S4096x8x64_S4096x8x64_S4096x8x128_d2) shapeCasts_S4096x8x128_S4096x1024

variable {A : Args}

/-! ## Their entries -/

theorem scaled_holds {q : FVec Ideal S4096x8x96 .f32} (hq : Holds3 q A.q) : Holds3 (scaled q) fun t h e => A.q t h e * scale := by
  intro t h e
  pointwise [scaled]
  rw [hq t h e, scale_word, ← EReal.coe_mul]

theorem seen_apply (h : Fin 8) (t s : Fin 4096) : seen (ix3 h t s) = BitVec.ofBool (decide (s.val ≤ t.val)) := by
  pointwise [seen]
  exact Cert.KernelIdeal.Flash.sge_ofNat t.isLt s.isLt

theorem choose_seen (t s : Fin 4096) (x y : EReal) :
    Scalar.select (BitVec.ofBool (decide (s.val ≤ t.val))) x y = if s ≤ t then x else y := by
  by_cases hle : s ≤ t
  · rw [if_pos hle, decide_eq_true (Fin.le_def.1 hle)]; rfl
  · rw [if_neg hle, decide_eq_false (fun h => hle (Fin.le_def.2 h))]; rfl

theorem maskedScores_apply {q k : FVec Ideal S4096x8x96 .f32} (hq : Holds3 q fun t h e => A.q t h e * scale) (hk : Holds3 k A.k)
    (h : Fin 8) (t s : Fin 4096) : maskedScores q k (ix3 h t s) = if s ≤ t then (((A.head h).score t s : ℝ) : EReal) else ⊥ := by
  pointwise [maskedScores]
  rw [seen_apply, choose_seen]
  simp_rw [hq t h _, hk s h _, coe_dot, ← A.score_eq]
  exact congrArg (ite _ _) mask_word

theorem rowTop_apply {X : FVec Ideal S8x4096x4096 .f32} (hX : ∀ h t s, X (ix3 h t s) = if s ≤ t then (((A.head h).score t s : ℝ) : EReal) else ⊥)
    (h : Fin 8) (t : Fin 4096) : ∃ μ : ℝ, rowTop X (ix2 h t) = ((μ : ℝ) : EReal) := by
  pointwise [rowTop]
  rw [mask_word]
  simp_rw [hX]
  exact max_row _ t

theorem rowMax_apply {T : FVec Ideal S8x4096 .f32} {μ : Fin 8 → Fin 4096 → ℝ} (hT : ∀ h t, T (ix2 h t) = ((μ h t : ℝ) : EReal))
    (h : Fin 8) (t : Fin 4096) : rowMax T (ix3 h t 0) = ((μ h t : ℝ) : EReal) := by
  pointwise [rowMax]
  rw [mask_word, hT]
  exact max_eq_right bot_le

theorem rowExp_holds {X : FVec Ideal S8x4096x4096 .f32} (hX : ∀ h t s, X (ix3 h t s) = if s ≤ t then (((A.head h).score t s : ℝ) : EReal) else ⊥)
    {M : FVec Ideal S8x4096x1 .f32} {μ : Fin 8 → Fin 4096 → ℝ} (hM : ∀ h t, M (ix3 h t 0) = ((μ h t : ℝ) : EReal)) :
    Holds3 (rowExp X M) fun h t s => (A.head h).shifted (μ h t) t s := by
  intro h t s
  pointwise [rowExp]
  rw [hM, hX, exp_row]

section
variable {E : FVec Ideal S8x4096x4096 .f32} {μ : Fin 8 → Fin 4096 → ℝ} (hE : Holds3 E fun h t s => (A.head h).shifted (μ h t) t s)
  {S : FVec Ideal S8x4096x1 .f32} (hS : ∀ h t, S (ix3 h t 0) = ((∑ s, (A.head h).shifted (μ h t) t s : ℝ) : EReal))

include hE in
theorem rowSum_apply (h : Fin 8) (t : Fin 4096) : rowSum E (ix3 h t 0) = ((∑ s, (A.head h).shifted (μ h t) t s : ℝ) : EReal) := by
  pointwise [rowSum]
  simp_rw [hE h t _]
  exact coe_sum _ _

include hS in
theorem spread_apply (h : Fin 8) (t s : Fin 4096) : spread S (ix3 h t s) = ((∑ s, (A.head h).shifted (μ h t) t s : ℝ) : EReal) := by
  pointwise [spread]
  exact hS h t

include hE hS in
theorem weights_holds : Holds3 (weights E S) fun h => (A.head h).weight := by
  intro h t s
  pointwise [weights]
  rw [spread_apply hS, hE, div_real ((A.head h).sum_shifted_pos (μ h t) t).ne', Head.shifted_div]

include hS in
theorem inverseSquare_apply (h : Fin 8) (t : Fin 4096) : inverseSquare S (ix3 h t 0)
    = ((1 / ((∑ s, (A.head h).shifted (μ h t) t s) * ∑ s, (A.head h).shifted (μ h t) t s) : ℝ) : EReal) := by
  have hp := ((A.head h).sum_shifted_pos (μ h t) t).ne'
  pointwise [inverseSquare]
  rw [hS, ← EReal.coe_mul, ← EReal.coe_one, div_real (mul_ne_zero hp hp)]
end

theorem dweights_holds {v d : FVec Ideal S4096x8x64 .f32} (hv : Holds3 v A.v) (hd : Holds3 d A.d) :
    Holds3 (dweights v d) fun h => (A.head h).dweight := by
  intro h t s
  pointwise [dweights]
  simp_rw [hd t h _, hv s h _, coe_dot, ← A.dweight_eq]

theorem dvalues_holds {d : FVec Ideal S4096x8x64 .f32} {P : FVec Ideal S8x4096x4096 .f32} (hd : Holds3 d A.d)
    (hP : Holds3 P fun h => (A.head h).weight) : Holds3 (dvalues d P) fun s h e => ∑ t, (A.head h).weight t s * A.d t h e := by
  intro s h e
  pointwise [dvalues]
  simp_rw [hd _ h e, hP h _ s, coe_dot, mul_comm]

section
variable {D E : FVec Ideal S8x4096x4096 .f32} {μ : Fin 8 → Fin 4096 → ℝ} (hD : Holds3 D fun h => (A.head h).dweight)
  (hE : Holds3 E fun h t s => (A.head h).shifted (μ h t) t s)

include hD hE in
theorem rowGrad_apply {R : FVec Ideal S8x4096x1 .f32} {ν : Fin 8 → Fin 4096 → ℝ} (hR : ∀ h t, R (ix3 h t 0) = ((ν h t : ℝ) : EReal))
    (h : Fin 8) (t : Fin 4096) :
    rowGrad D E R (ix2 h t) = ((∑ s, (A.head h).dweight t s * ν h t * (A.head h).shifted (μ h t) t s : ℝ) : EReal) := by
  pointwise [rowGrad, spread]
  simp_rw [hD h t _, hE h t _, hR, ← EReal.coe_mul]
  exact coe_sum _ _

theorem rowNeg_apply {G : FVec Ideal S8x4096 .f32} {g : Fin 8 → Fin 4096 → ℝ} (hG : ∀ h t, G (ix2 h t) = ((g h t : ℝ) : EReal))
    (h : Fin 8) (t : Fin 4096) : rowNeg G (ix2 h t) = ((-g h t : ℝ) : EReal) := by
  pointwise [rowNeg]
  rw [hG, ← EReal.coe_neg]
  simp

include hD hE in
theorem dscores_holds {S : FVec Ideal S8x4096x1 .f32} (hS : ∀ h t, S (ix3 h t 0) = ((∑ s, (A.head h).shifted (μ h t) t s : ℝ) : EReal))
    {N : FVec Ideal S8x4096 .f32} (hN : ∀ h t, N (ix2 h t) = ((-∑ s, (A.head h).dweight t s
      * (1 / ((∑ u, (A.head h).shifted (μ h t) t u) * ∑ u, (A.head h).shifted (μ h t) t u)) * (A.head h).shifted (μ h t) t s : ℝ) : EReal)) :
    Holds3 (dscores D E S N) fun h => (A.head h).dscore := by
  intro h t s
  pointwise [dscores]
  rw [seen_apply, choose_seen, spread_apply hS, hD, hE, hN, div_real ((A.head h).sum_shifted_pos (μ h t) t).ne', ← EReal.coe_add, ← EReal.coe_mul]
  by_cases hle : s ≤ t
  · rw [if_pos hle, div_eq_mul_one_div]
    exact congrArg _ ((A.head h).dscore_quotient (μ h t) t s)
  · rw [if_neg hle, Head.dscore_of_lt _ (not_le.1 hle), EReal.coe_zero]
end

theorem dkeys_holds {G : FVec Ideal S8x4096x4096 .f32} {q : FVec Ideal S4096x8x96 .f32} (hG : Holds3 G fun h => (A.head h).dscore)
    (hq : Holds3 q fun t h e => A.q t h e * scale) :
    Holds3 (dkeys G q) fun s h e => ∑ t, (A.head h).dscore t s * (A.q t h e * scale) := by
  intro s h e
  pointwise [dkeys]
  simp_rw [hG h _ s, hq _ h e, coe_dot]

theorem dqueries_holds {G : FVec Ideal S8x4096x4096 .f32} {k : FVec Ideal S4096x8x96 .f32} (hG : Holds3 G fun h => (A.head h).dscore)
    (hk : Holds3 k A.k) : Holds3 (dqueries G k) fun t h e => ∑ s, (A.head h).dscore t s * A.k s h e := by
  intro t h e
  pointwise [dqueries]
  simp_rw [hG h t _, hk _ h e, coe_dot]

theorem wide96_wide {x : FVec Ideal S4096x8x96 .f32} {f : Fin 4096 → Fin 8 → Fin 96 → ℝ} (hx : Holds3 x f) :
    Wide (a := 4096) (wide96 x) fun h r => padded fun e => f r h e := by
  intro h r e
  pointwise [wide96]
  simp only [lane_div, lane_mod, padded]
  split_ifs with he
  · exact hx r h ⟨e.val, he⟩
  · exact EReal.coe_zero.symm

theorem wide64_wide {x : FVec Ideal S4096x8x64 .f32} {f : Fin 4096 → Fin 8 → Fin 64 → ℝ} (hx : Holds3 x f) :
    Wide (a := 4096) (wide64 x) fun h r => padded fun e => f r h e := by
  intro h r e
  pointwise [wide64]
  simp only [lane_div, lane_mod, padded]
  split_ifs with he
  · exact hx r h ⟨e.val, he⟩
  · exact EReal.coe_zero.symm

/-! ## The three gradients -/

variable (m : (ℓ : Loc nD τ sig) → Buf (Elt Ideal) ℓ) (c : Dev nD)

/-- The four arguments. -/
abbrev argQ : FVec Ideal S4096x8x96 .f32 := m ((c.tc : Thread nD τ).loc main_arg0)
abbrev argK : FVec Ideal S4096x8x96 .f32 := m ((c.tc : Thread nD τ).loc main_arg1)
abbrev argV : FVec Ideal S4096x8x64 .f32 := m ((c.tc : Thread nD τ).loc main_arg2)
abbrev argD : FVec Ideal S4096x8x64 .f32 := m ((c.tc : Thread nD τ).loc main_arg3)

/-- The rows' exponentials and sums. -/
abbrev scoresOf : FVec Ideal S8x4096x4096 .f32 := maskedScores (scaled (argQ m c)) (argK m c)
abbrev expOf : FVec Ideal S8x4096x4096 .f32 := rowExp (scoresOf m c) (rowMax (rowTop (scoresOf m c)))
abbrev sumOf : FVec Ideal S8x4096x1 .f32 := rowSum (expOf m c)

/-- The scores' gradients. -/
abbrev dscoresOf : FVec Ideal S8x4096x4096 .f32 :=
  dscores (dweights (argV m c) (argD m c)) (expOf m c) (sumOf m c)
    (rowNeg (rowGrad (dweights (argV m c) (argD m c)) (expOf m c) (inverseSquare (sumOf m c))))

theorem res_dq : Value.res_main_v63 m c = wide96 (dqueries (dscoresOf m c) (argK m c)) := by
  unfold Value.res_main_v63
  rfl

theorem res_dk : Value.res_main_v66 m c = wide96 (dkeys (dscoresOf m c) (scaled (argQ m c))) := by
  unfold Value.res_main_v66
  rfl

theorem res_dv : Value.res_main_v69 m c = wide64 (dvalues (argD m c) (weights (expOf m c) (sumOf m c))) := by
  unfold Value.res_main_v69
  rfl

/-- The arguments hold the real numbers `A`. -/
structure ArgsHold (A : Args) : Prop where
  q : Holds3 (argQ m c) A.q
  k : Holds3 (argK m c) A.k
  v : Holds3 (argV m c) A.v
  d : Holds3 (argD m c) A.d

variable {m c} (a : ArgsHold m c A)
include a

/-- The rows' exponentials are shifted by a real number each. -/
theorem expOf_holds : ∃ μ : Fin 8 → Fin 4096 → ℝ, Holds3 (expOf m c) fun h t s => (A.head h).shifted (μ h t) t s := by
  have hX := maskedScores_apply (A := A) (scaled_holds a.q) a.k
  choose μ hμ using fun h t => rowTop_apply (A := A) hX h t
  exact ⟨μ, rowExp_holds (A := A) hX (rowMax_apply hμ)⟩

theorem dscoresOf_holds : Holds3 (dscoresOf m c) fun h => (A.head h).dscore := by
  obtain ⟨μ, hE⟩ := expOf_holds a
  have hS := rowSum_apply (A := A) hE
  have hD := dweights_holds (A := A) a.v a.d
  exact dscores_holds (A := A) hD hE hS (rowNeg_apply (rowGrad_apply (A := A) hD hE (inverseSquare_apply (A := A) hS)))

theorem weightsOf_holds : Holds3 (weights (expOf m c) (sumOf m c)) fun h => (A.head h).weight := by
  obtain ⟨μ, hE⟩ := expOf_holds a
  exact weights_holds (A := A) hE (rowSum_apply (A := A) hE)

theorem dq_eq : Value.res_main_v63 m c = wideOf (a := 4096) fun h => (A.head h).dq := by
  rw [res_dq]
  refine Wide.eq fun h r e => (wide96_wide (dqueries_holds (A := A) (dscoresOf_holds a) a.k) h r e).trans (congrArg _ ?_)
  exact (A.dq_eq h r e).symm

theorem dk_eq : Value.res_main_v66 m c = wideOf (a := 4096) fun h => (A.head h).dk := by
  rw [res_dk]
  refine Wide.eq fun h r e => (wide96_wide (dkeys_holds (A := A) (dscoresOf_holds a) (scaled_holds a.q)) h r e).trans (congrArg _ ?_)
  exact (A.dk_eq h r e).symm

theorem dv_eq : Value.res_main_v69 m c = wideOf (a := 4096) fun h => (A.head h).dv := by
  rw [res_dv]
  refine Wide.eq fun h r e => (wide64_wide (dvalues_holds (A := A) a.d (weightsOf_holds a)) h r e).trans (congrArg _ ?_)
  exact (A.dv_eq h r e).symm

end Cert.ReferenceIdeal.Grad
-- ==== Proof.Gradients.lean ====
/- The kernel's three results are the reference's: both are the gradients of eight attention heads over the reals. -/
module

public import proofs.«01_k».proof.Proof.Frames
public import proofs.«01_k».proof.Proof.Value.Finite
public import proofs.«01_k».proof.Proof.Value.Reference

@[expose] public section

noncomputable section

namespace Cert.Proof

open Idealize.ShloMosaic Idealize.ShloMosaic.TcCoe Idealize.SL.Sem Cert.Attention

section
open Cert.KernelIdeal Cert.KernelIdeal.Flash

/-- The kernel leaves the gradients of the arguments' heads, and the arguments as they were. -/
theorem kernel_grads (m : (ℓ : Loc nD τ sig) → Buf (Elt Ideal) ℓ) (ρ : Dev nD → PrngReg) (A : Dev nD → Args)
    (a : ∀ c, ArgsHold m c (A c)) :
    θ_run defs (onTc (τ := τ) (main (F := Ideal))) ⟨m, fun _ => 0, ρ⟩ (fun r => ∀ c : Dev nD,
      r.2.mem ((c.tc : Thread nD τ).loc main_v41_0) = wideOf (a := 4096) (fun h => ((A c).head h).dq)
      ∧ r.2.mem ((c.tc : Thread nD τ).loc main_v41_1) = wideOf (a := 4096) (fun h => ((A c).head h).dk)
      ∧ r.2.mem ((c.tc : Thread nD τ).loc main_v41_2) = wideOf (a := 4096) (fun h => ((A c).head h).dv)) :=
  (θ_run defs _ _).mono (fun r h c =>
    ⟨(h.1.2 c main_v41_0 (by decide)).trans ((G_out m c).trans (arr_dq (V m) c (launched (a c)))),
     ((h.1.1 c).1 5).trans (arr_dk (V m) c (launched (a c))),
     ((h.1.1 c).1 6).trans (arr_dv (V m) c (launched (a c)))⟩) (run_main m ρ)
end

section
open Cert.ReferenceIdeal Cert.ReferenceIdeal.Grad

/-- So does the reference. -/
theorem reference_grads (m : (ℓ : Loc nD τ sig) → Buf (Elt Ideal) ℓ) (ρ : Dev nD → PrngReg) (A : Dev nD → Args)
    (a : ∀ c, ArgsHold m c (A c)) :
    θ_run defs (onTc (τ := τ) (main (F := Ideal))) ⟨m, fun _ => 0, ρ⟩ (fun r => ∀ c : Dev nD,
      r.2.mem ((c.tc : Thread nD τ).loc main_v63) = wideOf (a := 4096) (fun h => ((A c).head h).dq)
      ∧ r.2.mem ((c.tc : Thread nD τ).loc main_v66) = wideOf (a := 4096) (fun h => ((A c).head h).dk)
      ∧ r.2.mem ((c.tc : Thread nD τ).loc main_v69) = wideOf (a := 4096) (fun h => ((A c).head h).dv)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.trans (dq_eq (a c)), (h c).2.1.trans (dk_eq (a c)), (h c).2.2.1.trans (dv_eq (a c)), (h c).2.2.2⟩) (Value.run m ρ)
end

theorem gradients : Cert.algebraic_KernelIdeal_ReferenceIdeal_pre_finite := fun m g m' g' hpre hagree => by
  have a : ∀ c, Cert.KernelIdeal.Flash.ArgsHold m c (Finite.args m c) := fun c => Finite.args_hold m c hpre
  have a' : ∀ c, Cert.ReferenceIdeal.Grad.ArgsHold m' c (Finite.args m c) := fun c =>
    { q := fun t h e => (congrFun (hagree c).1 _).trans ((a c).q t h e)
      k := fun t h e => (congrFun (hagree c).2.1 _).trans ((a c).k t h e)
      v := fun t h e => (congrFun (hagree c).2.2.1 _).trans ((a c).v t h e)
      d := fun t h e => (congrFun (hagree c).2.2.2 _).trans ((a c).d t h e) }
  refine ⟨fun c => wideOf (a := 4096) fun h => ((Finite.args m c).head h).dq, fun c => wideOf (a := 4096) fun h => ((Finite.args m c).head h).dk,
    fun c => wideOf (a := 4096) fun h => ((Finite.args m c).head h).dv, ?_, reference_grads m' g' _ a'⟩
  exact (θ_run Cert.KernelIdeal.defs _ _).mono (fun r h c => ⟨(h.1 c).1, (h.1 c).2.1, (h.1 c).2.2, h.2.1 c⟩)
    (θ_run_and (kernel_grads m g _ a) (Cert.KernelIdeal.Flash.frame m g))

end Cert.Proof
-- ==== Proof.Forward.Body.lean ====
/- The body of the forward pass, written as eight times one step. A point of its grid scores a block of queries against a
   block of keys and carries three arrays from block to block: the largest score of a row so far, the sum of the
   exponentials below it, and the values so weighted. The work on one head is a program of its own, `head`, and the
   division that ends a row of blocks another, `finish`. -/
module

public import proofs.«01_k».proof.Proof.Gen.Kernel20Ideal.Skeleton

@[expose] public section

set_option synthInstance.maxSize 4096

noncomputable section

namespace Cert.Kernel20Ideal.Flash

open Idealize.ShloMosaic Idealize.SL.Sem Gen

variable {F : FTy → Type} [FloatOps F]

/-! ## The values of one head, from what its loads read -/

/-- The scores of a block of queries against a block of keys. -/
def scores (q k : Vec F S512x128 .bf16) : FVec F S512x512 .f32 :=
  matmul dot_S512x128_S512x128_S512x512_1_1_0_0_n_n none (shapeCast S512x128 q shapeCasts_S512x128_S512x128 : FVec F S512x128 .bf16)
    (shapeCast S512x128 k shapeCasts_S512x128_S512x128 : FVec F S512x128 .bf16) (constant S512x512 .f32 0x00000000#32)

/-- The same on a diagonal block, where a key after its query scores minus infinity. -/
def scoresDiag (q k : Vec F S512x128 .bf16) : FVec F S512x512 .f32 :=
  select (cmpi .sge (iota .tc S512x512 32 [0] iota_S512x512_d0_w32) (iota .tc S512x512 32 [1] iota_S512x512_d1_w32))
    (scores q k) (broadcast S512x512 (Scalar.ofBits .f32 0xFF800000#32 : F .f32))

/-- A row's largest score, the block's scores taken in. -/
def rowMax (s : FVec F S512x512 .f32) (m : Vec F S512x128 .f32) : FVec F S512x128 .f32 :=
  maximumf m (broadcastTo S512x128
    (shapeCast S512x1 (multiReduction .maximumf [1] S512 s 0xFF800000#32 reduces_S512x512_S512 (.inl rfl) rfl : FVec F S512 .f32)
      shapeCasts_S512_S512x1 : FVec F S512x1 .f32) broadcasts_S512x1_S512x128)

/-- The exponentials of the scores below that. -/
def expos (s : FVec F S512x512 .f32) (m : Vec F S512x128 .f32) : FVec F S512x512 .f32 :=
  exp (subf s (concatenate S512x512 1
    [⟨S512x128, rowMax s m⟩, ⟨S512x128, rowMax s m⟩, ⟨S512x128, rowMax s m⟩, ⟨S512x128, rowMax s m⟩]
    concatenates_S512x128_S512x128_S512x128_S512x128_S512x512_d1))

/-- What the carried sums are scaled by. -/
def rescale (s : FVec F S512x512 .f32) (m : Vec F S512x128 .f32) : FVec F S512x128 .f32 := exp (subf m (rowMax s m))

/-- The largest scores, as stored. -/
def maxNext (s : FVec F S512x512 .f32) (m : Vec F S512x128 .f32) : FVec F S512x128 .f32 :=
  shapeCast S512x128 (rowMax s m) shapeCasts_S512x128_S512x128

/-- The sum of the exponentials with the block's share added. -/
def sumNext (s : FVec F S512x512 .f32) (m l : Vec F S512x128 .f32) : FVec F S512x128 .f32 :=
  shapeCast S512x128
    (addf (mulf (rescale s m) l)
      (broadcastTo S512x128
        (shapeCast S512x1 (multiReduction .add [1] S512 (expos s m) 0x00000000#32 reduces_S512x512_S512 (.inl rfl) rfl : FVec F S512 .f32)
          shapeCasts_S512_S512x1 : FVec F S512x1 .f32) broadcasts_S512x1_S512x128))
    shapeCasts_S512x128_S512x128

/-- The weighted values with the block's share added. -/
def accNext (s : FVec F S512x512 .f32) (m a : Vec F S512x128 .f32) (v : Vec F S512x128 .bf16) : FVec F S512x128 .f32 :=
  shapeCast S512x128
    (addf (mulf (rescale s m) a)
      (matmul dot_S512x512_S512x128_S512x128_1_0_0_1_n_n none (truncf .bf16 (expos s m) bitsLt_bf16_f32)
        (shapeCast S512x128 v shapeCasts_S512x128_S512x128 : FVec F S512x128 .bf16) (constant S512x128 .f32 0x00000000#32)))
    shapeCasts_S512x128_S512x128

/-- The result of a head: the weighted values over the sum in the lower 64 lanes, the logarithm of the sum in the others. -/
def result (m l a : Vec F S512x128 .f32) : FVec F S512x128 .f32 :=
  select (cmpi .slt (iota .tc S512x128 32 [1] iota_S512x128_d1_w32 : IVec S512x128 32) (broadcast S512x128 64#32))
    (divf a l) (addf m (log l))

/-! ## The step of one head -/

/-- A window of 128 lanes lies inside a block. -/
theorem inb (c : Nat) (hc : c + 128 ≤ 1024) : ∀ a : Fin 2, (![0, c] : Fin 2 → Nat) a + S512x128.size a ≤ S512x1024.size a := by
  intro a; fin_cases a
  · exact Nat.le_refl 512
  · exact hc

/-- The lanes of the head that starts at lane `c`. -/
abbrev lanes (c : Nat) (hc : c + 128 ≤ 1024) : Rect S512x1024 :=
  Rect.unit (s := S512x1024) ![0, c] S512x128.size (inb c hc)

/-- A way to score a block of queries against a block of keys. -/
abbrev Score (F : FTy → Type) [FloatOps F] : Type := Vec F S512x128 .bf16 → Vec F S512x128 .bf16 → FVec F S512x512 .f32

section
variable (sc : Score F) (a4 a5 a6 : Memref sig .tc .vmem S512x1024 .bf16) (a7 a8 a9 a10 : Memref sig .tc .vmem S512x1024 .f32)

/-- What the body does for the head at lanes `c` to `c + 127`. -/
def head (c : Nat) (hc : c + 128 ≤ 1024) : Prog (TpuEff nD τ sig (Elt F) Λ₀ .tc) PUnit := do
  let q : Vec F S512x128 .bf16 ← Prog.lift (.load a4 (lanes c hc).toLoadRect (View.loadsAt_vmem h_S512x128))
  let k : Vec F S512x128 .bf16 ← Prog.lift (.load a5 (lanes c hc).toLoadRect (View.loadsAt_vmem h_S512x128))
  let m : Vec F S512x128 .f32 ← Prog.lift (.load a8 (lanes c hc).toLoadRect (View.loadsAt_vmem h_S512x128))
  let l : Vec F S512x128 .f32 ← Prog.lift (.load a9 (lanes c hc).toLoadRect (View.loadsAt_vmem h_S512x128))
  let l' : Vec F S512x128 .f32 ← Prog.lift (.load a9 (lanes c hc).toLoadRect (View.loadsAt_vmem h_S512x128))
  Prog.lift (.store a9 (lanes c hc) (sumNext (sc q k) m l) Finset.univ (View.stores_vmem_bits_univ h_S512x128 rfl) (.inl rfl))
  let a : Vec F S512x128 .f32 ← Prog.lift (.load a10 (lanes c hc).toLoadRect (View.loadsAt_vmem h_S512x128))
  let v : Vec F S512x128 .bf16 ← Prog.lift (.load a6 (lanes c hc).toLoadRect (View.loadsAt_vmem h_S512x128))
  let a' : Vec F S512x128 .f32 ← Prog.lift (.load a10 (lanes c hc).toLoadRect (View.loadsAt_vmem h_S512x128))
  Prog.lift (.store a10 (lanes c hc) (accNext (sc q k) m a v) Finset.univ (View.stores_vmem_bits_univ h_S512x128 rfl) (.inl rfl))
  let m' : Vec F S512x128 .f32 ← Prog.lift (.load a8 (lanes c hc).toLoadRect (View.loadsAt_vmem h_S512x128))
  Prog.lift (.store a8 (lanes c hc) (maxNext (sc q k) m) Finset.univ (View.stores_vmem_bits_univ h_S512x128 rfl) (.inl rfl))

/-- The eight heads, one after another. -/
def heads : Prog (TpuEff nD τ sig (Elt F) Λ₀ .tc) PUnit := do
  head sc a4 a5 a6 a8 a9 a10 0 (by decide)
  head sc a4 a5 a6 a8 a9 a10 128 (by decide)
  head sc a4 a5 a6 a8 a9 a10 256 (by decide)
  head sc a4 a5 a6 a8 a9 a10 384 (by decide)
  head sc a4 a5 a6 a8 a9 a10 512 (by decide)
  head sc a4 a5 a6 a8 a9 a10 640 (by decide)
  head sc a4 a5 a6 a8 a9 a10 768 (by decide)
  head sc a4 a5 a6 a8 a9 a10 896 (by decide)

/-- The end of a row of blocks, for one head. -/
def finish (c : Nat) (hc : c + 128 ≤ 1024) : Prog (TpuEff nD τ sig (Elt F) Λ₀ .tc) PUnit := do
  let l : Vec F S512x128 .f32 ← Prog.lift (.load a9 (lanes c hc).toLoadRect (View.loadsAt_vmem h_S512x128))
  let a : Vec F S512x128 .f32 ← Prog.lift (.load a10 (lanes c hc).toLoadRect (View.loadsAt_vmem h_S512x128))
  let m : Vec F S512x128 .f32 ← Prog.lift (.load a8 (lanes c hc).toLoadRect (View.loadsAt_vmem h_S512x128))
  let o : Vec F S512x128 .f32 ← Prog.lift (.load a7 (lanes c hc).toLoadRect (View.loadsAt_vmem h_S512x128))
  Prog.lift (.store a7 (lanes c hc) (result m l a) Finset.univ (View.stores_vmem_bits_univ h_S512x128 rfl) (.inl rfl))

/-- The end of a row of blocks. -/
def finishes : Prog (TpuEff nD τ sig (Elt F) Λ₀ .tc) PUnit := do
  finish a7 a8 a9 a10 0 (by decide)
  finish a7 a8 a9 a10 128 (by decide)
  finish a7 a8 a9 a10 256 (by decide)
  finish a7 a8 a9 a10 384 (by decide)
  finish a7 a8 a9 a10 512 (by decide)
  finish a7 a8 a9 a10 640 (by decide)
  finish a7 a8 a9 a10 768 (by decide)
  finish a7 a8 a9 a10 896 (by decide)

end

/-! ## The body -/

/-- The largest scores at the start of a row of blocks: minus infinity. -/
def noMax : Vec F S512x1024 .f32 :=
  shapeCast S512x1024 (broadcast S512x1024 (Scalar.ofBits .f32 0xFF800000#32 : F .f32) : FVec F S512x1024 .f32) shapeCasts_S512x1024_S512x1024

/-- The sums at the start. -/
def noSum : Vec F S512x1024 .f32 :=
  shapeCast S512x1024 (broadcast S512x1024 (Scalar.ofBits .f32 0x00000000#32 : F .f32) : FVec F S512x1024 .f32) shapeCasts_S512x1024_S512x1024

/-- Whether a block is the first of its row: the body's own test. -/
def first (v3 : BitVec 32) : BitVec 1 := Scalar.cmpi .ne (Scalar.extui (Scalar.cmpi .eq v3 0#32)) 0#32

/-- Whether a block lies below the diagonal. -/
def below (v1 v3 : BitVec 32) : BitVec 1 := Scalar.cmpi .ne (Scalar.extui (Scalar.cmpi .slt v3 v1)) 0#32

/-- The whole body: the tables' words, the fills at the first block of a row, the heads off the diagonal or on it, and on
    the diagonal the end of the row. -/
def body (i : grid0.Coords) (arg2 : Memref sig .tc .smem S36 .i32) (arg3 : Memref sig .tc .smem S36 .i32)
    (a4 a5 a6 : Memref sig .tc .vmem S512x1024 .bf16) (a7 a8 a9 a10 : Memref sig .tc .vmem S512x1024 .f32) :
    Prog (TpuEff nD τ sig (Elt F) Λ₀ .tc) PUnit := do
  let v1 : Elt F .i32 ← smemLoad arg2 (Rect.unit (s := S36) (k0_off1 i) S1.size (k0_off1_inb i)) numel1_S1 rfl
  let v3 : Elt F .i32 ← smemLoad arg3 (Rect.unit (s := S36) (k0_off1 i) S1.size (k0_off1_inb i)) numel1_S1 rfl
  if first v3 = 1#1 then do
    let _x : Vec F S512x1024 .f32 ← Prog.lift (.load a8 (Rect.unit (s := S512x1024) ![0, 0] S512x1024.size inb_S512x1024_S512x1024_0_0).toLoadRect (View.loadsAt_vmem h_S512x1024))
    Prog.lift (.store a8 (Rect.unit (s := S512x1024) ![0, 0] S512x1024.size inb_S512x1024_S512x1024_0_0) noMax Finset.univ (View.stores_vmem_bits_univ h_S512x1024 rfl) (.inl rfl))
    let _y : Vec F S512x1024 .f32 ← Prog.lift (.load a9 (Rect.unit (s := S512x1024) ![0, 0] S512x1024.size inb_S512x1024_S512x1024_0_0).toLoadRect (View.loadsAt_vmem h_S512x1024))
    Prog.lift (.store a9 (Rect.unit (s := S512x1024) ![0, 0] S512x1024.size inb_S512x1024_S512x1024_0_0) noSum Finset.univ (View.stores_vmem_bits_univ h_S512x1024 rfl) (.inl rfl))
    let _z : Vec F S512x1024 .f32 ← Prog.lift (.load a10 (Rect.unit (s := S512x1024) ![0, 0] S512x1024.size inb_S512x1024_S512x1024_0_0).toLoadRect (View.loadsAt_vmem h_S512x1024))
    Prog.lift (.store a10 (Rect.unit (s := S512x1024) ![0, 0] S512x1024.size inb_S512x1024_S512x1024_0_0) noSum Finset.univ (View.stores_vmem_bits_univ h_S512x1024 rfl) (.inl rfl))
  else pure ⟨⟩
  if below v1 v3 = 1#1 then heads scores a4 a5 a6 a8 a9 a10 else pure ⟨⟩
  if _h3 : k0_cond3 v1 v3 = 1#1 then do
    heads scoresDiag a4 a5 a6 a8 a9 a10
    finishes a7 a8 a9 a10
  else pure ⟨⟩

end Cert.Kernel20Ideal.Flash

end
-- ==== Proof.Forward.Step.lean ====
/- The step of one head of the forward pass as a change of three arrays, and the end of a row of blocks as a change of a
   fourth. A load or a store of 128 lanes through a memref held at known contents, and from these `head` and `finish`.
   Stated once, each is applied eight times. -/
module

public import proofs.«01_k».proof.Proof.Forward.Body
public import Idealize.ShloMosaic.Lib.VecWindow
public import Idealize.ShloMosaic.Lib.Tactic
public import Idealize.ShloMosaic.Lib.Pipeline.Frame

@[expose] public section

set_option synthInstance.maxSize 4096

noncomputable section

namespace Cert.Kernel20Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel20Ideal.Gen

variable {F : FTy → Type} [FloatOps F]

local notation "𝕄" => MT nD τ sig Unit (Elt F) ℕ (UR sig nD τ) ℕ
local notation "𝕎" => wpE (nD := nD) (τ := τ) (Ix := Unit) (Name := ℕ) (U := UR sig nD τ) (Lvl := ℕ) (defs₀ (F := F)) Variants.none

/-! ## Loads and stores of owned memrefs -/

section Access
variable (c : Dev nD) (E : Set ℕ) {sp : CoreSpace} {s : Shape} {e : EltTy}

/-- A load from a memref held at `X` reads the rectangle of `X`. -/
theorem load_owned (m : Memref sig .tc sp s e) (r : Rect s) (hl : m.view.LoadsAt r.toLoadRect) (q : PosShare TreeShare) (X : s.Idx → Elt F e)
    (k : (r.toLoadRect.shape.Idx → Elt F e) → Prog (TpuEff nD τ sig (Elt F) Λ₀ .tc) PUnit) (K : PUnit → sProp 𝕄) :
    owns (c : Thread nD τ) m q X
      ⊢ iprop((owns (c : Thread nD τ) m q X -∗ wp frame (𝕎 c none) E (k (fun y => X (r.emb y))) K)
        -∗ wp frame (𝕎 c none) E (Prog.lift (.load m r.toLoadRect hl) >>= k) K) := by
  unfold owns
  iintro ⟨%f, %hf, H⟩ Hk
  subst hf
  iapply (wp_load_rect Variants.none (c : Thread nD τ) none E (m := m) (r := r) (S := m.view.set) (View.set_slice_subset _ _)) $$ H
  iintro H
  iapply Hk
  iexists f; isplitr; · ipureintro; rfl
  iexact H

/-- A store through a rectangle of a memref held at `X` leaves `X` with the payload put there. -/
theorem store_owned (m : Memref sig .tc sp s e) (off size : Fin s.rank → ℕ) (inb : ∀ a, off a + size a ≤ s.size a)
    (w : (Rect.unit off size inb).shape.Idx → Elt F e)
    (hx : (m.access (Rect.unit off size inb)).Stores Finset.univ) (hm) (X : s.Idx → Elt F e)
    (k : PUnit → Prog (TpuEff nD τ sig (Elt F) Λ₀ .tc) PUnit) (K : PUnit → sProp 𝕄) :
    owns (c : Thread nD τ) m fullShare X
      ⊢ iprop((owns (c : Thread nD τ) m fullShare (VecWindow.put X off size w) -∗ wp frame (𝕎 c none) E (k ⟨⟩) K)
        -∗ wp frame (𝕎 c none) E (Prog.lift (.store m (Rect.unit off size inb) w Finset.univ hx hm) >>= k) K) := by
  unfold owns
  iintro ⟨%f, %hf, H⟩ Hk
  subst hf
  iapply (wp_store Variants.none (c : Thread nD τ) none E (m := m) (r := Rect.unit off size inb) (S := m.view.set)
    (by rw [View.setOn_univ]; exact View.set_slice_subset _ _)) $$ H
  iintro H
  iapply Hk
  iexists _; isplitr
  swap; · iexact H
  ipureintro
  exact View.read_writes_cons_put m.view f inb w [] rfl

/-- A word read from a table held at `X`. -/
theorem word_owned {s : Shape} {e : EltTy} (m : Memref sig .tc .smem s e) (r : Rect s) (h1 : r.shape.numel = 1)
    (hp : e.packing = 1) (q : PosShare TreeShare) (X : s.Idx → Elt F e)
    (k : Elt F e → Prog (TpuEff nD τ sig (Elt F) Λ₀ .tc) PUnit) (K : PUnit → sProp 𝕄) :
    owns (c : Thread nD τ) m q X
      ⊢ iprop((owns (c : Thread nD τ) m q X -∗ wp frame (𝕎 c none) E (k (X (r.emb (Shape.Idx.first (h1.symm ▸ Nat.one_pos))))) K)
        -∗ wp frame (𝕎 c none) E (smemLoad m r h1 hp >>= k) K) := by
  unfold owns
  iintro ⟨%f, %hf, H⟩ Hk
  subst hf
  iapply (wp_load_rect Variants.none (c : Thread nD τ) none E (m := m) (r := r) (S := m.view.set) (View.set_slice_subset _ _)) $$ H
  iintro H
  iapply Hk
  iexists f; isplitr; · ipureintro; rfl
  iexact H

/-- A whole store into an owned memref leaves the payload. -/
theorem fill_owned (m : Memref sig .tc sp s e) (off : Fin s.rank → ℕ) (inb : ∀ a, off a + s.size a ≤ s.size a)
    (w : s.Idx → Elt F e)
    (hx : (m.access (Rect.unit off s.size inb)).Stores Finset.univ) (hm) (X : s.Idx → Elt F e)
    (k : PUnit → Prog (TpuEff nD τ sig (Elt F) Λ₀ .tc) PUnit) (K : PUnit → sProp 𝕄) :
    owns (c : Thread nD τ) m fullShare X
      ⊢ iprop((owns (c : Thread nD τ) m fullShare w -∗ wp frame (𝕎 c none) E (k ⟨⟩) K)
        -∗ wp frame (𝕎 c none) E (Prog.lift (.store m (Rect.unit off s.size inb) w Finset.univ hx hm) >>= k) K) := by
  unfold owns
  iintro ⟨%f, %hf, H⟩ Hk
  subst hf
  iapply (wp_store Variants.none (c : Thread nD τ) none E (m := m) (r := Rect.unit off s.size inb) (S := m.view.set)
    (by rw [View.setOn_univ]; exact View.set_slice_subset _ _)) $$ H
  iintro H
  iapply Hk
  iexists _; isplitr
  swap; · iexact H
  ipureintro
  exact View.read_writes_full m.view f inb w []

end Access

/-! ## What is carried, and what one head makes of it -/

/-- The three arrays the body carries from block to block: the largest scores, the sums of exponentials, and the values
    so weighted. -/
structure Carry (F : FTy → Type) [FloatOps F] where
  m : Vec F S512x1024 .f32
  l : Vec F S512x1024 .f32
  a : Vec F S512x1024 .f32

/-- The three operands of a point: a block of queries, of keys, and of values (the upper half of a wider array). -/
structure Operands (F : FTy → Type) [FloatOps F] where
  q : Vec F S512x1024 .bf16
  k : Vec F S512x1024 .bf16
  v : Vec F S512x1024 .bf16

/-- 128 lanes of a block. -/
def lanesOf {e : EltTy} (x : Vec F S512x1024 e) (c : Nat) (hc : c + 128 ≤ 1024) : Vec F S512x128 e := fun y => x ((lanes c hc).emb y)

/-- What one head makes of the three arrays. -/
def headStep (sc : Score F) (x : Operands F) (c : Nat) (hc : c + 128 ≤ 1024) (g : Carry F) : Carry F where
  m := VecWindow.put g.m ![0, c] S512x128.size (maxNext (sc (lanesOf x.q c hc) (lanesOf x.k c hc)) (lanesOf g.m c hc))
  l := VecWindow.put g.l ![0, c] S512x128.size
    (sumNext (sc (lanesOf x.q c hc) (lanesOf x.k c hc)) (lanesOf g.m c hc) (lanesOf g.l c hc))
  a := VecWindow.put g.a ![0, c] S512x128.size
    (accNext (sc (lanesOf x.q c hc) (lanesOf x.k c hc)) (lanesOf g.m c hc) (lanesOf g.a c hc) (lanesOf x.v c hc))

/-- What the eight heads make of them. -/
def headsStep (sc : Score F) (x : Operands F) (g : Carry F) : Carry F :=
  headStep sc x 896 (by decide) (headStep sc x 768 (by decide) (headStep sc x 640 (by decide)
    (headStep sc x 512 (by decide) (headStep sc x 384 (by decide) (headStep sc x 256 (by decide)
      (headStep sc x 128 (by decide) (headStep sc x 0 (by decide) g)))))))

/-- What the end of a row makes of the output's block, for one head, -/
def finishStep (g : Carry F) (c : Nat) (hc : c + 128 ≤ 1024) (o : Vec F S512x1024 .f32) : Vec F S512x1024 .f32 :=
  VecWindow.put o ![0, c] S512x128.size (result (lanesOf g.m c hc) (lanesOf g.l c hc) (lanesOf g.a c hc))

/-- and for the eight. -/
def finishAll (g : Carry F) (o : Vec F S512x1024 .f32) : Vec F S512x1024 .f32 :=
  finishStep g 896 (by decide) (finishStep g 768 (by decide) (finishStep g 640 (by decide)
    (finishStep g 512 (by decide) (finishStep g 384 (by decide) (finishStep g 256 (by decide)
      (finishStep g 128 (by decide) (finishStep g 0 (by decide) o)))))))

/-- Outside its lanes a head leaves two blocks as equal as they were. -/
theorem finishStep_congr (g : Carry F) (c : Nat) (hc : c + 128 ≤ 1024) (o o' : Vec F S512x1024 .f32) (y : S512x1024.Idx)
    (h : ¬ (c ≤ (y 1).val ∧ (y 1).val < c + 128) → o y = o' y) : finishStep g c hc o y = finishStep g c hc o' y := by
  unfold finishStep VecWindow.put
  split
  · rfl
  · rename_i hn
    refine h fun hy => hn fun a => ?_
    fin_cases a
    · exact ⟨Nat.zero_le _, lt_of_lt_of_eq (y 0).isLt (Nat.zero_add 512).symm⟩
    · exact hy

/-- The eight heads leave nothing of what the output's block held. -/
theorem finishAll_congr (g : Carry F) (o o' : Vec F S512x1024 .f32) : finishAll g o = finishAll g o' := by
  funext y
  have hy : (y 1).val < 1024 := (y 1).isLt
  unfold finishAll
  refine finishStep_congr g _ _ _ _ y fun h7 => finishStep_congr g _ _ _ _ y fun h6 => finishStep_congr g _ _ _ _ y fun h5 =>
    finishStep_congr g _ _ _ _ y fun h4 => finishStep_congr g _ _ _ _ y fun h3 => finishStep_congr g _ _ _ _ y fun h2 =>
    finishStep_congr g _ _ _ _ y fun h1 => finishStep_congr g _ _ _ _ y fun h0 => ?_
  omega

/-- The six memrefs the heads work on, held at operands `x` and carried arrays `g`. -/
def held (c : Dev nD) (a4 a5 a6 : Memref sig .tc .vmem S512x1024 .bf16) (a8 a9 a10 : Memref sig .tc .vmem S512x1024 .f32)
    (x : Operands F) (g : Carry F) : sProp 𝕄 :=
  iprop(owns (c : Thread nD τ) a4 fullShare x.q ∗ owns (c : Thread nD τ) a5 fullShare x.k ∗ owns (c : Thread nD τ) a6 fullShare x.v
    ∗ owns (c : Thread nD τ) a8 fullShare g.m ∗ owns (c : Thread nD τ) a9 fullShare g.l ∗ owns (c : Thread nD τ) a10 fullShare g.a)

section Heads
variable (c : Dev nD) (E : Set ℕ)
  (a4 a5 a6 : Memref sig .tc .vmem S512x1024 .bf16) (a7 a8 a9 a10 : Memref sig .tc .vmem S512x1024 .f32)
  (sc : Score F) (x : Operands F)

/-- The step of one head, run. -/
theorem wp_head (l : Nat) (hl : l + 128 ≤ 1024) (g : Carry F)
    (k : PUnit → Prog (TpuEff nD τ sig (Elt F) Λ₀ .tc) PUnit) (K : PUnit → sProp 𝕄) :
    held c a4 a5 a6 a8 a9 a10 x g
      ⊢ iprop((held c a4 a5 a6 a8 a9 a10 x (headStep sc x l hl g) -∗ wp frame (𝕎 c none) E (k ⟨⟩) K)
        -∗ wp frame (𝕎 c none) E (head sc a4 a5 a6 a8 a9 a10 l hl >>= k) K) := by
  unfold held head
  simp only [bind_assoc]
  iintro ⟨H4, H5, H6, H8, H9, H10⟩ Hk
  iapply (load_owned c E a4 (lanes l hl) _ fullShare x.q _ K) $$ H4
  iintro H4
  iapply (load_owned c E a5 (lanes l hl) _ fullShare x.k _ K) $$ H5
  iintro H5
  iapply (load_owned c E a8 (lanes l hl) _ fullShare g.m _ K) $$ H8
  iintro H8
  iapply (load_owned c E a9 (lanes l hl) _ fullShare g.l _ K) $$ H9
  iintro H9
  iapply (load_owned c E a9 (lanes l hl) _ fullShare g.l _ K) $$ H9
  iintro H9
  iapply (store_owned c E a9 ![0, l] S512x128.size (inb l hl) _ _ _ g.l _ K) $$ H9
  iintro H9
  iapply (load_owned c E a10 (lanes l hl) _ fullShare g.a _ K) $$ H10
  iintro H10
  iapply (load_owned c E a6 (lanes l hl) _ fullShare x.v _ K) $$ H6
  iintro H6
  iapply (load_owned c E a10 (lanes l hl) _ fullShare g.a _ K) $$ H10
  iintro H10
  iapply (store_owned c E a10 ![0, l] S512x128.size (inb l hl) _ _ _ g.a _ K) $$ H10
  iintro H10
  iapply (load_owned c E a8 (lanes l hl) _ fullShare g.m _ K) $$ H8
  iintro H8
  iapply (store_owned c E a8 ![0, l] S512x128.size (inb l hl) _ _ _ g.m _ K) $$ H8
  iintro H8
  iapply Hk
  isplitl [H4]; · iexact H4
  isplitl [H5]; · iexact H5
  isplitl [H6]; · iexact H6
  isplitl [H8]; · iexact H8
  isplitl [H9]; · iexact H9
  iexact H10

/-- The eight heads, run. -/
theorem wp_heads (g : Carry F) (k : PUnit → Prog (TpuEff nD τ sig (Elt F) Λ₀ .tc) PUnit) (K : PUnit → sProp 𝕄) :
    held c a4 a5 a6 a8 a9 a10 x g
      ⊢ iprop((held c a4 a5 a6 a8 a9 a10 x (headsStep sc x g) -∗ wp frame (𝕎 c none) E (k ⟨⟩) K)
        -∗ wp frame (𝕎 c none) E (heads sc a4 a5 a6 a8 a9 a10 >>= k) K) := by
  unfold heads
  simp only [bind_assoc]
  iintro H Hk
  iapply (wp_head c E a4 a5 a6 a8 a9 a10 sc x 0 _ _ _ K) $$ H
  iintro H
  iapply (wp_head c E a4 a5 a6 a8 a9 a10 sc x 128 _ _ _ K) $$ H
  iintro H
  iapply (wp_head c E a4 a5 a6 a8 a9 a10 sc x 256 _ _ _ K) $$ H
  iintro H
  iapply (wp_head c E a4 a5 a6 a8 a9 a10 sc x 384 _ _ _ K) $$ H
  iintro H
  iapply (wp_head c E a4 a5 a6 a8 a9 a10 sc x 512 _ _ _ K) $$ H
  iintro H
  iapply (wp_head c E a4 a5 a6 a8 a9 a10 sc x 640 _ _ _ K) $$ H
  iintro H
  iapply (wp_head c E a4 a5 a6 a8 a9 a10 sc x 768 _ _ _ K) $$ H
  iintro H
  iapply (wp_head c E a4 a5 a6 a8 a9 a10 sc x 896 _ _ _ K) $$ H
  iintro H
  iapply Hk
  iexact H

/-- The end of a row for one head, run. -/
theorem wp_finish (l : Nat) (hl : l + 128 ≤ 1024) (g : Carry F) (o : Vec F S512x1024 .f32)
    (k : PUnit → Prog (TpuEff nD τ sig (Elt F) Λ₀ .tc) PUnit) (K : PUnit → sProp 𝕄) :
    iprop(held c a4 a5 a6 a8 a9 a10 x g ∗ owns (c : Thread nD τ) a7 fullShare o)
      ⊢ iprop((iprop(held c a4 a5 a6 a8 a9 a10 x g ∗ owns (c : Thread nD τ) a7 fullShare (finishStep g l hl o)) -∗ wp frame (𝕎 c none) E (k ⟨⟩) K)
        -∗ wp frame (𝕎 c none) E (finish a7 a8 a9 a10 l hl >>= k) K) := by
  unfold held finish
  simp only [bind_assoc]
  iintro ⟨⟨H4, H5, H6, H8, H9, H10⟩, H7⟩ Hk
  iapply (load_owned c E a9 (lanes l hl) _ fullShare g.l _ K) $$ H9
  iintro H9
  iapply (load_owned c E a10 (lanes l hl) _ fullShare g.a _ K) $$ H10
  iintro H10
  iapply (load_owned c E a8 (lanes l hl) _ fullShare g.m _ K) $$ H8
  iintro H8
  iapply (load_owned c E a7 (lanes l hl) _ fullShare o _ K) $$ H7
  iintro H7
  iapply (store_owned c E a7 ![0, l] S512x128.size (inb l hl) _ _ _ o _ K) $$ H7
  iintro H7
  iapply Hk
  isplitl [H4 H5 H6 H8 H9 H10]
  · isplitl [H4]; · iexact H4
    isplitl [H5]; · iexact H5
    isplitl [H6]; · iexact H6
    isplitl [H8]; · iexact H8
    isplitl [H9]; · iexact H9
    iexact H10
  iexact H7

/-- The end of a row, run. -/
theorem wp_finishes (g : Carry F) (o : Vec F S512x1024 .f32) (k : PUnit → Prog (TpuEff nD τ sig (Elt F) Λ₀ .tc) PUnit) (K : PUnit → sProp 𝕄) :
    iprop(held c a4 a5 a6 a8 a9 a10 x g ∗ owns (c : Thread nD τ) a7 fullShare o)
      ⊢ iprop((iprop(held c a4 a5 a6 a8 a9 a10 x g ∗ owns (c : Thread nD τ) a7 fullShare (finishAll g o)) -∗ wp frame (𝕎 c none) E (k ⟨⟩) K)
        -∗ wp frame (𝕎 c none) E (finishes a7 a8 a9 a10 >>= k) K) := by
  unfold finishes
  simp only [bind_assoc]
  iintro H Hk
  iapply (wp_finish c E a4 a5 a6 a7 a8 a9 a10 x 0 _ g _ _ K) $$ H
  iintro H
  iapply (wp_finish c E a4 a5 a6 a7 a8 a9 a10 x 128 _ g _ _ K) $$ H
  iintro H
  iapply (wp_finish c E a4 a5 a6 a7 a8 a9 a10 x 256 _ g _ _ K) $$ H
  iintro H
  iapply (wp_finish c E a4 a5 a6 a7 a8 a9 a10 x 384 _ g _ _ K) $$ H
  iintro H
  iapply (wp_finish c E a4 a5 a6 a7 a8 a9 a10 x 512 _ g _ _ K) $$ H
  iintro H
  iapply (wp_finish c E a4 a5 a6 a7 a8 a9 a10 x 640 _ g _ _ K) $$ H
  iintro H
  iapply (wp_finish c E a4 a5 a6 a7 a8 a9 a10 x 768 _ g _ _ K) $$ H
  iintro H
  iapply (wp_finish c E a4 a5 a6 a7 a8 a9 a10 x 896 _ g _ _ K) $$ H
  iintro H
  iapply Hk
  iexact H

end Heads

end Cert.Kernel20Ideal.Flash

end
-- ==== Proof.Forward.Point.lean ====
/- One point of the grid of the forward pass: what the body makes of the carried arrays and of the output's block, from the
   two words it reads from the tables, and the run of the body that makes it. -/
module

public import proofs.«01_k».proof.Proof.Forward.Step

@[expose] public section

set_option synthInstance.maxSize 4096

noncomputable section

namespace Cert.Kernel20Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel20Ideal.Gen

variable {F : FTy → Type} [FloatOps F]

local notation "𝕄" => MT nD τ sig Unit (Elt F) ℕ (UR sig nD τ) ℕ
local notation "𝕎" => wpE (nD := nD) (τ := τ) (Ix := Unit) (Name := ℕ) (U := UR sig nD τ) (Lvl := ℕ) (defs₀ (F := F)) Variants.none

/-- At the first block of a row the carried arrays are put to their starts. -/
def clear (v3 : BitVec 32) (g : Carry F) : Carry F := if first v3 = 1#1 then ⟨noMax, noSum, noSum⟩ else g

/-- Below the diagonal the heads take the block in. -/
def addFull (v1 v3 : BitVec 32) (x : Operands F) (g : Carry F) : Carry F := if below v1 v3 = 1#1 then headsStep scores x g else g

/-- On the diagonal they do with the scores masked. -/
def addDiag (v1 v3 : BitVec 32) (x : Operands F) (g : Carry F) : Carry F := if k0_cond3 v1 v3 = 1#1 then headsStep scoresDiag x g else g

/-- What a point makes of the carried arrays, -/
def pointStep (v1 v3 : BitVec 32) (x : Operands F) (g : Carry F) : Carry F := addDiag v1 v3 x (addFull v1 v3 x (clear v3 g))

/-- and, from the arrays it leaves, of the output's block. -/
def outStep (v1 v3 : BitVec 32) (g : Carry F) (o : Vec F S512x1024 .f32) : Vec F S512x1024 .f32 :=
  if k0_cond3 v1 v3 = 1#1 then finishAll g o else o

/-- The word of a table at a point. -/
def wordAt (T : Vec F S36 .i32) (i : grid0.Coords) : BitVec 32 :=
  T ((Rect.unit (s := S36) (k0_off1 i) S1.size (k0_off1_inb i)).emb (Shape.Idx.first (numel1_S1.symm ▸ Nat.one_pos)))

/-- The two tables. -/
abbrev tab1 : Memref sig .tc .smem S36 .i32 := Memref.whole main_c
abbrev tab2 : Memref sig .tc .smem S36 .i32 := Memref.whole main_c_0

section
variable (c : Dev nD) (a4 a5 a6 : Memref sig .tc .vmem S512x1024 .bf16) (a7 a8 a9 a10 : Memref sig .tc .vmem S512x1024 .f32)
  (i : grid0.Coords) (v1 v3 : BitVec 32) (x : Operands F) (g : Carry F)

/-- The first test of the body. -/
theorem wp_clear (j : PUnit → Prog (TpuEff nD τ sig (Elt F) Λ₀ .tc) PUnit) (K : PUnit → sProp 𝕄) (l8) (x8) (n8) (l9) (x9) (n9) (l10) (x10) (n10) :
    held c a4 a5 a6 a8 a9 a10 x g
      ⊢ iprop((held c a4 a5 a6 a8 a9 a10 x (clear v3 g) -∗ wp frame (𝕎 c none) Set.univ (j ⟨⟩) K)
        -∗ wp frame (𝕎 c none) Set.univ (if first v3 = 1#1 then
              Prog.lift (.load a8 (Rect.unit (s := S512x1024) ![0, 0] S512x1024.size inb_S512x1024_S512x1024_0_0).toLoadRect l8) >>= fun _ =>
              Prog.lift (.store a8 (Rect.unit (s := S512x1024) ![0, 0] S512x1024.size inb_S512x1024_S512x1024_0_0) noMax Finset.univ x8 n8) >>= fun _ =>
              Prog.lift (.load a9 (Rect.unit (s := S512x1024) ![0, 0] S512x1024.size inb_S512x1024_S512x1024_0_0).toLoadRect l9) >>= fun _ =>
              Prog.lift (.store a9 (Rect.unit (s := S512x1024) ![0, 0] S512x1024.size inb_S512x1024_S512x1024_0_0) noSum Finset.univ x9 n9) >>= fun _ =>
              Prog.lift (.load a10 (Rect.unit (s := S512x1024) ![0, 0] S512x1024.size inb_S512x1024_S512x1024_0_0).toLoadRect l10) >>= fun _ =>
              Prog.lift (.store a10 (Rect.unit (s := S512x1024) ![0, 0] S512x1024.size inb_S512x1024_S512x1024_0_0) noSum Finset.univ x10 n10) >>= j
            else j ⟨⟩) K) := by
  by_cases h : first v3 = 1#1
  · simp only [clear, if_pos h]
    unfold held
    iintro ⟨H4, H5, H6, H8, H9, H10⟩ Hj
    iapply (load_owned c Set.univ a8 _ l8 fullShare _ _ _) $$ H8
    iintro H8
    iapply (fill_owned c Set.univ a8 _ _ _ x8 n8 _ _ _) $$ H8
    iintro H8
    iapply (load_owned c Set.univ a9 _ l9 fullShare _ _ _) $$ H9
    iintro H9
    iapply (fill_owned c Set.univ a9 _ _ _ x9 n9 _ _ _) $$ H9
    iintro H9
    iapply (load_owned c Set.univ a10 _ l10 fullShare _ _ _) $$ H10
    iintro H10
    iapply (fill_owned c Set.univ a10 _ _ _ x10 n10 _ j _) $$ H10
    iintro H10
    iapply Hj
    isplitl [H4]; · iexact H4
    isplitl [H5]; · iexact H5
    isplitl [H6]; · iexact H6
    isplitl [H8]; · iexact H8
    isplitl [H9]; · iexact H9
    iexact H10
  · simp only [clear, if_neg h]
    iintro H Hj
    iapply Hj
    iexact H

/-- The second: a block below the diagonal. -/
theorem wp_addFull (j : PUnit → Prog (TpuEff nD τ sig (Elt F) Λ₀ .tc) PUnit) (K : PUnit → sProp 𝕄) :
    held c a4 a5 a6 a8 a9 a10 x g
      ⊢ iprop((held c a4 a5 a6 a8 a9 a10 x (addFull v1 v3 x g) -∗ wp frame (𝕎 c none) Set.univ (j ⟨⟩) K)
        -∗ wp frame (𝕎 c none) Set.univ (if below v1 v3 = 1#1 then heads scores a4 a5 a6 a8 a9 a10 >>= j else j ⟨⟩) K) := by
  by_cases h : below v1 v3 = 1#1
  · simp only [addFull, if_pos h]
    exact wp_heads c Set.univ a4 a5 a6 a8 a9 a10 scores x g j _
  · simp only [addFull, if_neg h]
    iintro H Hj
    iapply Hj
    iexact H

/-- The third: a block on the diagonal, and with it the end of its row. -/
theorem wp_addDiag (o : Vec F S512x1024 .f32) (K : PUnit → sProp 𝕄) :
    iprop(held c a4 a5 a6 a8 a9 a10 x g ∗ owns (c : Thread nD τ) a7 fullShare o)
      ⊢ iprop((iprop(held c a4 a5 a6 a8 a9 a10 x (addDiag v1 v3 x g) ∗ owns (c : Thread nD τ) a7 fullShare (outStep v1 v3 (addDiag v1 v3 x g) o)) -∗ K ⟨⟩)
        -∗ wp frame (𝕎 c none) Set.univ (if _h : k0_cond3 v1 v3 = 1#1 then
              heads scoresDiag a4 a5 a6 a8 a9 a10 >>= fun _ => finishes a7 a8 a9 a10
            else pure ⟨⟩) K) := by
  by_cases h : k0_cond3 v1 v3 = 1#1
  · simp only [addDiag, outStep, if_pos h, dif_pos h]
    rw [← bind_pure (finishes a7 a8 a9 a10)]
    iintro ⟨H, HO⟩ Hj
    iapply (wp_heads c Set.univ a4 a5 a6 a8 a9 a10 scoresDiag x g _ _) $$ H
    iintro H
    icombine H HO as HB
    iapply (wp_finishes c Set.univ a4 a5 a6 a7 a8 a9 a10 x _ o _ _) $$ HB
    iintro HB
    simp only [wp_pure]
    imodintro
    iapply Hj
    iexact HB
  · simp only [addDiag, outStep, if_neg h, dif_neg h, wp_pure]
    iintro H Hj
    imodintro
    iapply Hj
    iexact H

/-- The body, run at a point whose words are known: from the operands, the carried arrays, the output's block and the two
    tables held, to the arrays and the block stepped. -/
theorem wp_body (q : PosShare TreeShare) (T1 T2 : Vec F S36 .i32) (o : Vec F S512x1024 .f32) (K : PUnit → sProp 𝕄) :
    iprop(held c a4 a5 a6 a8 a9 a10 x g ∗ owns (c : Thread nD τ) a7 fullShare o
        ∗ owns (c : Thread nD τ) tab1 q T1 ∗ owns (c : Thread nD τ) tab2 q T2
        ∗ (iprop((held c a4 a5 a6 a8 a9 a10 x (pointStep (wordAt T1 i) (wordAt T2 i) x g)
              ∗ owns (c : Thread nD τ) a7 fullShare (outStep (wordAt T1 i) (wordAt T2 i) (pointStep (wordAt T1 i) (wordAt T2 i) x g) o))
            ∗ owns (c : Thread nD τ) tab1 q T1 ∗ owns (c : Thread nD τ) tab2 q T2) -∗ K ⟨⟩))
      ⊢ wp frame (𝕎 c none) Set.univ (body i tab1 tab2 a4 a5 a6 a7 a8 a9 a10) K := by
  unfold body pointStep
  iintro ⟨H, HO, H1, H2, Hk⟩
  iapply (word_owned c Set.univ tab1 _ numel1_S1 rfl q T1 _ _) $$ H1
  iintro H1
  iapply (word_owned c Set.univ tab2 _ numel1_S1 rfl q T2 _ _) $$ H2
  iintro H2
  dsimp only
  iapply (wp_clear c a4 a5 a6 a8 a9 a10 (wordAt T2 i) x g _ K _ _ _ _ _ _ _ _ _) $$ H
  iintro H
  iapply (wp_addFull c a4 a5 a6 a8 a9 a10 (wordAt T1 i) (wordAt T2 i) x _ _ K) $$ H
  iintro H
  icombine H HO as HB
  iapply (wp_addDiag c a4 a5 a6 a7 a8 a9 a10 (wordAt T1 i) (wordAt T2 i) x _ o K) $$ HB
  iintro HB
  iapply Hk
  isplitl [HB]; · iexact HB
  isplitl [H1]; · iexact H1
  iexact H2

end

end Cert.Kernel20Ideal.Flash

end
-- ==== Proof.Forward.Tables.lean ====
/- The two prefetched tables of the forward pass: point by point, the block of queries and the block of keys and values a point works on. Their
   words are literals, so what the pipeline does with them (which block each window holds, when it is fetched or written
   back) is decided here. -/
module

public import proofs.«01_k».proof.Proof.Forward.Point
public import proofs.«01_k».proof.Proof.Gen.Kernel20Ideal.Launch

@[expose] public section

noncomputable section

namespace Cert.Kernel20Ideal.Flash

open Idealize.ShloMosaic Idealize.ShloMosaic.TcCoe
open Cert.Kernel20Ideal.Gen

variable {F : FTy → Type} [FloatOps F]

set_option backward.proofsInPublic true in
/-- The tables' contents. -/
def tables : pre0.Contents (Elt F) := fun
  | ⟨0, _⟩ => fun i => lit0 (S36.rowMajor i)
  | ⟨1, _⟩ => fun i => lit1 (S36.rowMajor i)
  | ⟨_ + 2, h⟩ => absurd h (by simp)

/-- The block of queries at a point, and the block of keys and values. -/
def qBlock (t : Fin 36) : ℕ := (lit0 t).toNat
def kBlock (t : Fin 36) : ℕ := (lit1 t).toNat

/-- A point reads a table at its own number. -/
theorem place (i : grid0.Coords) :
    S36.rowMajor ((Rect.unit (s := S36) (k0_off1 i) S1.size (k0_off1_inb i)).emb (Shape.Idx.first (numel1_S1.symm ▸ Nat.one_pos))) = i 1 := by
  have h : ∀ i : grid0.Coords, (S36.rowMajor ((Rect.unit (s := S36) (k0_off1 i) S1.size (k0_off1_inb i)).emb
      (Shape.Idx.first (numel1_S1.symm ▸ Nat.one_pos)))).val = (i 1).val := by decide +kernel
  exact Fin.ext (h i)

theorem wordAt_tables0 (i : grid0.Coords) : wordAt (F := F) (tables 0) i = lit0 (i 1) := congrArg lit0 (place i)
theorem wordAt_tables1 (i : grid0.Coords) : wordAt (F := F) (tables 1) i = lit1 (i 1) := congrArg lit1 (place i)

theorem heads_zero (i : grid0.Coords) : (BitVec.ofNat 32 (i 0).val).toNat = 0 := by
  have h : (i 0).val < 1 := (i 0).isLt
  rw [show (i 0).val = 0 by omega]; rfl

theorem ix_q (i : grid0.Coords) : cc0_transform_0 (F := F) k0_off1_inb numel1_S1 tables i = ![qBlock (i 1), 0] :=
  congrArg₂ (fun w n => ![BitVec.toNat w, n]) (wordAt_tables0 (F := F) i) (heads_zero i)
theorem ix_k (i : grid0.Coords) : cc0_transform_1 (F := F) k0_off1_inb numel1_S1 tables i = ![kBlock (i 1), 0] :=
  congrArg₂ (fun w n => ![BitVec.toNat w, n]) (wordAt_tables1 (F := F) i) (heads_zero i)
theorem ix_v (i : grid0.Coords) : cc0_transform_2 (F := F) k0_off1_inb numel1_S1 tables i = ![kBlock (i 1), 1] :=
  congrArg₂ (fun w n => ![BitVec.toNat w, n]) (wordAt_tables1 (F := F) i) (by
    have h : (i 0).val < 1 := (i 0).isLt
    rw [show (i 0).val = 0 by omega]; rfl)
theorem ix_o (i : grid0.Coords) : cc0_transform_3 (F := F) k0_off1_inb numel1_S1 tables i = ![qBlock (i 1), 0] :=
  congrArg₂ (fun w n => ![BitVec.toNat w, n]) (wordAt_tables0 (F := F) i) (heads_zero i)

/-- Every window's block lies inside its array at every point, and its transfers move whole words. -/
theorem tables_ok : ok0 (F := F) tables := by
  unfold ok0
  rw [funext (ix_q (F := F)), funext (ix_k (F := F)), funext (ix_v (F := F)), funext (ix_o (F := F))]
  decide +kernel

/-- The tables, as the pipeline takes them. -/
def adm : (p : Fin 1) → (pcfgs (F := F) p).Adm := fun _ => ⟨tables, tables_ok⟩

/-- The pipeline at those tables. -/
abbrev cfg : Pipeline.Cfg sig Λ₀ := cfg0 (F := F) (adm 0)

/-- The point's number, as the second coordinate. -/
theorem coords_one (t : Fin 36) : (grid0.coords (t.cast N_0.symm)) 1 = t := by
  have h : ∀ t : Fin 36, ((grid0.coords (t.cast N_0.symm)) 1).val = t.val := by decide +kernel
  exact Fin.ext (h t)

end Cert.Kernel20Ideal.Flash

end
-- ==== Proof.Forward.Data.lean ====
/- The forward run's proof data: the three carried arrays after each point, as the recursion over the grid's points that
   the body computes, and from it what every window's buffer holds after the body and what the body keeps from point to
   point. -/
module

public import proofs.«01_k».proof.Proof.Forward.Tables
public import Idealize.ShloMosaic.Lib.Pipeline.FrameBody
public import Idealize.ShloMosaic.Lib.Pipeline.FrameValue

@[expose] public section

noncomputable section

namespace Cert.Kernel20Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel20Ideal.Gen

variable {F : FTy → Type} [FloatOps F]

local notation "𝕄" => MT nD τ sig Unit (Elt F) ℕ (UR sig nD τ) ℕ

/-- A point's number below 36. -/
def num (t : Fin (cfg (F := F)).N) : Fin 36 := t.cast N_0

theorem num_val (t : Fin (cfg (F := F)).N) : (num t).val = t.val := rfl

theorem coords_num (t : Fin (cfg (F := F)).N) : (grid0.coords t) 1 = num t := coords_one (num t)

variable (V : (c : Dev nD) → (b : Ref sig .tc) → Buf (Elt F) ((c.tc : Thread nD τ).loc b))

/-- The block of a window's array at a point. -/
abbrev iblk (c : Dev nD) (w : Fin 4) (t : Fin (cfg (F := F)).N) := ((win0 (F := F) (adm 0) w).blk t).view.read (Elt F) (V c (Pipeline.arrRef spec0 w))

/-- The three input blocks of a point. -/
def opsAt (c : Dev nD) (t : Fin (cfg (F := F)).N) : Operands F := ⟨iblk V c 0 t, iblk V c 1 t, iblk V c 2 t⟩

/-- One point's step, on the carried arrays. -/
def stepAt (c : Dev nD) (t : Fin (cfg (F := F)).N) (g : Carry F) : Carry F :=
  pointStep (lit0 (num t)) (lit1 (num t)) (opsAt V c t) g

/-- The carried arrays before point `n`: what the points before it have made. -/
def carryAt (c : Dev nD) : ℕ → Carry F
  | 0 => ⟨noMax, noSum, noSum⟩
  | n + 1 => if h : n < (cfg (F := F)).N then stepAt V c ⟨n, h⟩ (carryAt c n) else carryAt c n

theorem carryAt_succ (c : Dev nD) (t : Fin (cfg (F := F)).N) : carryAt V c (t.val + 1) = stepAt V c t (carryAt V c t.val) := by
  rw [carryAt, dif_pos t.isLt]

/-- What the end of a row leaves in the output's block, from what is carried after point `n`. -/
def doneAt (c : Dev nD) (n : ℕ) : Vec F S512x1024 .f32 := finishAll (carryAt V c n) noSum

/-- What the body keeps from point to point: the three carried arrays, the generator's register, and the tables. -/
def PhiS (c : Dev nD) (n : ℕ) : sProp 𝕄 :=
  iprop((∃ g : Carry F, ⌜n ≠ 0 → g = carryAt V c n⌝ ∗ owns (c : Thread nD τ) (Memref.whole cc0_scratch0) fullShare g.m
      ∗ owns (c : Thread nD τ) (Memref.whole cc0_scratch1) fullShare g.l ∗ owns (c : Thread nD τ) (Memref.whole cc0_scratch2) fullShare g.a)
    ∗ (∃ r, prngReg c r)
    ∗ owns (c : Thread nD τ) tab1 fullShare.right (tables 0) ∗ owns (c : Thread nD τ) tab2 fullShare.right (tables 1))

/-- The proof data. -/
def dats (_ : Fin 1) (c : Dev nD) : Dat τ (Elt F) Unit ℕ (UR sig nD τ) ℕ (cfg (F := F)) c where
  A w := V c (Pipeline.arrRef spec0 w)
  after w t := match w with
    | ⟨0, _⟩ => iblk V c 0 t
    | ⟨1, _⟩ => iblk V c 1 t
    | ⟨2, _⟩ => iblk V c 2 t
    | ⟨3, _⟩ => doneAt V c (t.val + 1)
  Φ t := PhiS V c t.val
  q _ := fullShare
  owed _ := 0

theorem A_eq (c : Dev nD) (w : Fin (cfg (F := F)).W) : (dats V 0 c).A w = V c (Pipeline.arrRef spec0 w) := by dsimp only [dats]

theorem after_0 (c : Dev nD) (t : Fin (cfg (F := F)).N) : (dats V 0 c).after 0 t = (opsAt V c t).q := rfl
theorem after_1 (c : Dev nD) (t : Fin (cfg (F := F)).N) : (dats V 0 c).after 1 t = (opsAt V c t).k := rfl
theorem after_2 (c : Dev nD) (t : Fin (cfg (F := F)).N) : (dats V 0 c).after 2 t = (opsAt V c t).v := rfl
theorem after_3 (c : Dev nD) (t : Fin (cfg (F := F)).N) : (dats V 0 c).after 3 t = doneAt V c (t.val + 1) := rfl

/-- The invariant and the debt at a point. -/
theorem Phi_eq (c : Dev nD) (n : Fin ((cfg (F := F)).N + 1)) : (dats V 0 c).Φ n = PhiS V c n.val := by dsimp only [dats]
theorem owed_eq (c : Dev nD) (n : Fin ((cfg (F := F)).N + 1)) : (dats V 0 c).owed n = 0 := by dsimp only [dats]

/-- An input's buffer holds its block at every point. -/
theorem before_0 (c : Dev nD) (t : Fin (cfg (F := F)).N) (d) : (dats V 0 c).before 0 t d = (opsAt V c t).q :=
  (Dat.before_in_eq_fetched _ 0 rfl (fun _ => rfl) (fun _ _ _ => rfl) (fun _ => rfl) t d).trans rfl
theorem before_1 (c : Dev nD) (t : Fin (cfg (F := F)).N) (d) : (dats V 0 c).before 1 t d = (opsAt V c t).k :=
  (Dat.before_in_eq_fetched _ 1 rfl (fun _ => rfl) (fun _ _ _ => rfl) (fun _ => rfl) t d).trans rfl
theorem before_2 (c : Dev nD) (t : Fin (cfg (F := F)).N) (d) : (dats V 0 c).before 2 t d = (opsAt V c t).v :=
  (Dat.before_in_eq_fetched _ 2 rfl (fun _ => rfl) (fun _ _ _ => rfl) (fun _ => rfl) t d).trans rfl

end Cert.Kernel20Ideal.Flash

end
-- ==== Proof.Forward.Printed.lean ====
/- The printed body of the forward pass is the body written head by head: the printed one's windows are opened, both are
   brought to one chain of steps, and the steps are compared one by one, under each of the body's conditions apart. -/
module

public import proofs.«01_k».proof.Proof.Forward.Body

@[expose] public section

set_option synthInstance.maxSize 4096

noncomputable section

namespace Cert.Kernel20Ideal.Flash

open Idealize.ShloMosaic Idealize.SL.Sem Gen

variable {F : FTy → Type} [FloatOps F]

/-- Two programs are equal if their first steps are and what follows is, at every value read. -/
theorem step_congr {α β : Type} {e e' : Prog (TpuEff nD τ sig (Elt F) Λ₀ .tc) α} {k k' : α → Prog (TpuEff nD τ sig (Elt F) Λ₀ .tc) β}
    (h : e = e') (hk : ∀ x, k x = k' x) : (e >>= k) = (e' >>= k') := by
  subst h; exact congrArg _ (funext hk)

set_option maxRecDepth 65536 in
set_option maxHeartbeats 4000000 in
/-- The printed body is this program. -/
theorem body_eq (i : grid0.Coords) (arg2 : Memref sig .tc .smem S36 .i32) (harg2 : arg2.IsWhole) (arg3 : Memref sig .tc .smem S36 .i32) (harg3 : arg3.IsWhole)
    (a4 : Memref sig .tc .vmem S512x1024 .bf16) (h4 : a4.IsWhole) (a5 : Memref sig .tc .vmem S512x1024 .bf16) (h5 : a5.IsWhole)
    (a6 : Memref sig .tc .vmem S512x1024 .bf16) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (a10 : Memref sig .tc .vmem S512x1024 .f32) (h10 : a10.IsWhole) :
    cc0_mla_flash_fwd (F := F) i arg2 harg2 arg3 harg3 a4 h4 a5 h5 a6 h6 a7 h7 a8 h8 a9 h9 a10 h10
      = body i arg2 arg3 a4 a5 a6 a7 a8 a9 a10 := by
  rw [cc0_mla_flash_fwd_eq_skeleton]
  unfold cc0_mla_flash_fwd_skel body
  refine step_congr rfl fun v1 => step_congr rfl fun v3 => ?_
  extract_lets
  rename_i c4 c5 c6 c7 c8 J P3 P2 Q3 Q2
  have e3 : P3 = Q3 := by
    funext x
    refine dite_congr rfl (fun h => ?_) (fun h => rfl)
    simp only [k0_part9_eq_skeleton, k0_part9_skel, k0_part10_eq_skeleton, k0_part10_skel, k0_part11_eq_skeleton, k0_part11_skel,
        k0_part12_eq_skeleton, k0_part12_skel, k0_part13_eq_skeleton, k0_part13_skel, k0_part14_eq_skeleton,
        k0_part14_skel, k0_part15_eq_skeleton, k0_part15_skel, k0_part16_eq_skeleton, k0_part16_skel, k0_part17_eq_skeleton,
        k0_part17_skel, k0_part18_eq_skeleton, k0_part18_skel, k0_part19_eq_skeleton, k0_part19_skel, heads, head, finishes, finish,
        bind_assoc, pure_bind]
    repeat (refine step_congr (by rfl) fun _ => ?_)
    rfl
  clear_value P3 Q3
  subst e3
  have e2 : P2 = Q2 := by
    funext x
    refine ite_congr rfl (fun h => ?_) (fun h => rfl)
    simp only [k0_part1_eq_skeleton, k0_part1_skel, k0_part2_eq_skeleton, k0_part2_skel, k0_part3_eq_skeleton, k0_part3_skel,
        k0_part4_eq_skeleton, k0_part4_skel, k0_part5_eq_skeleton, k0_part5_skel, k0_part6_eq_skeleton, k0_part6_skel,
        k0_part7_eq_skeleton, k0_part7_skel, k0_part8_eq_skeleton, k0_part8_skel, heads, head, bind_assoc, pure_bind]
    repeat (refine step_congr (by rfl) fun _ => ?_)
    rfl
  clear_value P2 Q2
  subst e2
  refine ite_congr rfl (fun h => ?_) (fun h => rfl)
  repeat (refine step_congr (by rfl) fun _ => ?_)
  rfl

end Cert.Kernel20Ideal.Flash

end
-- ==== Proof.Forward.Obligation.lean ====
/- The body of the forward pass at any point of the grid, from the proof data before it to the proof data after it. -/
module

public import proofs.«01_k».proof.Proof.Forward.Data
public import proofs.«01_k».proof.Proof.Forward.Printed

@[expose] public section

noncomputable section

namespace Cert.Kernel20Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel20Ideal.Gen

variable {F : FTy → Type} [FloatOps F]

local notation "𝕄" => MT nD τ sig Unit (Elt F) ℕ (UR sig nD τ) ℕ

/-! ## What the tables decide -/

theorem place_off (i : grid0.Coords) (h : ∀ a, k0_off1 i a + 1 ≤ S36.size a) :
    S36.rowMajor (fun a => ⟨k0_off1 i a, h a⟩) = i 1 := by
  have h' : ∀ i : grid0.Coords, ∀ h : (∀ a, k0_off1 i a + 1 ≤ S36.size a), (S36.rowMajor (fun a => ⟨k0_off1 i a, h a⟩)).val = (i 1).val := by
    decide +kernel
  exact Fin.ext (h' i h)

theorem off_lt (i : grid0.Coords) : ∀ a, k0_off1 i a + 1 ≤ S36.size a := by
  revert i
  decide +kernel

theorem atD_tables0 (i : grid0.Coords) : Pipeline.Prefetch.Contents.atD (tables (F := F)) 0 (k0_off1 i) = lit0 (i 1) :=  (dif_pos (off_lt i)).trans (congrArg lit0 (place_off i _))
theorem atD_tables1 (i : grid0.Coords) : Pipeline.Prefetch.Contents.atD (tables (F := F)) 1 (k0_off1 i) = lit1 (i 1) :=  (dif_pos (off_lt i)).trans (congrArg lit1 (place_off i _))

/-- The output's block is left alone off the diagonal, -/
theorem idle_3 (t : Fin (cfg (F := F)).N) : (cfg (F := F)).idle 3 (grid0.coords t) = !(k0_cond3 (lit0 (num t)) (lit1 (num t)) == 1#1) := by
  rw [← coords_num, ← atD_tables0 (F := F) (grid0.coords t), ← atD_tables1 (F := F) (grid0.coords t)]
  rfl

theorem index_3 (t : Fin (cfg (F := F)).N) : ((cfg (F := F)).win 3).index t = ![qBlock (num t), 0] :=
  (ix_o (F := F) (grid0.coords t)).trans (by rw [coords_num])

/-- and there a point is followed by one on the same block of queries, -/
theorem same_block (t : Fin 36) (h : k0_cond3 (lit0 t) (lit1 t) ≠ 1#1) : ∃ h : t.val + 1 < 36, qBlock ⟨t.val + 1, h⟩ = qBlock t := by
  revert t
  decide +kernel

/-- so that the block is not written back. -/
theorem flush_3 (t : Fin (cfg (F := F)).N) (h : k0_cond3 (lit0 (num t)) (lit1 (num t)) ≠ 1#1) : ((cfg (F := F)).win 3).flush t = false := by
  obtain ⟨h1, h2⟩ := same_block (num t) h
  have h1 : t.val + 1 < 36 := h1
  unfold Window.flush
  rw [Bool.and_eq_false_iff]; right
  rw [Bool.or_eq_false_iff]
  refine ⟨decide_eq_false (fun e => absurd (e.symm.trans_lt h1) (by rw [show (cfg (F := F)).grid.N = 36 from N_0]; omega)), decide_eq_false ?_⟩
  rintro ⟨h3, h4⟩
  refine h4 ?_
  rw [index_3, index_3]
  exact congrArg (fun n => ![n, 0]) h2

/-- The first point is the first of its row. -/
theorem first_zero (t : Fin 36) (h : t.val = 0) : first (lit1 t) = 1#1 := by
  revert t
  decide +kernel

section
variable (V : (c : Dev nD) → (b : Ref sig .tc) → Buf (Elt F) ((c.tc : Thread nD τ).loc b)) (c : Dev nD) (t : Fin (cfg (F := F)).N)

/-- What the body finds, stepped, is what the data say of the next point. -/
theorem step_found (g : Carry F) (hg : t.val ≠ 0 → g = carryAt V c t.val) : stepAt V c t g = carryAt V c (t.val + 1) := by
  rw [carryAt_succ]
  by_cases h : t.val = 0
  · have hf := first_zero (num t) h
    unfold stepAt pointStep clear
    rw [if_pos hf, if_pos hf]
  · rw [hg h]

/-- A window's buffer at a point. -/
abbrev st (w : Fin 4) := ((cfg (F := F)).win w).stage ((cfg (F := F)).slots t w)

/-- What the body is called with, -/
def bodyPre : sProp 𝕄 :=
  iprop((dats V 0 c).Φ t.castSucc ∗ (dats V 0 c).owesAt () t.castSucc
    ∗ (∃ d, owns (c : Thread nD τ) (st t 0) fullShare ((dats V 0 c).before 0 t d))
    ∗ (∃ d, owns (c : Thread nD τ) (st t 1) fullShare ((dats V 0 c).before 1 t d))
    ∗ (∃ d, owns (c : Thread nD τ) (st t 2) fullShare ((dats V 0 c).before 2 t d))
    ∗ (∃ d, owns (c : Thread nD τ) (st t 3) fullShare ((dats V 0 c).before 3 t d)))

/-- and what it returns. -/
def bodyPost (R : sProp 𝕄) : sProp 𝕄 :=
  iprop((dats V 0 c).Φ t.succ ∗ (dats V 0 c).owesAt () t.succ
    ∗ owns (c : Thread nD τ) (st t 0) fullShare ((dats V 0 c).after 0 t)
    ∗ owns (c : Thread nD τ) (st t 1) fullShare ((dats V 0 c).after 1 t)
    ∗ owns (c : Thread nD τ) (st t 2) fullShare ((dats V 0 c).after 2 t)
    ∗ R)

/-- The body as the pipeline calls it at a point. -/
abbrev bodyAt : Prog (TpuEff nD τ sig (Elt F) Λ₀ .tc) PUnit :=
  body (grid0.coords t) tab1 tab2 (st t 0) (st t 1) (st t 2) (st t 3) (Memref.whole cc0_scratch0) (Memref.whole cc0_scratch1) (Memref.whole cc0_scratch2)

theorem row_eq : defs₀ (F := F) .tc (cfg (F := F)).body ((cfg (F := F)).bodyArgs t ((cfg (F := F)).slots t)) = bodyAt t := by
  unfold defs₀; rw [Defs.onTc_tc]
  exact body_eq _ _ _ _ _ _ _ _ _ _ _ _ _ _ _ _ _ _ _

/-- The run of the body with the tables' words named. -/
theorem wp_point (a4 a5 a6 : Memref sig .tc .vmem S512x1024 .bf16) (a7 a8 a9 a10 : Memref sig .tc .vmem S512x1024 .f32)
    (i : grid0.Coords) (v1 v3 : BitVec 32) (h1 : wordAt (F := F) (tables 0) i = v1) (h3 : wordAt (F := F) (tables 1) i = v3)
    (x : Operands F) (g : Carry F) (o : Vec F S512x1024 .f32) (K : PUnit → sProp 𝕄) :
    iprop(held c a4 a5 a6 a8 a9 a10 x g ∗ owns (c : Thread nD τ) a7 fullShare o
        ∗ owns (c : Thread nD τ) tab1 fullShare.right (tables 0) ∗ owns (c : Thread nD τ) tab2 fullShare.right (tables 1)
        ∗ (iprop((held c a4 a5 a6 a8 a9 a10 x (pointStep v1 v3 x g)
              ∗ owns (c : Thread nD τ) a7 fullShare (outStep v1 v3 (pointStep v1 v3 x g) o))
            ∗ owns (c : Thread nD τ) tab1 fullShare.right (tables 0) ∗ owns (c : Thread nD τ) tab2 fullShare.right (tables 1)) -∗ K ⟨⟩))
      ⊢ wp frame (wpE (defs₀ (F := F)) Variants.none c none) Set.univ (body i tab1 tab2 a4 a5 a6 a7 a8 a9 a10) K := by
  subst h1 h3
  exact wp_body c a4 a5 a6 a7 a8 a9 a10 i x g fullShare.right (tables 0) (tables 1) o K

/-- The body's run, up to what it leaves in the output's block. -/
theorem sound_point (R : sProp 𝕄)
    (hR : ∀ d, owns (c : Thread nD τ) (st t 3) fullShare
      (outStep (lit0 (num t)) (lit1 (num t)) (carryAt V c (t.val + 1)) ((dats V 0 c).before 3 t d)) ⊢ R) :
    bodyPre V c t ⊢ wp frame (wpE (defs₀ (F := F)) Variants.none c none) Set.univ (bodyAt t) (fun _ => bodyPost V c t R) := by
  unfold bodyPre bodyPost
  simp only [before_0, before_1, before_2]
  rw [Phi_eq, Phi_eq, Fin.val_castSucc, Fin.val_succ, after_0, after_1, after_2]
  unfold Dat.owesAt Pipeline.owesWithin PhiS
  rw [owed_eq, owed_eq]
  iintro ⟨⟨⟨%g, %hg, Hm, Hl, Ha⟩, HR, HT1, HT2⟩, ⟨%W, -, HW⟩, ⟨%d0, H0⟩, ⟨%d1, H1⟩, ⟨%d2, H2⟩, ⟨%d3, H3⟩⟩
  iapply (wp_point c (st t 0) (st t 1) (st t 2) (st t 3) (Memref.whole cc0_scratch0) (Memref.whole cc0_scratch1) (Memref.whole cc0_scratch2)
    (grid0.coords t) (lit0 (num t)) (lit1 (num t))
    ((wordAt_tables0 (grid0.coords t)).trans (congrArg lit0 (coords_num t))) ((wordAt_tables1 (grid0.coords t)).trans (congrArg lit1 (coords_num t)))
    (opsAt V c t) g ((dats V 0 c).before 3 t d3) _)
  rw [show pointStep (lit0 (num t)) (lit1 (num t)) (opsAt V c t) g = carryAt V c (t.val + 1) from step_found V c t g hg]
  unfold held
  isplitl [H0 H1 H2 Hm Hl Ha]
  · isplitl [H0]; · iexact H0
    isplitl [H1]; · iexact H1
    isplitl [H2]; · iexact H2
    isplitl [Hm]; · iexact Hm
    isplitl [Hl]; · iexact Hl
    iexact Ha
  isplitl [H3]; · iexact H3
  isplitl [HT1]; · iexact HT1
  isplitl [HT2]; · iexact HT2
  iintro ⟨⟨⟨H0, H1, H2, Hm, Hl, Ha⟩, H3⟩, HT1, HT2⟩
  isplitl [Hm Hl Ha HR HT1 HT2]
  · isplitl [Hm Hl Ha]
    · iexists (carryAt V c (t.val + 1)); isplitr
      · ipureintro; exact fun _ => rfl
      isplitl [Hm]; · iexact Hm
      isplitl [Hl]; · iexact Hl
      iexact Ha
    isplitl [HR]; · iexact HR
    isplitl [HT1]; · iexact HT1
    iexact HT2
  isplitl [HW]
  · iexists W; isplitr
    swap; · iexact HW
    ipureintro; exact fun _ _ => Or.inl trivial
  isplitl [H0]; · iexact H0
  isplitl [H1]; · iexact H1
  isplitl [H2]; · iexact H2
  iapply (hR d3)
  iexact H3

/-- The output's block, held as a point leaves it. -/
theorem out_diag (a7 : Memref sig .tc .vmem S512x1024 .f32) (v1 v3 : BitVec 32) (g : Carry F) (o : Vec F S512x1024 .f32)
    (h : k0_cond3 v1 v3 = 1#1) :
    (owns (c : Thread nD τ) a7 fullShare (outStep v1 v3 g o) : sProp 𝕄) ⊢ owns (c : Thread nD τ) a7 fullShare (finishAll g noSum) := by
  rw [outStep, if_pos h, finishAll_congr g o noSum]
theorem out_rest (a7 : Memref sig .tc .vmem S512x1024 .f32) (v1 v3 : BitVec 32) (g : Carry F) (o : Vec F S512x1024 .f32)
    (h : k0_cond3 v1 v3 ≠ 1#1) :
    (owns (c : Thread nD τ) a7 fullShare (outStep v1 v3 g o) : sProp 𝕄) ⊢ owns (c : Thread nD τ) a7 fullShare o := by
  rw [outStep, if_neg h]

/-- On the diagonal the output's block is done. -/
theorem sound_diag (h : k0_cond3 (lit0 (num t)) (lit1 (num t)) = 1#1) :
    bodyPre V c t ⊢ wp frame (wpE (defs₀ (F := F)) Variants.none c none) Set.univ (bodyAt t)
      (fun _ => bodyPost V c t (owns (c : Thread nD τ) (st t 3) fullShare ((dats V 0 c).after 3 t))) :=
  sound_point V c t _ fun d => out_diag c (st t 3) _ _ _ ((dats V 0 c).before 3 t d) h

/-- Off it the block stays as it was. -/
theorem sound_rest (h : k0_cond3 (lit0 (num t)) (lit1 (num t)) ≠ 1#1) :
    bodyPre V c t ⊢ wp frame (wpE (defs₀ (F := F)) Variants.none c none) Set.univ (bodyAt t)
      (fun _ => bodyPost V c t iprop(∃ d, owns (c : Thread nD τ) (st t 3) fullShare ((dats V 0 c).before 3 t d))) :=
  sound_point V c t _ fun d => (out_rest c (st t 3) _ _ _ ((dats V 0 c).before 3 t d) h).trans (by
    iintro H
    iexists d
    iexact H)

end

/-- What is asked of the output's block on the diagonal, and off it. -/
theorem left_diag (i f : Bool) (A B : sProp 𝕄) :
    i = false → (B ⊢ match i with | true => (match f with | false => A | true => B) | false => B) := by
  rintro rfl; exact .rfl
theorem left_rest (i f : Bool) (A B : sProp 𝕄) :
    i = true → f = false → (A ⊢ match i with | true => (match f with | false => A | true => B) | false => B) := by
  rintro rfl rfl; exact .rfl

/-- The library's body obligation, at every point. -/
theorem body_obligation (V : (c : Dev nD) → (b : Ref sig .tc) → Buf (Elt F) ((c.tc : Thread nD τ).loc b)) (c : Dev nD) :
    BodyObligation (dats (F := F) V 0 c) (defs₀ (F := F)) Variants.none () Set.univ := fun t => by
  rw [bigSep_W0, bigSep_W0, row_eq]
  by_cases h : k0_cond3 (lit0 (num t)) (lit1 (num t)) = 1#1
  · have hi : (cfg (F := F)).idle 3 (grid0.coords t) = false := by rw [idle_3, h]; rfl
    exact triple_restated (sound_diag V c t h) rfl .rfl fun _ => sep_mono_r (sep_mono_r (sep_mono_r (sep_mono_r (sep_mono_r (left_diag _ _ _ _ hi)))))
  · have hi : (cfg (F := F)).idle 3 (grid0.coords t) = true := by rw [idle_3]; simpa using h
    exact triple_restated (sound_rest V c t h) rfl .rfl fun _ => sep_mono_r (sep_mono_r (sep_mono_r (sep_mono_r (sep_mono_r
      (left_rest _ _ _ _ hi (flush_3 t h))))))

end Cert.Kernel20Ideal.Flash

end
-- ==== Proof.Forward.Launch.lean ====
/- The launch of the forward pass: the host operations before the kernel, then the pipeline. The run ends with every
   argument unchanged, every semaphore at zero, and the output where the data say. -/
module

public import proofs.«01_k».proof.Proof.Forward.Obligation
public import Idealize.ShloMosaic.Lib.StableHlo.RunRead

@[expose] public section

noncomputable section

namespace Cert.Kernel20Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel20Ideal.Gen

variable {F : FTy → Type} [FloatOps F]

local notation "𝕄" => MT nD τ sig Unit (Elt F) ℕ (UR sig nD τ) ℕ

/-- The stretches of host operations before the kernel. -/
def stretches : List (List (HloOp τ sig (Elt F))) :=
  [hostOps0, hostOps0_1, hostOps0_2, hostOps0_3, hostOps0_4, hostOps0_5, hostOps0_6]

variable (m : (ℓ : Loc nD τ sig) → Buf (Elt F) ℓ) (ρ : Dev nD → PrngReg)

/-- What the buffers hold when the kernel starts. -/
def V (c : Dev nD) (b : Ref sig .tc) : Buf (Elt F) ((c.tc : Thread nD τ).loc b) :=
  StableHlo.after (stretches (F := F)).flatten (fun b => m (c, b)) b

theorem V_arg0 (c : Dev nD) : V m c main_arg0 = m ((c.tc : Thread nD τ).loc main_arg0) := by
  unfold V stretches; after_reads_simp
theorem V_arg1 (c : Dev nD) : V m c main_arg1 = m ((c.tc : Thread nD τ).loc main_arg1) := by
  unfold V stretches; after_reads_simp
theorem V_arg2 (c : Dev nD) : V m c main_arg2 = m ((c.tc : Thread nD τ).loc main_arg2) := by
  unfold V stretches; after_reads_simp

/-- The tables hold their words. -/
theorem V_tables (c : Dev nD) (k : Fin 2) : V m c (pre0.ref k) = tables (F := F) k := by
  match k with
  | ⟨0, _⟩ => show V m c main_c = _; unfold V stretches; after_reads_simp; rfl
  | ⟨1, _⟩ => show V m c main_c_0 = _; unfold V stretches; after_reads_simp; rfl

theorem hmain : Pipeline.HMainP (Ix := Unit) (Name := ℕ) (U := UR sig nD τ) (Lvl := ℕ) (pcfgs (F := F)) (0 : Fin 1) defs₀ Variants.none m
    (main (F := F)) (V m) :=
  Pipeline.hmainP_prefixes (pcfgs (F := F)) (0 : Fin 1) defs₀ Variants.none m main (stretches (F := F))
    ⟨hostOps0_sub, hostOps0_1_sub, hostOps0_2_sub, hostOps0_3_sub, hostOps0_4_sub, hostOps0_5_sub, hostOps0_6_sub⟩
    (by unfold stretches; simp only [List.Forall]; repeat' constructor)
    (fun c => main_chain c)

theorem tables_held (c : Dev nD) :
    (Pipeline.ΦT pre0 (tables (F := F)) c : sProp 𝕄)
      = iprop(owns (c : Thread nD τ) tab1 fullShare.right (tables 0) ∗ owns (c : Thread nD τ) tab2 fullShare.right (tables 1)) := by
  unfold Pipeline.ΦT Pipeline.prefHeld
  rw [bigSep_univ_eq_bigSepL [(0 : Fin 2), (1 : Fin 2)] (by decide) (by decide)]
  exact congrArg₂ BI.sep (owns_whole (c : Thread nD τ) main_c fullShare.right (tables 0)).symm
    (owns_whole (c : Thread nD τ) main_c_0 fullShare.right (tables 1)).symm

/-- What the launch hands the body before the first point, -/
theorem enter (c : Dev nD) :
    iprop(Pipeline.ΦA spec0 c ∗ Pipeline.ΦT pre0 (tables (F := F)) c) ⊢ (PhiS (V m) c 0 : sProp 𝕄) := by
  unfold Pipeline.ΦA
  rw [scopedRest0_eq, tables_held]
  unfold PhiS
  simp only [owns_whole]
  iintro ⟨⟨⟨⟨%X, HX⟩, ⟨%Y, HY⟩, ⟨%Z, HZ⟩⟩, HR⟩, HT1, HT2⟩
  isplitl [HX HY HZ]
  · iexists (⟨X, Y, Z⟩ : Carry F); isplitr
    · ipureintro; exact fun h => absurd rfl h
    isplitl [HX]; · iexact HX
    isplitl [HY]; · iexact HY
    iexact HZ
  isplitl [HR]; · iexact HR
  isplitl [HT1]; · iexact HT1
  iexact HT2

/-- and what it takes back after the last. -/
theorem leave (c : Dev nD) : (PhiS (V m) c 36 : sProp 𝕄) ⊢ Pipeline.ΦA spec0 c := by
  unfold Pipeline.ΦA
  rw [scopedRest0_eq]
  unfold PhiS
  simp only [owns_whole]
  iintro ⟨⟨%g, -, HX, HY, HZ⟩, HR, -, -⟩
  isplitl [HX HY HZ]
  · isplitl [HX]; · iexists g.m; iexact HX
    isplitl [HY]; · iexists g.l; iexact HY
    iexists g.a; iexact HZ
  iexact HR

set_option backward.isDefEq.respectTransparency.types false in
/-- THE RUN. -/
theorem run_main : θ_run defs (onTc (τ := τ) (main (F := F))) ⟨m, fun _ => 0, ρ⟩
    (fun r => Pipeline.FramePost (Pipeline.pin (pcfgs (F := F)) adm) (dats (V m)) 0 (V m) r ∧ r.2.sem = fun _ => 0) :=
  Pipeline.θ_run_frameP_track (Q' := _) (pcfgs (F := F)) adm (dats (V m)) (0 : Fin 1) launch0 defs₀ Variants.none m ρ main
    (hbody := fun c => (body_obligation (V m) c).loose) (hshare := fun c => (dats (V m) 0 c).share_full fun _ => rfl)
    (howed := fun c t => owed_eq (V m) c t) (V := V m) (hmain := hmain m) (hA := A_eq (V m)) (hpf := V_tables m)
    (hin := enter m) (hout := leave m) (hQ' := fun _ h => h)

/-- No argument is an array a window moves. -/
theorem arr_ne : (∀ w : Fin 4, (spec0 w).arr.view.ref ≠ main_arg0) ∧ (∀ w : Fin 4, (spec0 w).arr.view.ref ≠ main_arg1)
    ∧ (∀ w : Fin 4, (spec0 w).arr.view.ref ≠ main_arg2) := by decide

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) arr_ne.1)).trans (V_arg0 m c),
     ((h.1 c).2 main_arg1 (Pipeline.mem_restRefs_of main_arg1 (by decide) arr_ne.2.1)).trans (V_arg1 m c),
     ((h.1 c).2 main_arg2 (Pipeline.mem_restRefs_of main_arg2 (by decide) arr_ne.2.2)).trans (V_arg2 m c)⟩,
    h.2⟩) (run_main m ρ)

end Cert.Kernel20Ideal.Flash

end
-- ==== Proof.Forward.Block.lean ====
/- One block of the forward pass, over the reals: what 512 queries against 512 keys make of the largest scores, the sums of
   exponentials and the weighted values of one head, row by row. The scores come of real numbers; the values may be infinite. -/
module

public import proofs.«01_k».proof.Proof.Forward.Body
public import proofs.«01_k».proof.Proof.Value.Rows
public import proofs.«01_k».proof.Proof.Value.Block

@[expose] public section

set_option maxRecDepth 16384

noncomputable section

namespace Cert.Attention

open Idealize.ShloMosaic Finset

/-- A nonnegative number goes into a sum. -/
theorem coe_mul_add {c : ℝ} (hc : 0 ≤ c) (x y : EReal) : ((c : ℝ) : EReal) * (x + y) = ((c : ℝ) : EReal) * x + ((c : ℝ) : EReal) * y :=
  EReal.left_distrib_of_nonneg_of_ne_top (EReal.coe_nonneg.2 hc) (EReal.coe_ne_top c) x y

theorem coe_mul_sum {c : ℝ} (hc : 0 ≤ c) {ι : Type} (s : Finset ι) (f : ι → EReal) :
    ((c : ℝ) : EReal) * ∑ i ∈ s, f i = ∑ i ∈ s, ((c : ℝ) : EReal) * f i := by
  classical
  induction s using Finset.induction_on with
  | empty => simp
  | insert i s hi ih => rw [sum_insert hi, sum_insert hi, coe_mul_add hc, ih]

/-- A matrix of 1,024 lanes that holds `f`, head by head. -/
def Laid {a : ℕ} (X : (⟨2, ![a, 1024]⟩ : Shape).Idx → EReal) (f : Fin 8 → Fin a → Fin 128 → EReal) : Prop :=
  ∀ h r e, X (ix2 r (lane h e)) = f h r e

/-- That matrix. -/
def laidOf {a : ℕ} (f : Fin 8 → Fin a → Fin 128 → EReal) : (⟨2, ![a, 1024]⟩ : Shape).Idx → EReal := fun i =>
  f ⟨(i 1).val / 128, by have : (i 1).val < 1024 := (i 1).isLt; omega⟩ (i 0) ⟨(i 1).val % 128, Nat.mod_lt _ (by decide)⟩

theorem laidOf_laid {a : ℕ} (f : Fin 8 → Fin a → Fin 128 → EReal) : Laid (laidOf f) f := by
  intro h r e
  show f ⟨(h.val * 128 + e.val) / 128, _⟩ r ⟨(h.val * 128 + e.val) % 128, _⟩ = _
  have e1 : (⟨(h.val * 128 + e.val) / 128, by omega⟩ : Fin 8) = h := Fin.ext (by show (h.val * 128 + e.val) / 128 = h.val; omega)
  have e2 : (⟨(h.val * 128 + e.val) % 128, Nat.mod_lt _ (by decide)⟩ : Fin 128) = e := Fin.ext (by show (h.val * 128 + e.val) % 128 = e.val; omega)
  rw [e1, e2]

theorem Laid.eq {a : ℕ} {X : (⟨2, ![a, 1024]⟩ : Shape).Idx → EReal} {f : Fin 8 → Fin a → Fin 128 → EReal} (hX : Laid X f) : X = laidOf f := by
  funext i
  have e : i = ix2 (i 0) (i 1) := funext fun b => by match b with | 0 => rfl | 1 => rfl
  obtain ⟨h, l, hl⟩ := exists_lane (i 1)
  rw [e, hl]
  exact (hX h (i 0) l).trans (laidOf_laid f h (i 0) l).symm

/-- A row of scores, some of them real and the others minus infinity, and the exponentials of them. -/
structure ScoreRow (S : Fin 512 → EReal) (p : Fin 512 → ℝ) : Prop where
  all : ∀ s, (∃ σ : ℝ, S s = ((σ : ℝ) : EReal) ∧ p s = Real.exp σ) ∨ (S s = ⊥ ∧ p s = 0)
  some : ∃ s, ∃ σ : ℝ, S s = ((σ : ℝ) : EReal)

/-- A row of what is carried: with `D` the sum of the exponentials met so far and `N` the values so weighted, either some
    number has been taken off the scores, or nothing has been met. -/
def RowHolds (m l a : Fin 128 → EReal) (D : ℝ) (N : Fin 128 → EReal) : Prop :=
  (∃ μ : ℝ, ∀ e, m e = ((μ : ℝ) : EReal) ∧ l e = ((Real.exp (-μ) * D : ℝ) : EReal) ∧ a e = ((Real.exp (-μ) : ℝ) : EReal) * N e)
    ∨ ((∀ e, m e = ⊥ ∧ l e = ((0 : ℝ) : EReal) ∧ a e = 0) ∧ D = 0 ∧ ∀ e, N e = 0)

/-- The largest of a row of scores is a real number. -/
theorem ScoreRow.max_real {S : Fin 512 → EReal} {p : Fin 512 → ℝ} (h : ScoreRow S p) :
    ∃ β : ℝ, univ.fold max (⊥ : EReal) S = ((β : ℝ) : EReal) := by
  obtain ⟨s, σ, hs⟩ := h.some
  refine ⟨_, (EReal.coe_toReal ?_ ?_).symm⟩
  · refine ne_of_lt ((fold_max_lt _).2 ⟨bot_lt_top, fun s _ => ?_⟩)
    rcases h.all s with ⟨σ, hσ, -⟩ | ⟨hσ, -⟩
    · rw [hσ]; exact EReal.coe_lt_top _
    · rw [hσ]; exact bot_lt_top
  · exact ne_of_gt (lt_of_lt_of_le (EReal.bot_lt_coe σ) ((le_fold_max _).2 (.inr ⟨s, mem_univ s, hs.symm.le⟩)))

/-- The exponential of a score with a number taken off. -/
theorem ScoreRow.exp_sub {S : Fin 512 → EReal} {p : Fin 512 → ℝ} (h : ScoreRow S p) (ν : ℝ) (s : Fin 512) :
    Ideal.exp (S s - ((ν : ℝ) : EReal)) = ((Real.exp (-ν) * p s : ℝ) : EReal) := by
  rcases h.all s with ⟨σ, hσ, hp⟩ | ⟨hσ, hp⟩
  · rw [hσ, hp, ← EReal.coe_sub, Ideal.exp_coe, ← Real.exp_add]
    exact congrArg _ (congrArg _ (by ring))
  · rw [hσ, hp, EReal.bot_sub, Ideal.exp_bot, mul_zero, EReal.coe_zero]

/-- A row with a block's scores and values taken in. -/
theorem RowHolds.next {m l a m' l' a' : Fin 128 → EReal} {D : ℝ} {N : Fin 128 → EReal} (h : RowHolds m l a D N)
    {S : Fin 512 → EReal} {p : Fin 512 → ℝ} (hS : ScoreRow S p) {v : Fin 512 → Fin 128 → EReal}
    (hm : ∀ M : EReal, (∀ e, m e = M) → (∀ e, m' e = max M (univ.fold max ⊥ S))
      ∧ (∀ e, l' e = Ideal.exp (M - max M (univ.fold max ⊥ S)) * l e + ∑ s, Ideal.exp (S s - max M (univ.fold max ⊥ S)))
      ∧ ∀ e, a' e = Ideal.exp (M - max M (univ.fold max ⊥ S)) * a e + ∑ s, Ideal.exp (S s - max M (univ.fold max ⊥ S)) * v s e) :
    RowHolds m' l' a' (D + ∑ s, p s) fun e => N e + ∑ s, ((p s : ℝ) : EReal) * v s e := by
  obtain ⟨β, hβ⟩ := hS.max_real
  left
  rcases h with ⟨μ, hμ⟩ | ⟨h0, hD, hN⟩
  · obtain ⟨h1, h2, h3⟩ := hm _ fun e => (hμ e).1
    have hmax : max ((μ : ℝ) : EReal) (univ.fold max ⊥ S) = ((max μ β : ℝ) : EReal) := by
      rw [hβ]; exact (EReal.coe_strictMono.monotone.map_max).symm
    rw [hmax] at h1 h2 h3
    have hx : Real.exp (μ - max μ β) = Real.exp (-max μ β) * Real.exp μ := by rw [← Real.exp_add]; congr 1; ring
    have hi : Real.exp μ * Real.exp (-μ) = 1 := by rw [← Real.exp_add, add_neg_cancel, Real.exp_zero]
    refine ⟨max μ β, fun e => ⟨h1 e, ?_, ?_⟩⟩
    · rw [h2 e, (hμ e).2.1]
      simp_rw [hS.exp_sub, coe_sum]
      rw [← EReal.coe_sub, Ideal.exp_coe, ← EReal.coe_mul, ← EReal.coe_add]
      refine congrArg _ ?_
      rw [← mul_sum, hx, mul_add]
      linear_combination Real.exp (-max μ β) * D * hi
    · rw [h3 e, (hμ e).2.2]
      simp_rw [hS.exp_sub]
      rw [← EReal.coe_sub, Ideal.exp_coe, ← mul_assoc, ← EReal.coe_mul, coe_mul_add (Real.exp_pos _).le, coe_mul_sum (Real.exp_pos _).le,
        hx, mul_assoc (Real.exp (-max μ β)), hi, mul_one]
      simp_rw [EReal.coe_mul, mul_assoc]
  · obtain ⟨h1, h2, h3⟩ := hm _ fun e => (h0 e).1
    have hmax : max (⊥ : EReal) (univ.fold max ⊥ S) = ((β : ℝ) : EReal) := by
      rw [hβ]; exact max_eq_right bot_le
    rw [hmax] at h1 h2 h3
    refine ⟨β, fun e => ⟨h1 e, ?_, ?_⟩⟩
    · rw [h2 e, (h0 e).2.1]
      simp_rw [hS.exp_sub, coe_sum]
      rw [EReal.coe_zero, mul_zero, zero_add, ← mul_sum, hD, zero_add]
    · rw [h3 e, (h0 e).2.2]
      simp_rw [hS.exp_sub]
      rw [mul_zero, zero_add, hN, zero_add, coe_mul_sum (Real.exp_pos _).le]
      simp_rw [EReal.coe_mul, mul_assoc]

/-- A row's end: the weighted values over the sum, and the logarithm of the sum. -/
theorem RowHolds.result {m l a : Fin 128 → EReal} {D : ℝ} {N : Fin 128 → EReal} (h : RowHolds m l a D N) (hD : 0 < D) (e : Fin 128) :
    Ideal.div (a e) (l e) = ((1 / D : ℝ) : EReal) * N e ∧ m e + Ideal.log (l e) = ((Real.log D : ℝ) : EReal) := by
  rcases h with ⟨μ, hμ⟩ | ⟨-, h0, -⟩
  · obtain ⟨h1, h2, h3⟩ := hμ e
    have hp := Real.exp_pos (-μ)
    rw [h1, h2, h3, Ideal.div_coe (mul_pos hp hD).ne', log_real (mul_pos hp hD), ← EReal.coe_add]
    refine ⟨?_, congrArg _ ?_⟩
    · rw [mul_comm, ← mul_assoc, ← EReal.coe_mul]
      exact congrArg (fun x : ℝ => ((x : ℝ) : EReal) * N e) (by field_simp)
    rw [Real.log_mul hp.ne' hD.ne', Real.log_exp]; ring
  · exact absurd h0 hD.ne'

end Cert.Attention

namespace Cert.Kernel20Ideal.Flash

open Idealize.ShloMosaic Idealize.SL.Sem Gen Cert.Attention Finset

variable {q k v : FVec Ideal S512x128 .bf16} {m l a : FVec Ideal S512x128 .f32} {s : FVec Ideal S512x512 .f32}
  {fq fk : Fin 512 → Fin 128 → ℝ} {fv : Fin 512 → Fin 128 → EReal}

/-- The scores of a block. -/
theorem scores_holds (hq : Holds q fq) (hk : Holds k fk) : Holds (scores (F := Ideal) q k) fun r s => ∑ e, fq r e * fk s e := by
  intro r s
  pointwise [scores]
  simp_rw [hq r _, hk s _, coe_dot]

/-- Every key of a block below the diagonal counts. -/
theorem scores_row (hq : Holds q fq) (hk : Holds k fk) (r : Fin 512) :
    ScoreRow (fun s => scores (F := Ideal) q k (ix2 r s)) fun s => Real.exp (∑ e, fq r e * fk s e) where
  all s := .inl ⟨_, scores_holds hq hk r s, rfl⟩
  some := ⟨0, _, scores_holds hq hk r 0⟩

/-- On the diagonal the keys up to the query do. -/
theorem scoresDiag_row (hq : Holds q fq) (hk : Holds k fk) (r : Fin 512) :
    ScoreRow (fun s => scoresDiag (F := Ideal) q k (ix2 r s)) fun s => if s ≤ r then Real.exp (∑ e, fq r e * fk s e) else 0 := by
  have key : ∀ s, scoresDiag (F := Ideal) q k (ix2 r s) = if s ≤ r then ((∑ e, fq r e * fk s e : ℝ) : EReal) else ⊥ := by
    intro s
    have h := scores_holds hq hk r s
    pointwise [scoresDiag]
    rw [h, Cert.KernelIdeal.Flash.sge_ofNat (by omega) (by omega)]
    by_cases hle : s ≤ r
    · rw [if_pos hle, decide_eq_true (Fin.le_def.1 hle)]; rfl
    · rw [if_neg hle, decide_eq_false (fun h => hle (Fin.le_def.2 h))]; exact mask_word
  refine ⟨fun s => ?_, r, _, (key r).trans (if_pos (le_refl r))⟩
  by_cases hle : s ≤ r
  · exact .inl ⟨_, (key s).trans (if_pos hle), if_pos hle⟩
  · exact .inr ⟨(key s).trans (if_neg hle), if_neg hle⟩

/-- The largest scores of a row whose 128 lanes held one number. -/
theorem rowMax_apply {r : Fin 512} {M : EReal} (hM : ∀ e, m (ix2 r e) = M) (e : Fin 128) :
    rowMax (F := Ideal) s m (ix2 r e) = max M (univ.fold max ⊥ fun j => s (ix2 r j)) := by
  pointwise [rowMax]
  rw [hM, mask_word]

theorem expos_apply {r : Fin 512} {M : EReal} (hM : ∀ e, m (ix2 r e) = M) (j : Fin 512) :
    expos (F := Ideal) s m (ix2 r j) = Ideal.exp (s (ix2 r j) - max M (univ.fold max ⊥ fun j => s (ix2 r j))) := by
  have h := fun e => rowMax_apply (s := s) hM e
  pointwise [expos]
  split_ifs <;> rw [h]

theorem rescale_apply {r : Fin 512} {M : EReal} (hM : ∀ e, m (ix2 r e) = M) (e : Fin 128) :
    rescale (F := Ideal) s m (ix2 r e) = Ideal.exp (M - max M (univ.fold max ⊥ fun j => s (ix2 r j))) := by
  have h := fun e => rowMax_apply (s := s) hM e
  pointwise [rescale]
  rw [h, hM]

/-- One head's step on a row. -/
theorem step_row {r : Fin 512} {D : ℝ} {N : Fin 128 → EReal} (h : RowHolds (fun e => m (ix2 r e)) (fun e => l (ix2 r e)) (fun e => a (ix2 r e)) D N)
    {p : Fin 512 → ℝ} (hS : ScoreRow (fun j => s (ix2 r j)) p) (hv : ∀ j e, v (ix2 j e) = fv j e) :
    RowHolds (fun e => maxNext (F := Ideal) s m (ix2 r e)) (fun e => sumNext (F := Ideal) s m l (ix2 r e))
      (fun e => accNext (F := Ideal) s m a v (ix2 r e)) (D + ∑ j, p j) fun e => N e + ∑ j, ((p j : ℝ) : EReal) * fv j e := by
  refine h.next hS fun M hM => ⟨fun e => ?_, fun e => ?_, fun e => ?_⟩
  · have h1 := rowMax_apply (s := s) hM e
    pointwise [maxNext]
    rw [h1]
  · have h1 := rescale_apply (s := s) hM e
    have h2 := fun j => expos_apply (s := s) hM j
    pointwise [sumNext]
    simp_rw [h1, h2]
  · have h1 := rescale_apply (s := s) hM e
    have h2 := fun j => expos_apply (s := s) hM j
    pointwise [accNext]
    simp_rw [h1, h2, hv _ e]

/-- A row's end. -/
theorem result_row {r : Fin 512} {D : ℝ} {N : Fin 128 → EReal} (h : RowHolds (fun e => m (ix2 r e)) (fun e => l (ix2 r e)) (fun e => a (ix2 r e)) D N)
    (hD : 0 < D) (e : Fin 128) :
    result (F := Ideal) m l a (ix2 r e) = if e.val < 64 then ((1 / D : ℝ) : EReal) * N e else ((Real.log D : ℝ) : EReal) := by
  have h1 := h.result hD e
  have hs : ∀ e : Fin 128, IntOp.cmpi .slt (BitVec.ofNat 32 e.val) 64#32 = BitVec.ofBool (decide (e.val < 64)) := by decide +kernel
  pointwise [result]
  rw [hs]
  by_cases b : e.val < 64
  · rw [if_pos b, decide_eq_true b]; exact h1.1
  · rw [if_neg b, decide_eq_false b]; exact h1.2

end Cert.Kernel20Ideal.Flash
-- ==== Proof.Forward.Heads.lean ====
/- What the eight heads of one block of queries against one block of keys make of the carried arrays, over the reals, and
   what the end of a row of blocks makes of the output. -/
module

public import proofs.«01_k».proof.Proof.Forward.Step
public import proofs.«01_k».proof.Proof.Forward.Block

@[expose] public section

set_option maxRecDepth 16384

noncomputable section

namespace Cert.Kernel20Ideal.Flash

open Idealize.ShloMosaic Idealize.SL.Sem Gen Cert.Attention Finset

/-- The lanes of a head, read out of a block. -/
theorem lanesOf_apply {e : EltTy} (X : Vec Ideal S512x1024 e) (h : Fin 8) (c : ℕ) (hc : c + 128 ≤ 1024) (eq : c = h.val * 128)
    (r : Fin 512) (y : Fin 128) : lanesOf X c hc (ix2 r y) = X (ix2 r (lane h y)) := by
  refine congrArg X (funext fun a => Fin.ext ?_)
  match a with
  | 0 => show 0 + 1 * r.val = r.val; omega
  | 1 => show c + 1 * y.val = h.val * 128 + y.val; omega

/-- A head's lanes replaced. -/
theorem put_apply (X : FVec Ideal S512x1024 .f32) (w : FVec Ideal S512x128 .f32) (g : Fin 8) (c : ℕ) (eq : c = g.val * 128)
    (h : Fin 8) (r : Fin 512) (y : Fin 128) :
    VecWindow.put (s := S512x1024) X ![0, c] S512x128.size w (ix2 r (lane h y)) = if h = g then w (ix2 r y) else X (ix2 r (lane h y)) := by
  by_cases b : h = g
  · rw [if_pos b]
    have hb : ∀ a : Fin 2, (![0, c] : Fin 2 → ℕ) a ≤ ((ix2 r (lane h y) : S512x1024.Idx) a).val
        ∧ ((ix2 r (lane h y) : S512x1024.Idx) a).val < (![0, c] : Fin 2 → ℕ) a + S512x128.size a := by
      intro a
      match a with
      | 0 => exact ⟨Nat.zero_le _, lt_of_lt_of_eq r.isLt (Nat.zero_add 512).symm⟩
      | 1 => show c ≤ h.val * 128 + y.val ∧ h.val * 128 + y.val < c + 128; rw [b]; omega
    refine (dif_pos hb).trans (congrArg w (funext fun a => Fin.ext ?_))
    match a with
    | 0 => rfl
    | 1 => show h.val * 128 + y.val - c = y.val; rw [b]; omega
  · rw [if_neg b]
    refine dif_neg fun hb => b ?_
    have h1 : c ≤ h.val * 128 + y.val ∧ h.val * 128 + y.val < c + 128 := hb 1
    exact Fin.ext (by omega)

/-- What is carried, of eight heads: the sums of exponentials `D` and the weighted values `N`. -/
def CarryHolds (g : Carry Ideal) (D : Fin 8 → Fin 512 → ℝ) (N : Fin 8 → Fin 512 → Fin 128 → EReal) : Prop :=
  ∀ h r, RowHolds (fun e => g.m (ix2 r (lane h e))) (fun e => g.l (ix2 r (lane h e))) (fun e => g.a (ix2 r (lane h e))) (D h r) (N h r)

/-- The start of a row of blocks. -/
theorem clear_holds : CarryHolds ⟨noMax, noSum, noSum⟩ (fun _ _ => 0) fun _ _ _ => 0 := by
  intro h r
  have h1 : ∀ e, noMax (F := Ideal) (ix2 r (lane h e)) = ⊥ := fun e => by
    pointwise [noMax]
    exact mask_word
  have h2 : ∀ e, noSum (F := Ideal) (ix2 r (lane h e)) = ((0 : ℝ) : EReal) := fun e => by
    pointwise [noSum]
    rfl
  exact .inr ⟨fun e => ⟨h1 e, h2 e, (h2 e).trans EReal.coe_zero⟩, rfl, fun _ => rfl⟩

section
variable {sc : Score Ideal} {x : Operands Ideal} {p : Fin 8 → Fin 512 → Fin 512 → ℝ} {fv : Fin 8 → Fin 512 → Fin 128 → EReal}
  (hp : ∀ h c hc, c = h.val * 128 → ∀ r, ScoreRow (fun s => sc (lanesOf x.q c hc) (lanesOf x.k c hc) (ix2 r s)) (p h r))
  (hv : Laid (a := 512) x.v fv)
include hp hv

theorem headStep_holds {g : Carry Ideal} {D : Fin 8 → Fin 512 → ℝ} {N : Fin 8 → Fin 512 → Fin 128 → EReal} (hg : CarryHolds g D N)
    (h : Fin 8) (c : ℕ) (hc : c + 128 ≤ 1024) (eq : c = h.val * 128) :
    CarryHolds (headStep sc x c hc g) (fun h' r => if h' = h then D h' r + ∑ s, p h' r s else D h' r)
      fun h' r e => if h' = h then N h' r e + ∑ s, ((p h' r s : ℝ) : EReal) * fv h' s e else N h' r e := by
  intro h' r
  simp only [headStep, put_apply _ _ h c eq]
  by_cases b : h' = h
  · subst b
    simp only [if_true]
    refine step_row ?_ (hp h' c hc eq r) fun s e => (lanesOf_apply x.v h' c hc eq s e).trans (hv h' s e)
    simp only [lanesOf_apply _ h' c hc eq]
    exact hg h' r
  · simp only [if_neg b]
    exact hg h' r

/-- The eight heads together. -/
theorem headsStep_holds {g : Carry Ideal} {D : Fin 8 → Fin 512 → ℝ} {N : Fin 8 → Fin 512 → Fin 128 → EReal} (hg : CarryHolds g D N) :
    CarryHolds (headsStep sc x g) (fun h r => D h r + ∑ s, p h r s) fun h r e => N h r e + ∑ s, ((p h r s : ℝ) : EReal) * fv h s e := by
  have st := fun {g : Carry Ideal} {D : Fin 8 → Fin 512 → ℝ} {N : Fin 8 → Fin 512 → Fin 128 → EReal} (hg : CarryHolds g D N) (h : Fin 8) (c : ℕ)
    (hc : c + 128 ≤ 1024) (e : c = h.val * 128) => headStep_holds hp hv hg h c hc e
  have h8 := st (st (st (st (st (st (st (st hg 0 0 (by decide) rfl) 1 128 (by decide) rfl) 2 256 (by decide) rfl) 3 384 (by decide) rfl)
    4 512 (by decide) rfl) 5 640 (by decide) rfl) 6 768 (by decide) rfl) 7 896 (by decide) rfl
  intro h r
  have h9 := h8 h r
  fin_cases h <;> exact h9
end

/-- The end of a row of blocks, of the eight heads. -/
theorem finishAll_holds {g : Carry Ideal} {D : Fin 8 → Fin 512 → ℝ} {N : Fin 8 → Fin 512 → Fin 128 → EReal} (hg : CarryHolds g D N)
    (hD : ∀ h r, 0 < D h r) (o : FVec Ideal S512x1024 .f32) :
    Laid (a := 512) (finishAll g o) fun h r e =>
      if e.val < 64 then ((1 / D h r : ℝ) : EReal) * N h r e else ((Real.log (D h r) : ℝ) : EReal) := by
  have st : ∀ (h : Fin 8) (c : ℕ) (hc : c + 128 ≤ 1024) (eq : c = h.val * 128) (o : FVec Ideal S512x1024 .f32) (h' : Fin 8) (r : Fin 512)
      (e : Fin 128), finishStep g c hc o (ix2 r (lane h' e))
        = if h' = h then (if e.val < 64 then ((1 / D h' r : ℝ) : EReal) * N h' r e else ((Real.log (D h' r) : ℝ) : EReal)) else o (ix2 r (lane h' e)) := by
    intro h c hc eq o h' r e
    unfold finishStep
    rw [put_apply _ _ h c eq]
    by_cases b : h' = h
    · subst b
      rw [if_pos rfl, if_pos rfl]
      refine result_row ?_ (hD h' r) e
      simp only [lanesOf_apply _ h' c hc eq]
      exact hg h' r
    · rw [if_neg b, if_neg b]
  intro h r e
  unfold finishAll
  rw [st 7 896 _ rfl, st 6 768 _ rfl, st 5 640 _ rfl, st 4 512 _ rfl, st 3 384 _ rfl, st 2 256 _ rfl, st 1 128 _ rfl, st 0 0 _ rfl]
  fin_cases h <;> rfl

end Cert.Kernel20Ideal.Flash
-- ==== Proof.Forward.Points.lean ====
/- What is carried after every point of the grid of the forward pass, over the reals, and the array the launch leaves: each
   head's output in its lower 64 lanes, the logarithm of its sum of exponentials in the others. -/
module

public import proofs.«01_k».proof.Proof.Forward.Launch
public import proofs.«01_k».proof.Proof.Forward.Heads
public import proofs.«01_k».proof.Proof.Value.Arrays
public import Idealize.ShloMosaic.Lib.Pipeline.ValueKit

@[expose] public section

set_option maxRecDepth 16384

noncomputable section

namespace Cert.Attention

open Finset

/-- What a key adds to a query's sum of exponentials. -/
def Head.term (x : Head) (t s : Fin 4096) : ℝ := if s ≤ t then Real.exp (x.score t s) else 0

theorem Head.term_of_le (x : Head) {t s : Fin 4096} (h : s ≤ t) : x.term t s = Real.exp (x.score t s) := if_pos h
theorem Head.term_of_lt (x : Head) {t s : Fin 4096} (h : t < s) : x.term t s = 0 := if_neg (not_le.2 h)

theorem Head.sum_term (x : Head) (t : Fin 4096) : ∑ s, x.term t s = x.denom t := rfl

/-- The values `w` of the keys, weighted for a query. The values stand apart from the head, whose numbers are real. -/
def Head.mix (x : Head) (w : Fin 4096 → EReal) (t : Fin 4096) : EReal := ∑ s, ((x.weight t s : ℝ) : EReal) * w s

theorem Head.sum_term_value (x : Head) (w : Fin 4096 → EReal) (t : Fin 4096) :
    ((1 / x.denom t : ℝ) : EReal) * ∑ s, ((x.term t s : ℝ) : EReal) * w s = x.mix w t := by
  rw [coe_mul_sum (one_div_nonneg.2 (x.denom_pos t).le)]
  refine sum_congr rfl fun s _ => ?_
  rw [← mul_assoc, ← EReal.coe_mul]
  refine congrArg (fun y : ℝ => ((y : ℝ) : EReal) * w s) ?_
  unfold Head.term Head.weight
  split_ifs
  · ring
  · simp

/-- What the forward pass leaves of a head. -/
def Head.left (x : Head) (w : Fin 4096 → Fin 128 → EReal) (t : Fin 4096) (e : Fin 128) : EReal :=
  if e.val < 64 then x.mix (fun s => w s e) t else ((x.logSum t : ℝ) : EReal)

end Cert.Attention

namespace Cert.Kernel20Ideal.Flash

open Idealize.ShloMosaic Idealize.ShloMosaic.TcCoe Idealize.SL.Sem Gen Cert.Attention Finset
open Idealize.ShloMosaic.Pipeline (Window)

/-! ## The points -/

/-- The two blocks of a point, as block numbers. -/
def qAt (t : Fin 36) : Fin 8 := ⟨qBlock t, by revert t; decide +kernel⟩
def kAt (t : Fin 36) : Fin 8 := ⟨kBlock t, by revert t; decide +kernel⟩

theorem first_iff (t : Fin 36) : first (lit1 t) = 1#1 ↔ kAt t = 0 := by revert t; decide +kernel
theorem below_iff (t : Fin 36) : below (lit0 t) (lit1 t) = 1#1 ↔ kAt t < qAt t := by revert t; decide +kernel
theorem diag_iff (t : Fin 36) : k0_cond3 (lit0 t) (lit1 t) = 1#1 ↔ qAt t = kAt t := by revert t; decide +kernel
theorem kAt_le_qAt (t : Fin 36) : kAt t ≤ qAt t := by revert t; decide +kernel

/-- A point past the first of its row follows one on the block of keys before its own. -/
theorem point_before (t : Fin 36) (h : kAt t ≠ 0) :
    ∃ u : Fin 36, u.val + 1 = t.val ∧ qAt u = qAt t ∧ (kAt u).val + 1 = (kAt t).val := by
  revert t; decide +kernel

/-- Every block of queries has a point on the diagonal, after which its row of blocks ends. -/
theorem row_last (I : Fin 8) : ∃ t : Fin 36, qAt t = I ∧ qAt t = kAt t
    ∧ (t.val + 1 = 36 ∨ ∃ t' : Fin 36, t'.val = t.val + 1 ∧ qBlock t' ≠ qBlock t) := by
  revert I; decide +kernel

/-- A sum up to a block, from the sum up to the block before. -/
theorem sum_upto {M : Type} [AddCommMonoid M] (f : Fin 8 → M) (k k' : Fin 8) (h : k'.val + 1 = k.val) :
    (∑ J, if J ≤ k then f J else 0) = (∑ J, if J ≤ k' then f J else 0) + f k := by
  have hi : ∀ k k' : Fin 8, k'.val + 1 = k.val → univ.filter (· ≤ k) = insert k (univ.filter (· ≤ k')) ∧ k ∉ univ.filter (· ≤ k') := by
    decide +kernel
  rw [← sum_filter, ← sum_filter, (hi k k' h).1, sum_insert (hi k k' h).2, add_comm]

/-- A number put to zero at the first point of a row of blocks and added to at every point: after a point it is the sum over
    the blocks of keys up to its own. -/
theorem collect {M : Type} [AddCommMonoid M] (a : ℕ → M) (g : Fin 8 → Fin 8 → M)
    (ha : ∀ k (hk : k < 36), a (k + 1) = (if kAt ⟨k, hk⟩ = 0 then 0 else a k) + g (qAt ⟨k, hk⟩) (kAt ⟨k, hk⟩)) (n : Fin 36) :
    a (n.val + 1) = ∑ J, if J ≤ kAt n then g (qAt n) J else 0 := by
  have key : ∀ k (hk : k < 36), a (k + 1) = ∑ J, if J ≤ kAt ⟨k, hk⟩ then g (qAt ⟨k, hk⟩) J else 0 := by
    intro k
    induction k with
    | zero =>
      intro hk
      have h0 : kAt ⟨0, hk⟩ = 0 := (by decide +kernel : kAt 0 = 0)
      rw [ha 0 hk, if_pos h0, zero_add, h0, Finset.sum_eq_single 0 (fun J _ hJ => if_neg fun hle => hJ (le_antisymm hle (Fin.zero_le J)))
        fun h => absurd (mem_univ _) h]
      rfl
    | succ k ih =>
      intro hk
      rw [ha _ hk]
      by_cases b : kAt ⟨k + 1, hk⟩ = 0
      · rw [if_pos b, zero_add, b, Finset.sum_eq_single 0 (fun J _ hJ => if_neg fun hle => hJ (le_antisymm hle (Fin.zero_le J)))
          fun h => absurd (mem_univ _) h]
        rfl
      · obtain ⟨u, hu, hq, hj⟩ := point_before _ b
        have eu : u = ⟨k, by omega⟩ := Fin.ext (Nat.succ.inj hu)
        rw [if_neg b, ih (by omega), ← eu, hq, sum_upto _ _ _ hj]
  exact key n.val n.isLt

/-! ## What the windows hold -/

section
variable (V : (c : Dev nD) → (b : Ref sig .tc) → Buf (Elt Ideal) ((c.tc : Thread nD τ).loc b)) (c : Dev nD) (t : Fin (cfg (F := Ideal)).N)

theorem index_0 : ((cfg (F := Ideal)).win 0).index t = ![qBlock (num t), 0] :=
  (ix_q (F := Ideal) (grid0.coords t)).trans (by rw [coords_num])
theorem index_1 : ((cfg (F := Ideal)).win 1).index t = ![kBlock (num t), 0] :=
  (ix_k (F := Ideal) (grid0.coords t)).trans (by rw [coords_num])
theorem index_2 : ((cfg (F := Ideal)).win 2).index t = ![kBlock (num t), 1] :=
  (ix_v (F := Ideal) (grid0.coords t)).trans (by rw [coords_num])

theorem read_q (r : Fin 512) (l : Fin 1024) : (opsAt V c t).q (ix2 r l) = V c main_v4 (ix2 (rowIn (qAt (num t)) r) l) := by
  refine congrArg (V c main_v4) (funext fun a => Fin.ext ((ValueKit.rect_emb_unit_val _ _ _ _ a).trans ?_))
  refine (congrArg (fun n => n * ((cfg (F := Ideal)).win 0).size a + _) (congrFun (index_0 t) a)).trans ?_
  match a with
  | 0 => rfl
  | 1 => show 0 * 1024 + l.val = l.val; omega
theorem read_k (r : Fin 512) (l : Fin 1024) : (opsAt V c t).k (ix2 r l) = V c main_v7 (ix2 (rowIn (kAt (num t)) r) l) := by
  refine congrArg (V c main_v7) (funext fun a => Fin.ext ((ValueKit.rect_emb_unit_val _ _ _ _ a).trans ?_))
  refine (congrArg (fun n => n * ((cfg (F := Ideal)).win 1).size a + _) (congrFun (index_1 t) a)).trans ?_
  match a with
  | 0 => rfl
  | 1 => show 0 * 1024 + l.val = l.val; omega
theorem read_v (r : Fin 512) (l : Fin 1024) :
    (opsAt V c t).v (ix2 r l) = V c main_v11 (ix2 (rowIn (kAt (num t)) r) (⟨1024 + l.val, by omega⟩ : Fin 2048)) := by
  refine congrArg (V c main_v11) (funext fun a => Fin.ext ((ValueKit.rect_emb_unit_val _ _ _ _ a).trans ?_))
  refine (congrArg (fun n => n * ((cfg (F := Ideal)).win 2).size a + _) (congrFun (index_2 t) a)).trans ?_
  match a with
  | 0 => rfl
  | 1 => show 1 * 1024 + l.val = 1024 + l.val; omega

/-- The arrays the kernel is launched on hold eight heads: the scaled queries, the keys and the values (the upper half of a
    wider array). -/
structure Launched (H : Fin 8 → Head) (W : Fin 8 → Fin 4096 → Fin 128 → EReal) : Prop where
  q : Wide (a := 4096) (V c main_v4) fun h => (H h).q
  k : Wide (a := 4096) (V c main_v7) fun h => (H h).k
  v : ∀ h r e, V c main_v11 (ix2 r (⟨1024 + (lane h e).val, by omega⟩ : Fin 2048)) = W h r e

end

/-! ## One point -/

variable {H : Fin 8 → Head} {W : Fin 8 → Fin 4096 → Fin 128 → EReal} (V : (c : Dev nD) → (b : Ref sig .tc) → Buf (Elt Ideal) ((c.tc : Thread nD τ).loc b)) (c : Dev nD)
  (L : Launched V c H W)

section
include L

theorem q_holds (t : Fin (cfg (F := Ideal)).N) (h : Fin 8) (c' : ℕ) (hc : c' + 128 ≤ 1024) (e : c' = h.val * 128) :
    Holds (lanesOf (opsAt V c t).q c' hc) fun r e => (H h).q (rowIn (qAt (num t)) r) e := fun r y =>
  (lanesOf_apply _ h c' hc e r y).trans ((read_q V c t r _).trans (L.q h _ y))
theorem k_holds (t : Fin (cfg (F := Ideal)).N) (h : Fin 8) (c' : ℕ) (hc : c' + 128 ≤ 1024) (e : c' = h.val * 128) :
    Holds (lanesOf (opsAt V c t).k c' hc) fun s e => (H h).k (rowIn (kAt (num t)) s) e := fun r y =>
  (lanesOf_apply _ h c' hc e r y).trans ((read_k V c t r _).trans (L.k h _ y))
theorem v_holds (t : Fin (cfg (F := Ideal)).N) : Laid (a := 512) (opsAt V c t).v fun h s e => W h (rowIn (kAt (num t)) s) e :=
  fun h r e => (read_v V c t r _).trans (L.v h _ e)

/-- A block below the diagonal: every key counts. -/
theorem full_row (t : Fin (cfg (F := Ideal)).N) (hlt : kAt (num t) < qAt (num t)) (h : Fin 8) (c' : ℕ) (hc : c' + 128 ≤ 1024)
    (e : c' = h.val * 128) (r : Fin 512) :
    ScoreRow (fun s => scores (F := Ideal) (lanesOf (opsAt V c t).q c' hc) (lanesOf (opsAt V c t).k c' hc) (ix2 r s))
      fun s => (H h).term (rowIn (qAt (num t)) r) (rowIn (kAt (num t)) s) := by
  have e2 : (fun s => (H h).term (rowIn (qAt (num t)) r) (rowIn (kAt (num t)) s))
      = fun s => Real.exp (∑ e, (H h).q (rowIn (qAt (num t)) r) e * (H h).k (rowIn (kAt (num t)) s) e) := by
    funext s
    refine Head.term_of_le _ ?_
    have : (kAt (num t)).val < (qAt (num t)).val := hlt
    show (kAt (num t)).val * 512 + s.val ≤ (qAt (num t)).val * 512 + r.val
    omega
  rw [e2]
  exact scores_row (q_holds V c L t h c' hc e) (k_holds V c L t h c' hc e) r

/-- A block on the diagonal: the keys up to the query count. -/
theorem diag_row (t : Fin (cfg (F := Ideal)).N) (heq : qAt (num t) = kAt (num t)) (h : Fin 8) (c' : ℕ) (hc : c' + 128 ≤ 1024)
    (e : c' = h.val * 128) (r : Fin 512) :
    ScoreRow (fun s => scoresDiag (F := Ideal) (lanesOf (opsAt V c t).q c' hc) (lanesOf (opsAt V c t).k c' hc) (ix2 r s))
      fun s => (H h).term (rowIn (qAt (num t)) r) (rowIn (kAt (num t)) s) := by
  have e2 : (fun s => (H h).term (rowIn (qAt (num t)) r) (rowIn (kAt (num t)) s))
      = fun s => if s ≤ r then Real.exp (∑ e, (H h).q (rowIn (qAt (num t)) r) e * (H h).k (rowIn (kAt (num t)) s) e) else 0 := by
    funext s
    have hv : (qAt (num t)).val = (kAt (num t)).val := congrArg Fin.val heq
    by_cases hle : s ≤ r
    · refine (Head.term_of_le _ ?_).trans (if_pos hle).symm
      have : s.val ≤ r.val := hle
      show (kAt (num t)).val * 512 + s.val ≤ (qAt (num t)).val * 512 + r.val
      omega
    · refine (Head.term_of_lt _ ?_).trans (if_neg hle).symm
      have : r.val < s.val := not_le.1 hle
      show (qAt (num t)).val * 512 + r.val < (kAt (num t)).val * 512 + s.val
      omega
  rw [e2]
  exact scoresDiag_row (q_holds V c L t h c' hc e) (k_holds V c L t h c' hc e) r

/-- One point's step. -/
theorem stepAt_hold (t : Fin (cfg (F := Ideal)).N) {g : Carry Ideal} {D : Fin 8 → Fin 512 → ℝ} {N : Fin 8 → Fin 512 → Fin 128 → EReal}
    (hg : CarryHolds g D N) :
    CarryHolds (stepAt V c t g)
      (fun h r => (if kAt (num t) = 0 then 0 else D h r) + ∑ s, (H h).term (rowIn (qAt (num t)) r) (rowIn (kAt (num t)) s))
      fun h r e => (if kAt (num t) = 0 then 0 else N h r e)
        + ∑ s, (((H h).term (rowIn (qAt (num t)) r) (rowIn (kAt (num t)) s) : ℝ) : EReal) * W h (rowIn (kAt (num t)) s) e := by
  have h1 : CarryHolds (clear (lit1 (num t)) g) (fun h r => if kAt (num t) = 0 then 0 else D h r)
      fun h r e => if kAt (num t) = 0 then 0 else N h r e := by
    unfold clear
    by_cases h0 : kAt (num t) = 0
    · rw [if_pos ((first_iff _).2 h0)]
      simp only [if_pos h0]
      exact clear_holds
    · rw [if_neg (fun hf => h0 ((first_iff _).1 hf))]
      simp only [if_neg h0]
      exact hg
  unfold stepAt pointStep addDiag addFull
  by_cases h0 : qAt (num t) = kAt (num t)
  · rw [if_pos ((diag_iff _).2 h0), if_neg (fun hf => absurd ((below_iff _).1 hf) (by rw [h0]; exact lt_irrefl _))]
    exact headsStep_holds (p := fun h r s => (H h).term (rowIn (qAt (num t)) r) (rowIn (kAt (num t)) s)) (diag_row V c L t h0) (v_holds V c L t) h1
  · have hlt : kAt (num t) < qAt (num t) := lt_of_le_of_ne (kAt_le_qAt _) (Ne.symm h0)
    rw [if_neg (fun hf => h0 ((diag_iff _).1 hf)), if_pos ((below_iff _).2 hlt)]
    exact headsStep_holds (p := fun h r s => (H h).term (rowIn (qAt (num t)) r) (rowIn (kAt (num t)) s)) (full_row V c L t hlt) (v_holds V c L t) h1
end

/-! ## All the points before one -/

variable (H) in
/-- The sums of exponentials before point `n`, -/
def sumAt : ℕ → Fin 8 → Fin 512 → ℝ
  | 0 => fun _ _ => 0
  | n + 1 => if hn : n < 36 then fun h r => (if kAt ⟨n, hn⟩ = 0 then 0 else sumAt n h r)
      + ∑ s, (H h).term (rowIn (qAt ⟨n, hn⟩) r) (rowIn (kAt ⟨n, hn⟩) s) else sumAt n

variable (H W) in
/-- and the weighted values. -/
def accAt : ℕ → Fin 8 → Fin 512 → Fin 128 → EReal
  | 0 => fun _ _ _ => 0
  | n + 1 => if hn : n < 36 then fun h r e => (if kAt ⟨n, hn⟩ = 0 then 0 else accAt n h r e)
      + ∑ s, (((H h).term (rowIn (qAt ⟨n, hn⟩) r) (rowIn (kAt ⟨n, hn⟩) s) : ℝ) : EReal) * W h (rowIn (kAt ⟨n, hn⟩) s) e else accAt n

include L in
theorem carryAt_hold (n : ℕ) (hn : n ≤ 36) : CarryHolds (carryAt V c n) (sumAt H n) (accAt H W n) := by
  induction n with
  | zero => exact clear_holds
  | succ n ih =>
    have hN : n < (cfg (F := Ideal)).N := by rw [show (cfg (F := Ideal)).N = 36 from N_0]; omega
    rw [sumAt, accAt, dif_pos (by omega : n < 36), dif_pos (by omega : n < 36), carryAt, dif_pos hN]
    exact stepAt_hold V c L ⟨n, hN⟩ (ih (by omega))

/-- A sum over the blocks of keys up to a query's own is a sum over all keys, where the later ones count nothing. -/
theorem sum_blocks {M : Type} [AddCommMonoid M] (I : Fin 8) (r : Fin 512) (f : Fin 4096 → M) (hf : ∀ s, rowIn I r < s → f s = 0) :
    (∑ J, if J ≤ I then ∑ s, f (rowIn J s) else 0) = ∑ s, f s := by
  have rows : ∑ t, f t = ∑ I, ∑ r, f (rowIn I r) := by
    rw [← Fintype.sum_prod_type' (fun I r => f (rowIn I r))]
    refine (Fintype.sum_equiv (finProdFinEquiv (m := 8) (n := 512)) _ _ fun p => congrArg f (Fin.ext ?_)).symm
    show p.1.val * 512 + p.2.val = p.2.val + 512 * p.1.val
    omega
  rw [rows]
  refine sum_congr rfl fun J _ => ?_
  by_cases b : J ≤ I
  · rw [if_pos b]
  · rw [if_neg b]
    exact (sum_eq_zero fun s _ => hf _ (Cert.KernelIdeal.Flash.rowIn_lt b r s)).symm

/-- On the diagonal the sum of exponentials is complete, -/
theorem sumAt_diag (n : Fin 36) (hd : qAt n = kAt n) (h : Fin 8) (r : Fin 512) :
    sumAt H (n.val + 1) h r = (H h).denom (rowIn (qAt n) r) := by
  rw [collect (fun k => sumAt H k h r) (fun I J => ∑ s, (H h).term (rowIn I r) (rowIn J s)) (fun k hk => by rw [sumAt, dif_pos hk]) n, ← hd]
  exact (sum_blocks (qAt n) r ((H h).term (rowIn (qAt n) r)) fun s hs => Head.term_of_lt _ hs).trans (Head.sum_term _ _)

/-- and so are the weighted values. -/
theorem accAt_diag (n : Fin 36) (hd : qAt n = kAt n) (h : Fin 8) (r : Fin 512) (e : Fin 128) :
    accAt H W (n.val + 1) h r e = ∑ s, (((H h).term (rowIn (qAt n) r) s : ℝ) : EReal) * W h s e := by
  rw [collect (fun k => accAt H W k h r e) (fun I J => ∑ s, (((H h).term (rowIn I r) (rowIn J s) : ℝ) : EReal) * W h (rowIn J s) e)
    (fun k hk => by rw [accAt, dif_pos hk]) n, ← hd]
  exact sum_blocks (qAt n) r (fun s => (((H h).term (rowIn (qAt n) r) s : ℝ) : EReal) * W h s e) fun s hs => by
    rw [Head.term_of_lt _ hs, EReal.coe_zero, zero_mul]

include L in
/-- What the end of a row of blocks leaves. -/
theorem doneAt_hold (n : Fin 36) (hd : qAt n = kAt n) :
    Laid (a := 512) (doneAt V c (n.val + 1)) fun h r e => (H h).left (W h) (rowIn (qAt n) r) e := by
  have hc := carryAt_hold V c L (n.val + 1) n.isLt
  unfold doneAt
  generalize carryAt V c (n.val + 1) = g at hc ⊢
  have hD : ∀ h r, 0 < sumAt H (n.val + 1) h r := fun h r => by rw [sumAt_diag n hd]; exact Head.denom_pos _ _
  have hw := finishAll_holds hc hD (noSum (F := Ideal))
  intro h r e
  refine (hw h r e).trans ?_
  show (if e.val < 64 then ((1 / sumAt H (n.val + 1) h r : ℝ) : EReal) * accAt H W (n.val + 1) h r e
    else ((Real.log (sumAt H (n.val + 1) h r) : ℝ) : EReal)) = _
  rw [sumAt_diag n hd, accAt_diag n hd, Head.sum_term_value]
  rfl

/-! ## The array -/

/-- The last point of a row is written back. -/
theorem last_flush (t : Fin (cfg (F := Ideal)).N)
    (h : (num t).val + 1 = 36 ∨ ∃ t' : Fin 36, t'.val = (num t).val + 1 ∧ qBlock t' ≠ qBlock (num t)) :
    ((cfg (F := Ideal)).win 3).flush t = true := by
  unfold Window.flush
  rw [show ((cfg (F := Ideal)).win 3).isOut = true from rfl, Bool.true_and, Bool.or_eq_true]
  rcases h with h | ⟨t', ht, hk⟩
  · exact .inl (decide_eq_true (h.trans N_0.symm))
  · refine .inr (decide_eq_true ⟨?_, fun e => hk ?_⟩)
    · have := t'.isLt
      show t.val + 1 < grid0.N
      have hv : t'.val = t.val + 1 := ht
      have hN : grid0.N = 36 := N_0
      omega
    · rw [index_3, index_3] at e
      have e1 : qBlock _ = qBlock _ := congrFun e 0
      have e2 : num (F := Ideal) ⟨t.val + 1, by have hv : t'.val = t.val + 1 := ht; have := t'.isLt; have hN : grid0.N = 36 := N_0; show _ < grid0.N; omega⟩ = t' :=
        Fin.ext ht.symm
      rw [← e2]
      exact e1

/-- Where a block of the output lies in its array. -/
theorem emb_out (t : Fin (cfg (F := Ideal)).N) (y : S512x1024.Idx) (l : Fin 1024) (hl : y 1 = l) :
    (((cfg (F := Ideal)).win 3).blk t).view.emb y = (ix2 (rowIn (qAt (num t)) (y 0)) l : S4096x1024.Idx) := by
  subst hl
  refine funext fun a => Fin.ext ((ValueKit.rect_emb_unit_val _ _ _ _ a).trans ?_)
  refine (congrArg (fun n => n * ((cfg (F := Ideal)).win 3).size a + _) (congrFun (index_3 (F := Ideal) t) a)).trans ?_
  match a with
  | 0 => rfl
  | 1 => show 0 * 1024 + (y 1).val = (y 1).val; omega

include L in
/-- The output. -/
theorem arr_out : (dats V 0 c).arrAt 3 (cfg (F := Ideal)).N = laidOf (a := 4096) fun h => (H h).left (W h) := by
  refine (dats V 0 c).arrAt_eq_of_emb 3 _ (fun t hf y => ?_) fun i => ?_
  · have hd : qAt (num t) = kAt (num t) := by
      by_contra hne
      rw [flush_3 t fun h => hne ((diag_iff _).1 h)] at hf
      exact Bool.false_ne_true hf
    show doneAt V c (t.val + 1) y = laidOf (a := 4096) (fun h => (H h).left (W h)) _
    obtain ⟨h, e, hl⟩ := exists_lane (y 1)
    have ey : y = ix2 (y 0) (lane h e) := funext fun b => by match b with | 0 => rfl | 1 => exact hl
    refine Eq.trans ?_ (congrArg (laidOf (a := 4096) fun h => (H h).left (W h)) (emb_out t y _ hl)).symm
    rw [laidOf_laid (fun h => (H h).left (W h)) h, ey]
    exact doneAt_hold V c L (num t) hd h (y 0) e
  · have i0 : (i 0).val < 4096 := (i 0).isLt
    obtain ⟨t, hk, hd, hlast⟩ := row_last ⟨(i 0).val / 512, by omega⟩
    refine ⟨t.cast N_0.symm, last_flush _ hlast, ?_⟩
    refine Finset.mem_map.2 ⟨(ix2 ⟨(i 0).val % 512, Nat.mod_lt _ (by decide)⟩ (i 1) : S512x1024.Idx), Finset.mem_univ _, ?_⟩
    refine (emb_out (t.cast N_0.symm) _ (i 1) rfl).trans (funext fun a => Fin.ext ?_)
    match a with
    | 0 =>
      show (qAt t).val * 512 + (i 0).val % 512 = (i 0).val
      rw [hk]
      show (i 0).val / 512 * 512 + (i 0).val % 512 = (i 0).val
      omega
    | 1 => rfl

end Cert.Kernel20Ideal.Flash
-- ==== Proof.Forward.Host.lean ====
/- The arrays the forward pass is launched on, the queries and keys being real numbers: the host scales the queries, pads each
   head's lanes with zeros to 128 and lays the heads side by side. -/
module

public import proofs.«01_k».proof.Proof.Forward.Points
public import proofs.«01_k».proof.Proof.Value.Host

@[expose] public section

set_option maxRecDepth 16384

noncomputable section

namespace Cert.Kernel20Ideal.Flash

open Idealize.ShloMosaic Idealize.ShloMosaic.TcCoe Idealize.SL.Sem Gen Cert.Attention
open Cert.KernelIdeal.Flash (wide96 wide64 scaled pair wide96_wide scaled_holds pair_right)

/-- The values of a head, in 128 lanes. -/
def valuesOf (v : FVec Ideal S4096x8x64 .f32) (h : Fin 8) (r : Fin 4096) (e : Fin 128) : EReal :=
  if he : e.val < 64 then v (ix3 r h ⟨e.val, he⟩) else 0

theorem wide64_laid (v : FVec Ideal S4096x8x64 .f32) : Laid (a := 4096) (wide64 v) (valuesOf v) := by
  intro h r e
  pointwise [wide64]
  simp only [lane_div, lane_mod, valuesOf, Fin.isLt, true_and]
  split_ifs with he
  · rfl
  · exact Cert.KernelIdeal.Flash.pad_zero

variable (m : (ℓ : Loc nD τ sig) → Buf (Elt Ideal) ℓ) (c : Dev nD)

/-- The three arguments. -/
abbrev argQ : FVec Ideal S4096x8x96 .f32 := m ((c.tc : Thread nD τ).loc main_arg0)
abbrev argK : FVec Ideal S4096x8x96 .f32 := m ((c.tc : Thread nD τ).loc main_arg1)
abbrev argV : FVec Ideal S4096x8x64 .f32 := m ((c.tc : Thread nD τ).loc main_arg2)

theorem V_q : V m c main_v4 = truncf .bf16 (wide96 (scaled (argQ m c))) bitsLt_bf16_f32 := by
  unfold V stretches
  after_reads_simp
  rfl

theorem V_k : V m c main_v7 = truncf .bf16 (wide96 (argK m c)) bitsLt_bf16_f32 := by
  unfold V stretches
  after_reads_simp
  rfl

theorem V_v : V m c main_v11 = pair (truncf .bf16 (wide96 (argK m c)) bitsLt_bf16_f32) (truncf .bf16 (wide64 (argV m c)) bitsLt_bf16_f32) := by
  unfold V stretches
  after_reads_simp
  refine congrArg₂ pair ?_ ?_
  · after_reads_simp
    rfl
  · after_reads_simp
    rfl

/-- The queries and the keys hold the real numbers `A`. -/
structure ArgsHold (A : Args) : Prop where
  q : Holds3 (argQ m c) A.q
  k : Holds3 (argK m c) A.k

variable {m c} {A : Args}

/-- The kernel is launched on the heads of the arguments. -/
theorem launched (a : ArgsHold m c A) : Launched (V m) c A.head (valuesOf (argV m c)) where
  q := by rw [V_q]; exact wide96_wide (scaled_holds a.q)
  k := by rw [V_k]; exact wide96_wide a.k
  v h r e := by
    rw [V_v]
    exact (pair_right r (lane h e) _).trans (wide64_laid _ h r e)

end Cert.Kernel20Ideal.Flash
-- ==== Proof.Forward.Reference.lean ====
/- What the forward pass's reference computes: the softmax of the masked scores, its outputs and the logarithms of its sums,
   over the reals. -/
module

public import proofs.«01_k».proof.Proof.Value.Host
public import proofs.«01_k».proof.Proof.Value.Reference
public import proofs.«01_k».proof.Proof.Forward.Host
public import proofs.«01_k».proof.Proof.Gen.Reference20Ideal
public import proofs.«01_k».proof.Proof.Gen.Reference20Ideal.Run

@[expose] public section

set_option maxRecDepth 16384

noncomputable section

namespace Cert.Reference20Ideal.Soft

open Idealize.ShloMosaic Idealize.ShloMosaic.TcCoe Idealize.SL.Sem Gen Cert.Attention
open Cert.KernelIdeal.Flash (maskedScores rowMax rowExp rowSum outputs logSums maskedScores_apply rowMax_apply rowExp_apply rowSum_apply
  logSums_apply)
open Cert.Kernel20Ideal.Flash (valuesOf)

/-- The outputs and the log-sums side by side, head by head. -/
def both (x : FVec Ideal S4096x8x64 .f32) (y : FVec Ideal S4096x8x1 .f32) : FVec Ideal S4096x1024 .f32 :=
  shapeCast S4096x1024
    (concatenate S4096x8x128 2 [⟨S4096x8x64, x⟩, ⟨S4096x8x64, broadcastInDim S4096x8x64 ![0, 1, 2] bcast_S4096x8x1_S4096x8x64_0_1_2 y⟩]
      concatenates_S4096x8x64_S4096x8x64_S4096x8x128_d2 : FVec Ideal S4096x8x128 .f32)
    shapeCasts_S4096x8x128_S4096x1024

variable {A : Args}

/-- The outputs: the values weighted. -/
theorem outputs_mix {v : FVec Ideal S4096x8x64 .f32} {E : FVec Ideal S8x4096x4096 .f32} {μ : Fin 8 → Fin 4096 → ℝ}
    (hE : Holds3 E fun h t s => (A.head h).shifted (μ h t) t s) (t : Fin 4096) (h : Fin 8) (e : Fin 64) :
    outputs v E (ix3 t h e) = (A.head h).mix (fun s => v (ix3 s h e)) t := by
  pointwise [outputs]
  rw [rowSum_apply hE]
  simp_rw [hE _ _ _, div_real ((A.head h).sum_shifted_pos (μ h t) t).ne', Head.shifted_div, mul_comm (v _)]
  rfl

theorem both_laid {v x : FVec Ideal S4096x8x64 .f32} {y : FVec Ideal S4096x8x1 .f32}
    (hx : ∀ t h (e : Fin 64), x (ix3 t h e) = (A.head h).mix (fun s => v (ix3 s h e)) t)
    (hy : ∀ t h, y (ix3 t h 0) = (((A.head h).logSum t : ℝ) : EReal)) :
    Laid (a := 4096) (both x y) fun h => (A.head h).left (valuesOf v h) := by
  intro h r e
  pointwise [both]
  simp only [lane_div, lane_mod]
  unfold Head.left
  by_cases he : e.val < 64
  · rw [if_pos he]
    simp only [dif_pos he]
    refine (hx r h ⟨e.val, he⟩).trans (congrArg (fun w => (A.head h).mix w r) (funext fun s => ?_))
    rw [valuesOf, dif_pos he]
  · rw [if_neg he]
    simp only [dif_neg he]
    exact hy r h

variable (m : (ℓ : Loc nD τ sig) → Buf (Elt Ideal) ℓ) (c : Dev nD)

/-- The three arguments. -/
abbrev argQ : FVec Ideal S4096x8x96 .f32 := m ((c.tc : Thread nD τ).loc main_arg0)
abbrev argK : FVec Ideal S4096x8x96 .f32 := m ((c.tc : Thread nD τ).loc main_arg1)
abbrev argV : FVec Ideal S4096x8x64 .f32 := m ((c.tc : Thread nD τ).loc main_arg2)

/-- The masked scores. -/
abbrev scoresOf : FVec Ideal S8x4096x4096 .f32 := maskedScores (argQ m c) (argK m c)

/-- The exponentials of the scores below the greatest of their row, which is kept from falling below minus infinity. -/
abbrev expOf : FVec Ideal S8x4096x4096 .f32 := Cert.ReferenceIdeal.Grad.rowExp (scoresOf m c) (Cert.ReferenceIdeal.Grad.rowMax (Cert.ReferenceIdeal.Grad.rowTop (scoresOf m c)))

theorem res_eq : Value.res_main_v35 m c
    = both (outputs (argV m c) (expOf m c)) (logSums (rowMax (scoresOf m c)) (rowSum (rowExp (scoresOf m c)))) := by
  unfold Value.res_main_v35
  rfl

/-- The queries and the keys hold the real numbers `A`. -/
structure ArgsHold (A : Args) : Prop where
  q : Holds3 (argQ m c) A.q
  k : Holds3 (argK m c) A.k

variable {m c}

theorem left_eq (a : ArgsHold m c A) : Value.res_main_v35 m c = laidOf (a := 4096) fun h => (A.head h).left (valuesOf (argV m c) h) := by
  rw [res_eq]
  have hX := maskedScores_apply (A := A) a.q a.k
  choose μ hμ using fun h t => rowMax_apply (A := A) hX h t
  choose ν hν using fun h t => Cert.ReferenceIdeal.Grad.rowTop_apply (A := A) hX h t
  have hE := fun h t s => rowExp_apply (A := A) hX h t (hμ h t) s
  have hE' : Holds3 (expOf m c) fun h t s => (A.head h).shifted (ν h t) t s := Cert.ReferenceIdeal.Grad.rowExp_holds (A := A) hX (Cert.ReferenceIdeal.Grad.rowMax_apply hν)
  exact Laid.eq (both_laid (A := A) (fun t h e => outputs_mix (A := A) hE' t h e)
    (logSums_apply (A := A) hμ (rowSum_apply (A := A) hE)))

end Cert.Reference20Ideal.Soft
-- ==== Proof.Forward.Outputs.lean ====
/- The forward pass: its frames, and that the kernel's result is the reference's, both being the outputs and the log-sums of
   eight attention heads over the reals. -/
module

public import proofs.«01_k».proof.Defs
public import proofs.«01_k».proof.Proof.Gen.Kernel20
public import proofs.«01_k».proof.Proof.Forward.Host
public import proofs.«01_k».proof.Proof.Forward.Reference
public import proofs.«01_k».proof.Proof.Value.Finite

@[expose] public section

noncomputable section

namespace Cert.Proof.Forward

open Idealize.ShloMosaic Idealize.ShloMosaic.TcCoe Idealize.SL.Sem Cert.Attention

/-! ## The frames -/

/-- The frame of the kernel's text at any float values: from every memory it ends, faults nowhere, leaves the arguments as
    they were and every semaphore at zero. -/
def Quiet (F : FTy → Type) [FloatOps F] : Prop :=
  ∀ (m : (ℓ : Loc Cert.Kernel20Ideal.nD Cert.Kernel20Ideal.τ Cert.Kernel20Ideal.sig) → Buf (Elt F) ℓ) (g : Dev Cert.Kernel20Ideal.nD → PrngReg), True →
    θ_run (Cert.Kernel20Ideal.defs (F := F)) (onTc (τ := Cert.Kernel20Ideal.τ) (Cert.Kernel20Ideal.main (F := F))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

theorem quiet (F : FTy → Type) [FloatOps F] : Quiet F := fun m ρ _ => Cert.Kernel20Ideal.Flash.frame m ρ

/-- The printed kernel's frame is `Quiet` at the words: the two programs are the same text. -/
theorem same_text : Cert.quiescent_Kernel20 = Quiet Bits := by sl_kernel_rfl

theorem frame_kernel : Cert.quiescent_Kernel20 := same_text.mpr (quiet Bits)

theorem frame_ideal : Cert.quiescent_Kernel20Ideal := fun m ρ _ => Cert.Kernel20Ideal.Flash.frame m ρ

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

/-! ## The precondition -/

/-- The shape relations the precondition states. -/
instance facts : Cert.Pre_finite20.Facts where
  bcast_S_S4096x8x96 := by decide
  reducesTo_S4096x8x96_S_d0_1_2 := by decide
  h_S_ := by decide

section
open Cert.Kernel20Ideal Cert.Kernel20Ideal.Flash

/-- The entries of the queries and of the keys, of the precondition. -/
theorem entries {q k : FVec Ideal S4096x8x96 .f32} {v : FVec Ideal S4096x8x64 .f32}
    (h : Cert.Pre_finite20.fn (F := Ideal) q k v = fun _ => 1#1) :
    (∀ i, q i = ((EReal.toReal (q i) : ℝ) : EReal)) ∧ ∀ i, k i = ((EReal.toReal (k i) : ℝ) : EReal) := by
  have h0 := congrFun h (Shape.Idx.first Cert.Pre_finite20.Facts.h_S_)
  obtain ⟨hq, hk⟩ := Finite.andi_one h0
  haveI : Subsingleton Cert.Pre_finite20.S_.Idx := ⟨fun a b => funext fun i => i.elim0⟩
  exact ⟨fun i => Finite.real_of_one (Host.reduce_andi_all _ _ _ _ _ hq i), fun i => Finite.real_of_one (Host.reduce_andi_all _ _ _ _ _ hk i)⟩

variable (m : (ℓ : Loc nD τ sig) → Buf (Elt Ideal) ℓ) (c : Dev nD)

/-- The queries and the keys as real numbers. The values stay apart, and the forward pass takes no cotangent. -/
def args : Args where
  q t h e := EReal.toReal (argQ m c (ix3 t h e))
  k t h e := EReal.toReal (argK m c (ix3 t h e))
  v _ _ _ := 0
  d _ _ _ := 0

theorem args_hold (h : Cert.Pre_Kernel20Ideal_finite20 m) : ArgsHold m c (args m c) where
  q t h' e := (entries (h c)).1 _
  k t h' e := (entries (h c)).2 _

/-! ## The values -/

/-- The kernel leaves the outputs and the log-sums of the arguments' heads. -/
theorem kernel_left (ρ : Dev nD → PrngReg) (A : Dev nD → Args) (a : ∀ c, ArgsHold m c (A c)) :
    θ_run defs (onTc (τ := τ) (main (F := Ideal))) ⟨m, fun _ => 0, ρ⟩ (fun r => ∀ c : Dev nD,
      r.2.mem ((c.tc : Thread nD τ).loc main_v12) = laidOf (a := 4096) (fun h => ((A c).head h).left (valuesOf (argV m c) h))) :=
  (θ_run defs _ _).mono (fun r h c => ((h.1 c).1 3).trans (arr_out (V m) c (launched (a c)))) (run_main m ρ)
end

section
open Cert.Reference20Ideal Cert.Reference20Ideal.Soft
open Cert.Kernel20Ideal.Flash (valuesOf)

/-- So does the reference. -/
theorem reference_left (m : (ℓ : Loc nD τ sig) → Buf (Elt Ideal) ℓ) (ρ : Dev nD → PrngReg) (A : Dev nD → Args)
    (a : ∀ c, ArgsHold m c (A c)) :
    θ_run defs (onTc (τ := τ) (main (F := Ideal))) ⟨m, fun _ => 0, ρ⟩ (fun r => ∀ c : Dev nD,
      r.2.mem ((c.tc : Thread nD τ).loc main_v35) = laidOf (a := 4096) (fun h => ((A c).head h).left (valuesOf (argV m c) h))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (left_eq (a c)), (h c).2⟩) (Value.run m ρ)
end

theorem outputs : Cert.algebraic_Kernel20Ideal_Reference20Ideal_pre_finite20 := fun m g m' g' hpre hagree => by
  have a : ∀ c, Cert.Kernel20Ideal.Flash.ArgsHold m c (args m c) := fun c => args_hold m c hpre
  have a' : ∀ c, Cert.Reference20Ideal.Soft.ArgsHold m' c (args m c) := fun c =>
    { q := fun t h e => (congrFun (hagree c).1 _).trans ((a c).q t h e)
      k := fun t h e => (congrFun (hagree c).2.1 _).trans ((a c).k t h e) }
  refine ⟨fun c => laidOf (a := 4096) fun h => ((args m c).head h).left (Cert.Kernel20Ideal.Flash.valuesOf (Cert.Kernel20Ideal.Flash.argV m c) h), ?_,
    (θ_run Cert.Reference20Ideal.defs _ _).mono (fun r h c => ⟨(h c).1.trans ?_, (h c).2⟩) (reference_left m' g' _ a')⟩
  rotate_left
  · have hv : Cert.Reference20Ideal.Soft.argV m' c = Cert.Kernel20Ideal.Flash.argV m c := (hagree c).2.2
    rw [hv]
  exact (θ_run Cert.Kernel20Ideal.defs _ _).mono (fun r h c => ⟨h.1 c, h.2.1 c⟩)
    (θ_run_and (kernel_left m g _ a) (Cert.Kernel20Ideal.Flash.frame m g))

end Cert.Proof.Forward
-- ==== Proof.Products.UpDx.lean ====
/- The gradient of the feed-forward block's input: one product of the hidden gradient, kept in two halves, with the weights.
   The kernel adds up four blocks of the contracted axis in a scratch, two from each half, and the reference multiplies the
   joined halves whole. -/
module

public import proofs.«01_k».proof.Defs
public import proofs.«01_k».proof.Proof.Gen.Kernel2
public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Kernel2Ideal.Product

open Cert.Kernel2Ideal Cert.Kernel2Ideal.Gen Idealize.ShloMosaic Idealize.ShloMosaic.TcCoe Idealize.SL.Sem

variable (m : (ℓ : Loc nD τ sig) → Buf (Elt Ideal) ℓ)

/-- A block of the left half or of the right against a block of the weights, at an entry of the result. -/
def share (x0 x1 x2 : Vec Ideal S1024x1408 .bf16) (left : Prop) [Decidable left] (j : S1024x1024.Idx) : Ideal .f32 :=
  ∑ k : Fin 1408, (if left then x0 (ix2 (j 0) k) else x1 (ix2 (j 0) k)) * x2 (ix2 (j 1) k)

theorem pay1_apply (a b : Vec Ideal S1024x1408 .bf16) (j : S1024x1024.Idx) : k0_pay1 a b j = share a a b True j := by
  pointwise [k0_pay1, share]

theorem pay2_apply (x : Vec Ideal S1024x1024 .f32) (a b : Vec Ideal S1024x1408 .bf16) (j : S1024x1024.Idx) :
    k0_pay2 x a b j = x j + share a a b True j := by
  pointwise [k0_pay2, share]

theorem pay3_apply (x : Vec Ideal S1024x1024 .f32) (a b : Vec Ideal S1024x1408 .bf16) (j : S1024x1024.Idx) :
    k0_pay3 x a b j = x j + share a a b True j := by
  pointwise [k0_pay3, share]

/-- What point `t` adds to the scratch. -/
def term (c : Dev nD) (t : Fin cfg0.N) (j : S1024x1024.Idx) : Ideal .f32 :=
  share (iblk m c 0 t) (iblk m c 1 t) (iblk m c 2 t) (t.val % 4 < 2) j

/-- The blocks a point reads. -/
theorem idx : ∀ t : Fin cfg0.N, win0_0.index t = ![t.val / 4, min (t.val % 4) 1] ∧ win0_1.index t = ![t.val / 4, t.val % 4 - 2]
    ∧ win0_2.index t = ![0, t.val % 4] ∧ win0_3.index t = ![t.val / 4, 0] :=
  (by decide +kernel : ∀ t : Fin grid0.N, _)

theorem first (c : Dev nD) (t : Fin cfg0.N) (h : t.val % 4 = 0) (j : S1024x1024.Idx) :
    (outsAt0 m c t.val t.isLt).2 j = 0 + term m c t j := by
  rw [outsAt0_A m c t h (by omega) (by omega) (by omega)]
  frame_out
  rw [pay1_apply, zero_add, term]
  simp only [share, if_pos (show t.val % 4 < 2 by omega), if_true]

theorem next (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h1 : t.val % 4 = 1
  · rw [outsAt0_B m c t h h1 (by omega) (by omega)]
    frame_out
    rw [pay2_apply, term]
    simp only [share, if_pos (show t.val % 4 < 2 by omega), if_true]
    exact congrArg (· + _) (congrFun ((Memref.isWhole_whole cc0_scratch0).read_unread _) j)
  · by_cases h3 : t.val % 4 = 3
    · rw [outsAt0_D m c t h h1 (by omega) h3]
      frame_out
      rw [pay3_apply, term]
      simp only [share, if_neg (show ¬t.val % 4 < 2 by omega), if_true]
      exact congrArg (· + _) (congrFun ((Memref.isWhole_whole cc0_scratch0).read_unread _) j)
    · rw [outsAt0_C m c t h h1 (by omega) h3]
      frame_out
      rw [pay3_apply, term]
      simp only [share, if_neg (show ¬t.val % 4 < 2 by omega), if_true]
      exact congrArg (· + _) (congrFun ((Memref.isWhole_whole cc0_scratch0).read_unread _) j)

/-- The last point of a run hands its scratch to the result. -/
theorem handed (c : Dev nD) (t : Fin cfg0.N) (h : t.val % 4 = 3) : (outsAt0 m c t.val t.isLt).1 = (outsAt0 m c t.val t.isLt).2 := by
  rw [outsAt0_D m c t (by omega) (by omega) (by omega) h]
  dsimp only
  frame_out

/-- The reference's result. -/
def whole (x0 x1 : FVec Ideal Cert.Reference2Ideal.S4096x2816 .bf16) (x2 : FVec Ideal Cert.Reference2Ideal.S1024x5632 .bf16) :
    FVec Ideal Cert.Reference2Ideal.S4096x1024 .f32 :=
  Host.dotGeneral Cert.Reference2Ideal.dot_S4096x5632_S1024x5632_S4096x1024_1_1_0_0_n_n none
    (extf .f32 (concatenate Cert.Reference2Ideal.S4096x5632 1 [⟨Cert.Reference2Ideal.S4096x2816, x0⟩, ⟨Cert.Reference2Ideal.S4096x2816, x1⟩]
      Cert.Reference2Ideal.Gen.concatenates_S4096x2816_S4096x2816_S4096x5632_d1) Cert.Reference2Ideal.Gen.bitsLt_bf16_f32)
    (extf .f32 x2 Cert.Reference2Ideal.Gen.bitsLt_bf16_f32)

/-- A sum over a half is a sum over its two blocks. -/
theorem halves (f : Fin 2816 → EReal) : ∑ l, f l = ∑ k : Fin 1408, f ⟨k.val, by omega⟩ + ∑ k : Fin 1408, f ⟨1408 + k.val, by omega⟩ := by
  rw [← Fin.sum_mul_add_fin 2 1408 f, Fin.sum_univ_two]
  simp

/-- The kernel's result is the reference's. -/
theorem final (c : Dev nD) : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr : t.val % 4 = 4 - 1 := (flush0_3 t).mp hf
  blk_simp
  rw [after0_3, handed m c t hr, Pipeline.eq_sum_fin_of_reset_step_apply_of_flush (fun n h => (outsAt0 m c n h).2) 4 (fun _ => 0) (term m c)
    (first m c) (next m c) t hr _, zero_add]
  pointwise [whole, term, share]
  refine Eq.trans ?_ (congrArg₂ (· + ·) (halves _) (halves _)).symm
  refine Eq.trans ?_ (add_assoc (G := EReal) _ _ _)
  refine (Fin.sum_univ_four (M := EReal) _).trans ?_
  have hN : t.val < 16 := t.isLt
  simp only [if_pos (show (4 * (t.val / 4) + ((0 : Fin 4) : ℕ)) % 4 < 2 by simp), if_pos (show (4 * (t.val / 4) + ((1 : Fin 4) : ℕ)) % 4 < 2 by simp),
    if_neg (show ¬(4 * (t.val / 4) + ((2 : Fin 4) : ℕ)) % 4 < 2 by simp), if_neg (show ¬(4 * (t.val / 4) + ((3 : Fin 4) : ℕ)) % 4 < 2 by simp)]
  blk_point [iblk, V, idx t, idx ⟨_, Pipeline.run_point_lt_of_flush t hr 0⟩, idx ⟨_, Pipeline.run_point_lt_of_flush t hr 1⟩,
    idx ⟨_, Pipeline.run_point_lt_of_flush t hr 2⟩, idx ⟨_, Pipeline.run_point_lt_of_flush t hr 3⟩]

theorem frame_kernel : Cert.quiescent_Kernel2 :=
  Eq.mpr (by sl_kernel_rfl) fun (m : (ℓ : Loc nD τ sig) → Buf (Elt Bits) ℓ) (g : Dev nD → PrngReg) (_ : True) => Gen.frame m g

theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

theorem agree : Cert.algebraic_Kernel2Ideal_Reference2Ideal := by
  pair_intro
  · run_from Gen.run_main m g
  · run_from Cert.Reference2Ideal.Value.run m' g'
    exact (final m c).symm

end Cert.Kernel2Ideal.Product

end
-- ==== Proof.Products.WholeRows.lean ====
/- Products whose contracted axis is one block: a point of the grid makes one block of the result from whole rows of both
   operands, so a block's entries are the reference's own sums. -/
module

public import proofs.«01_k».proof.Defs
public import proofs.«01_k».proof.Proof.Gen.Kernel9
public import proofs.«01_k».proof.Proof.Gen.Kernel9Ideal.Frame
public import proofs.«01_k».proof.Proof.Gen.Reference9Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel13
public import proofs.«01_k».proof.Proof.Gen.Kernel13Ideal.Frame
public import proofs.«01_k».proof.Proof.Gen.Reference13Ideal.Run
public import proofs.«01_k».proof.Proof.Gen.Kernel15
public import proofs.«01_k».proof.Proof.Gen.Kernel15Ideal.Frame
public import proofs.«01_k».proof.Proof.Gen.Reference15Ideal.Run
public import proofs.«01_k».proof.Proof.Gen.Kernel19
public import proofs.«01_k».proof.Proof.Gen.Kernel19Ideal.Frame
public import proofs.«01_k».proof.Proof.Gen.Reference19Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel14
public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise

@[expose] public section

set_option maxRecDepth 16384

noncomputable section

/- The gradient of the output projection's input. -/
namespace Cert.Kernel9Ideal.Product

open Cert.Kernel9Ideal Cert.Kernel9Ideal.Gen Idealize.ShloMosaic Idealize.ShloMosaic.TcCoe Idealize.SL.Sem

variable (m : (ℓ : Loc nD τ sig) → Buf (Elt Ideal) ℓ)

/-- The blocks a point reads and writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's result. -/
def whole (x : FVec Ideal Cert.Reference9Ideal.S4096x1024 .bf16) (w : FVec Ideal Cert.Reference9Ideal.S1536x1024 .bf16) :
    FVec Ideal Cert.Reference9Ideal.S4096x1536 .f32 :=
  Host.dotGeneral Cert.Reference9Ideal.dot_S4096x1024_S1536x1024_S4096x1536_1_1_0_0_n_n none (extf .f32 x Cert.Reference9Ideal.Gen.bitsLt_bf16_f32) (extf .f32 w Cert.Reference9Ideal.Gen.bitsLt_bf16_f32)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole]
  blk_point [iblk, V, idx t]

theorem frame_kernel : Cert.quiescent_Kernel9 :=
  Eq.mpr (by sl_kernel_rfl) fun (m : (ℓ : Loc nD τ sig) → Buf (Elt Bits) ℓ) (g : Dev nD → PrngReg) (_ : True) => Gen.frame m g

theorem frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

theorem agree : Cert.algebraic_Kernel9Ideal_Reference9Ideal := by
  pair_intro
  · run_from Gen.run_main m g
  · run_from Cert.Reference9Ideal.Value.run m' g'
    exact (final m c).symm

end Cert.Kernel9Ideal.Product

/- The gradient of the down projection's input. -/
namespace Cert.Kernel5Ideal.Product

open Cert.Kernel5Ideal Cert.Kernel5Ideal.Gen Idealize.ShloMosaic Idealize.ShloMosaic.TcCoe Idealize.SL.Sem

variable (m : (ℓ : Loc nD τ sig) → Buf (Elt Ideal) ℓ)

/-- The blocks a point reads and writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's result. -/
def whole (x : FVec Ideal Cert.Reference5Ideal.S4096x1024 .bf16) (w : FVec Ideal Cert.Reference5Ideal.S2816x1024 .bf16) :
    FVec Ideal Cert.Reference5Ideal.S4096x2816 .f32 :=
  Host.dotGeneral Cert.Reference5Ideal.dot_S4096x1024_S2816x1024_S4096x2816_1_1_0_0_n_n none (extf .f32 x Cert.Reference5Ideal.Gen.bitsLt_bf16_f32) (extf .f32 w Cert.Reference5Ideal.Gen.bitsLt_bf16_f32)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole]
  blk_point [iblk, V, idx t]

theorem frame_kernel : Cert.quiescent_Kernel5 :=
  Eq.mpr (by sl_kernel_rfl) fun (m : (ℓ : Loc nD τ sig) → Buf (Elt Bits) ℓ) (g : Dev nD → PrngReg) (_ : True) => Gen.frame m g

theorem frame_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

theorem agree : Cert.algebraic_Kernel5Ideal_Reference5Ideal := by
  pair_intro
  · run_from Gen.run_main m g
  · run_from Cert.Reference5Ideal.Value.run m' g'
    exact (final m c).symm

end Cert.Kernel5Ideal.Product

/- The up projection. -/
namespace Cert.Kernel11Ideal.Product

open Cert.Kernel11Ideal Cert.Kernel11Ideal.Gen Idealize.ShloMosaic Idealize.ShloMosaic.TcCoe Idealize.SL.Sem

variable (m : (ℓ : Loc nD τ sig) → Buf (Elt Ideal) ℓ)

/-- The blocks a point reads and writes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The reference's result. -/
def whole (x : FVec Ideal Cert.Reference11Ideal.S4096x1024 .bf16) (w : FVec Ideal Cert.Reference11Ideal.S1024x5632 .bf16) :
    FVec Ideal Cert.Reference11Ideal.S4096x5632 .f32 :=
  Host.dotGeneral Cert.Reference11Ideal.dot_S4096x1024_S1024x5632_S4096x5632_1_0_0_1_n_n none (extf .f32 x Cert.Reference11Ideal.Gen.bitsLt_bf16_f32) (extf .f32 w Cert.Reference11Ideal.Gen.bitsLt_bf16_f32)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole]
  blk_point [iblk, V, idx t]

theorem frame_kernel : Cert.quiescent_Kernel11 :=
  Eq.mpr (by sl_kernel_rfl) fun (m : (ℓ : Loc nD τ sig) → Buf (Elt Bits) ℓ) (g : Dev nD → PrngReg) (_ : True) => Gen.frame m g

theorem frame_reference : Cert.quiescent_Reference11Ideal := fun m g _ =>
  (θ_run Cert.Reference11Ideal.defs _ _).mono (fun r h => ⟨fun c => (h c).2, sem_eq_zero_of_no_sems (by decide) r.2⟩)
    (Cert.Reference11Ideal.Value.run m g)

theorem agree : Cert.algebraic_Kernel11Ideal_Reference11Ideal := by
  pair_intro
  · run_from Gen.run_main m g
  · run_from Cert.Reference11Ideal.Value.run m' g'
    exact (final m c).symm

end Cert.Kernel11Ideal.Product

/- The input projection. -/
namespace Cert.Kernel13Ideal.Product

open Cert.Kernel13Ideal Cert.Kernel13Ideal.Gen Idealize.ShloMosaic Idealize.ShloMosaic.TcCoe Idealize.SL.Sem

variable (m : (ℓ : Loc nD τ sig) → Buf (Elt Ideal) ℓ)

/-- The blocks a point reads and writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's result. -/
def whole (x : FVec Ideal Cert.Reference13Ideal.S4096x1024 .bf16) (w : FVec Ideal Cert.Reference13Ideal.S2560x1024 .bf16) :
    FVec Ideal Cert.Reference13Ideal.S4096x2560 .f32 :=
  Host.dotGeneral Cert.Reference13Ideal.dot_S4096x1024_S1024x2560_S4096x2560_1_0_0_1_n_n none (extf .f32 x Cert.Reference13Ideal.Gen.bitsLt_bf16_f32)
    (transpose Cert.Reference13Ideal.S1024x2560 [1, 0] (extf .f32 w Cert.Reference13Ideal.Gen.bitsLt_bf16_f32) Cert.Reference13Ideal.Gen.transposes_S2560x1024_S1024x2560_1_0)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole]
  blk_point [iblk, V, idx t]

theorem frame_kernel : Cert.quiescent_Kernel13 :=
  Eq.mpr (by sl_kernel_rfl) fun (m : (ℓ : Loc nD τ sig) → Buf (Elt Bits) ℓ) (g : Dev nD → PrngReg) (_ : True) => Gen.frame m g

theorem frame_reference : Cert.quiescent_Reference13Ideal := fun m g _ =>
  (θ_run Cert.Reference13Ideal.defs _ _).mono (fun r h => ⟨fun c => (h c).2, sem_eq_zero_of_no_sems (by decide) r.2⟩)
    (Cert.Reference13Ideal.Value.run m g)

theorem agree : Cert.algebraic_Kernel13Ideal_Reference13Ideal := by
  pair_intro
  · run_from Gen.run_main m g
  · run_from Cert.Reference13Ideal.Value.run m' g'
    exact (final m c).symm

end Cert.Kernel13Ideal.Product

/- The gradient of the latent queries. -/
namespace Cert.Kernel15Ideal.Product

open Cert.Kernel15Ideal Cert.Kernel15Ideal.Gen Idealize.ShloMosaic Idealize.ShloMosaic.TcCoe Idealize.SL.Sem

variable (m : (ℓ : Loc nD τ sig) → Buf (Elt Ideal) ℓ)

/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

/-- The reference's result. -/
def whole (x : FVec Ideal Cert.Reference15Ideal.S4096x1024 .bf16) (w : FVec Ideal Cert.Reference15Ideal.S256x1024 .bf16) :
    FVec Ideal Cert.Reference15Ideal.S4096x256 .f32 :=
  Host.dotGeneral Cert.Reference15Ideal.dot_S4096x1024_S256x1024_S4096x256_1_1_0_0_n_n none (extf .f32 x Cert.Reference15Ideal.Gen.bitsLt_bf16_f32) (extf .f32 w Cert.Reference15Ideal.Gen.bitsLt_bf16_f32)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole]
  blk_point [iblk, V, idx t]

theorem frame_kernel : Cert.quiescent_Kernel15 :=
  Eq.mpr (by sl_kernel_rfl) fun (m : (ℓ : Loc nD τ sig) → Buf (Elt Bits) ℓ) (g : Dev nD → PrngReg) (_ : True) => Gen.frame m g

theorem frame_reference : Cert.quiescent_Reference15Ideal := fun m g _ =>
  (θ_run Cert.Reference15Ideal.defs _ _).mono (fun r h => ⟨fun c => (h c).2, sem_eq_zero_of_no_sems (by decide) r.2⟩)
    (Cert.Reference15Ideal.Value.run m g)

theorem agree : Cert.algebraic_Kernel15Ideal_Reference15Ideal := by
  pair_intro
  · run_from Gen.run_main m g
  · run_from Cert.Reference15Ideal.Value.run m' g'
    exact (final m c).symm

end Cert.Kernel15Ideal.Product

/- The queries of the latent ones. -/
namespace Cert.Kernel19Ideal.Product

open Cert.Kernel19Ideal Cert.Kernel19Ideal.Gen Idealize.ShloMosaic Idealize.ShloMosaic.TcCoe Idealize.SL.Sem

variable (m : (ℓ : Loc nD τ sig) → Buf (Elt Ideal) ℓ)

/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

/-- The reference's result. -/
def whole (x : FVec Ideal Cert.Reference19Ideal.S4096x256 .bf16) (w : FVec Ideal Cert.Reference19Ideal.S256x1024 .bf16) :
    FVec Ideal Cert.Reference19Ideal.S4096x1024 .f32 :=
  Host.dotGeneral Cert.Reference19Ideal.dot_S4096x256_S256x1024_S4096x1024_1_0_0_1_n_n none (extf .f32 x Cert.Reference19Ideal.Gen.bitsLt_bf16_f32) (extf .f32 w Cert.Reference19Ideal.Gen.bitsLt_bf16_f32)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole]
  blk_point [iblk, V, idx t]

theorem frame_kernel : Cert.quiescent_Kernel19 :=
  Eq.mpr (by sl_kernel_rfl) fun (m : (ℓ : Loc nD τ sig) → Buf (Elt Bits) ℓ) (g : Dev nD → PrngReg) (_ : True) => Gen.frame m g

theorem frame_reference : Cert.quiescent_Reference19Ideal := fun m g _ =>
  (θ_run Cert.Reference19Ideal.defs _ _).mono (fun r h => ⟨fun c => (h c).2, sem_eq_zero_of_no_sems (by decide) r.2⟩)
    (Cert.Reference19Ideal.Value.run m g)

theorem agree : Cert.algebraic_Kernel19Ideal_Reference19Ideal := by
  pair_intro
  · run_from Gen.run_main m g
  · run_from Cert.Reference19Ideal.Value.run m' g'
    exact (final m c).symm

end Cert.Kernel19Ideal.Product

/- The keys and values of the latent ones. -/
namespace Cert.Kernel4Ideal.Product

open Cert.Kernel4Ideal Cert.Kernel4Ideal.Gen Idealize.ShloMosaic Idealize.ShloMosaic.TcCoe Idealize.SL.Sem

variable (m : (ℓ : Loc nD τ sig) → Buf (Elt Ideal) ℓ)

/-- The blocks a point reads and writes. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The reference's result. -/
def whole (x : FVec Ideal Cert.Reference4Ideal.S4096x128 .bf16) (w : FVec Ideal Cert.Reference4Ideal.S128x2048 .bf16) :
    FVec Ideal Cert.Reference4Ideal.S4096x2048 .bf16 :=
  truncf .bf16 (Host.dotGeneral Cert.Reference4Ideal.dot_S4096x128_S128x2048_S4096x2048_1_0_0_1_n_n none (extf .f32 x Cert.Reference4Ideal.Gen.bitsLt_bf16_f32) (extf .f32 w Cert.Reference4Ideal.Gen.bitsLt_bf16_f32)) Cert.Reference4Ideal.Gen.bitsLt_bf16_f32

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole]
  blk_point [iblk, V, idx t]

theorem frame_kernel : Cert.quiescent_Kernel4 :=
  Eq.mpr (by sl_kernel_rfl) fun (m : (ℓ : Loc nD τ sig) → Buf (Elt Bits) ℓ) (g : Dev nD → PrngReg) (_ : True) => Gen.frame m g

theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem agree : Cert.algebraic_Kernel4Ideal_Reference4Ideal := by
  pair_intro
  · run_from Gen.run_main m g
  · run_from Cert.Reference4Ideal.Value.run m' g'
    exact (final m c).symm

end Cert.Kernel4Ideal.Product

/- The output projection. -/
namespace Cert.Kernel14Ideal.Product

open Cert.Kernel14Ideal Cert.Kernel14Ideal.Gen Idealize.ShloMosaic Idealize.ShloMosaic.TcCoe Idealize.SL.Sem

variable (m : (ℓ : Loc nD τ sig) → Buf (Elt Ideal) ℓ)

/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

/-- The reference's result. -/
def whole (x : FVec Ideal Cert.Reference14Ideal.S4096x1536 .bf16) (w : FVec Ideal Cert.Reference14Ideal.S1536x1024 .bf16) :
    FVec Ideal Cert.Reference14Ideal.S4096x1024 .f32 :=
  Host.dotGeneral Cert.Reference14Ideal.dot_S4096x1536_S1536x1024_S4096x1024_1_0_0_1_n_n none (extf .f32 x Cert.Reference14Ideal.Gen.bitsLt_bf16_f32) (extf .f32 w Cert.Reference14Ideal.Gen.bitsLt_bf16_f32)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole]
  blk_point [iblk, V, idx t]

theorem frame_kernel : Cert.quiescent_Kernel14 :=
  Eq.mpr (by sl_kernel_rfl) fun (m : (ℓ : Loc nD τ sig) → Buf (Elt Bits) ℓ) (g : Dev nD → PrngReg) (_ : True) => Gen.frame m g

theorem frame_reference : Cert.quiescent_Reference14Ideal := fun m g _ =>
  (θ_run Cert.Reference14Ideal.defs _ _).mono (fun r h => ⟨fun c => (h c).2, sem_eq_zero_of_no_sems (by decide) r.2⟩)
    (Cert.Reference14Ideal.Value.run m g)

theorem agree : Cert.algebraic_Kernel14Ideal_Reference14Ideal := by
  pair_intro
  · run_from Gen.run_main m g
  · run_from Cert.Reference14Ideal.Value.run m' g'
    exact (final m c).symm

end Cert.Kernel14Ideal.Product

end
-- ==== Proof.Products.TwoBlocks.lean ====
/- Products whose contracted axis is two blocks: the first point of a run starts a sum in a scratch, the second ends it and
   hands it to the result. -/
module

public import proofs.«01_k».proof.Defs
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel17
public import proofs.«01_k».proof.Proof.Gen.Kernel17Ideal.Frame
public import proofs.«01_k».proof.Proof.Gen.Reference17Ideal.Run
public import proofs.«01_k».proof.Proof.Gen.Kernel12
public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise

@[expose] public section

set_option maxRecDepth 16384

noncomputable section

/- The gradient of the input projection's input. -/
namespace Cert.Kernel7Ideal.Product

open Cert.Kernel7Ideal Cert.Kernel7Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x1280 .bf16) (w : Vec Ideal S1280x1024 .bf16) (j : S1024x1024.Idx) : Ideal .f32 :=
  ∑ k : Fin 1280, x (ix2 (j 0) k) * w (ix2 k (j 1))

theorem pay1_apply (x : Vec Ideal S1024x1280 .bf16) (w : Vec Ideal S1280x1024 .bf16) (j : S1024x1024.Idx) : k0_pay1 x w j = share x w j := by
  pointwise [k0_pay1, share]

theorem pay2_apply (s : Vec Ideal S1024x1024 .f32) (x : Vec Ideal S1024x1280 .bf16) (w : Vec Ideal S1280x1024 .bf16) (j : S1024x1024.Idx) :
    k0_pay2 s x w j = s j + share x w j := by
  pointwise [k0_pay2, share]

/-- What point `t` adds to the scratch. -/
def term (c : Dev nD) (t : Fin cfg0.N) (j : S1024x1024.Idx) : Ideal .f32 := share (iblk m c 0 t) (iblk m c 1 t) j

/-- The blocks a point reads and writes. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

theorem first (c : Dev nD) (t : Fin cfg0.N) (h : t.val % 2 = 0) (j : S1024x1024.Idx) :
    (outsAt0 m c t.val t.isLt).2 j = 0 + term m c t j := by
  rw [outsAt0_A m c t h (by omega) (by omega)]
  frame_out
  rw [pay1_apply, zero_add, term]

theorem next (c : Dev nD) (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + term m c t j := by
  rw [outsAt0_B m c t h (by omega) (by omega)]
  frame_out
  rw [pay2_apply, term]
  exact congrArg (· + _) (congrFun ((Memref.isWhole_whole cc0_scratch0).read_unread _) j)

/-- The last point of a run hands its scratch to the result. -/
theorem handed (c : Dev nD) (t : Fin cfg0.N) (h : t.val % 2 = 1) : (outsAt0 m c t.val t.isLt).1 = (outsAt0 m c t.val t.isLt).2 := by
  rw [outsAt0_B m c t (by omega) h h]
  dsimp only
  frame_out

/-- The reference's result. -/
def whole (x : FVec Ideal Cert.Reference7Ideal.S4096x2560 .bf16) (w : FVec Ideal Cert.Reference7Ideal.S2560x1024 .bf16) :
    FVec Ideal Cert.Reference7Ideal.S4096x1024 .f32 :=
  Host.dotGeneral Cert.Reference7Ideal.dot_S4096x2560_S1024x2560_S4096x1024_1_1_0_0_n_n none (extf .f32 x Cert.Reference7Ideal.Gen.bitsLt_bf16_f32)
    (transpose Cert.Reference7Ideal.S1024x2560 [1, 0] (extf .f32 w Cert.Reference7Ideal.Gen.bitsLt_bf16_f32) Cert.Reference7Ideal.Gen.transposes_S2560x1024_S1024x2560_1_0)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 2 = 2 - 1 := (flush0_2 t).mp hf
  blk_simp
  rw [after0_2, handed m c t hr]
  rw [Pipeline.eq_sum_fin_of_reset_step_apply_of_flush (fun n h => (outsAt0 m c n h).2) 2 (fun _ => 0) (term m c) (first m c) (next m c) t hr _,
    zero_add]
  pointwise [whole, term, share]
  refine Fin.sum_mul_add_congr fun s k hl => ?_
  blk_point [iblk, V, idx t, idx ⟨_, Pipeline.run_point_lt_of_flush t hr s⟩]

theorem frame_kernel : Cert.quiescent_Kernel7 :=
  Eq.mpr (by sl_kernel_rfl) fun (m : (ℓ : Loc nD τ sig) → Buf (Elt Bits) ℓ) (g : Dev nD → PrngReg) (_ : True) => Gen.frame m g

theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

theorem agree : Cert.algebraic_Kernel7Ideal_Reference7Ideal := by
  pair_intro
  · run_from Gen.run_main m g
  · run_from Cert.Reference7Ideal.Value.run m' g'
    exact (final m c).symm

end Cert.Kernel7Ideal.Product

/- The gradient of the latent keys and values. -/
namespace Cert.Kernel17Ideal.Product

open Cert.Kernel17Ideal Cert.Kernel17Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x1024 .bf16) (w : Vec Ideal S128x1024 .bf16) (j : S1024x128.Idx) : Ideal .f32 :=
  ∑ k : Fin 1024, x (ix2 (j 0) k) * w (ix2 (j 1) k)

theorem pay1_apply (x : Vec Ideal S1024x1024 .bf16) (w : Vec Ideal S128x1024 .bf16) (j : S1024x128.Idx) : k0_pay1 x w j = share x w j := by
  pointwise [k0_pay1, share]

theorem pay2_apply (s : Vec Ideal S1024x128 .f32) (x : Vec Ideal S1024x1024 .bf16) (w : Vec Ideal S128x1024 .bf16) (j : S1024x128.Idx) :
    k0_pay2 s x w j = s j + share x w j := by
  pointwise [k0_pay2, share]

/-- What point `t` adds to the scratch. -/
def term (c : Dev nD) (t : Fin cfg0.N) (j : S1024x128.Idx) : Ideal .f32 := share (iblk m c 0 t) (iblk m c 1 t) j

/-- The blocks a point reads and writes. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

theorem first (c : Dev nD) (t : Fin cfg0.N) (h : t.val % 2 = 0) (j : S1024x128.Idx) :
    (outsAt0 m c t.val t.isLt).2 j = 0 + term m c t j := by
  rw [outsAt0_A m c t h (by omega) (by omega)]
  frame_out
  rw [pay1_apply, zero_add, term]

theorem next (c : Dev nD) (t : Fin cfg0.N) (h : ¬t.val % 2 = 0) (j : S1024x128.Idx) :
    (outsAt0 m c t.val t.isLt).2 j = (outsAt0 m c (t.val - 1) (Nat.lt_of_le_of_lt (Nat.sub_le _ _) t.isLt)).2 j + term m c t j := by
  rw [outsAt0_B m c t h (by omega) (by omega)]
  frame_out
  rw [pay2_apply, term]
  exact congrArg (· + _) (congrFun ((Memref.isWhole_whole cc0_scratch0).read_unread _) j)

/-- The last point of a run hands its scratch to the result. -/
theorem handed (c : Dev nD) (t : Fin cfg0.N) (h : t.val % 2 = 1) : (outsAt0 m c t.val t.isLt).1 = (outsAt0 m c t.val t.isLt).2 := by
  rw [outsAt0_B m c t (by omega) h h]
  dsimp only
  frame_out

/-- The reference's result. -/
def whole (x : FVec Ideal Cert.Reference17Ideal.S4096x2048 .bf16) (w : FVec Ideal Cert.Reference17Ideal.S128x2048 .bf16) :
    FVec Ideal Cert.Reference17Ideal.S4096x128 .f32 :=
  Host.dotGeneral Cert.Reference17Ideal.dot_S4096x2048_S128x2048_S4096x128_1_1_0_0_n_n none (extf .f32 x Cert.Reference17Ideal.Gen.bitsLt_bf16_f32) (extf .f32 w Cert.Reference17Ideal.Gen.bitsLt_bf16_f32)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 2 = 2 - 1 := (flush0_2 t).mp hf
  blk_simp
  rw [after0_2, handed m c t hr]
  rw [Pipeline.eq_sum_fin_of_reset_step_apply_of_flush (fun n h => (outsAt0 m c n h).2) 2 (fun _ => 0) (term m c) (first m c) (next m c) t hr _,
    zero_add]
  pointwise [whole, term, share]
  refine Fin.sum_mul_add_congr fun s k hl => ?_
  blk_point [iblk, V, idx t, idx ⟨_, Pipeline.run_point_lt_of_flush t hr s⟩]

theorem frame_kernel : Cert.quiescent_Kernel17 :=
  Eq.mpr (by sl_kernel_rfl) fun (m : (ℓ : Loc nD τ sig) → Buf (Elt Bits) ℓ) (g : Dev nD → PrngReg) (_ : True) => Gen.frame m g

theorem frame_reference : Cert.quiescent_Reference17Ideal := fun m g _ =>
  (θ_run Cert.Reference17Ideal.defs _ _).mono (fun r h => ⟨fun c => (h c).2, sem_eq_zero_of_no_sems (by decide) r.2⟩)
    (Cert.Reference17Ideal.Value.run m g)

theorem agree : Cert.algebraic_Kernel17Ideal_Reference17Ideal := by
  pair_intro
  · run_from Gen.run_main m g
  · run_from Cert.Reference17Ideal.Value.run m' g'
    exact (final m c).symm

end Cert.Kernel17Ideal.Product

/- The down projection. -/
namespace Cert.Kernel12Ideal.Product

open Cert.Kernel12Ideal Cert.Kernel12Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x1408 .bf16) (w : Vec Ideal S1408x1024 .bf16) (j : S1024x1024.Idx) : Ideal .f32 :=
  ∑ k : Fin 1408, x (ix2 (j 0) k) * w (ix2 k (j 1))

theorem pay1_apply (x : Vec Ideal S1024x1408 .bf16) (w : Vec Ideal S1408x1024 .bf16) (j : S1024x1024.Idx) : k0_pay1 x w j = share x w j := by
  pointwise [k0_pay1, share]

theorem pay2_apply (s : Vec Ideal S1024x1024 .f32) (x : Vec Ideal S1024x1408 .bf16) (w : Vec Ideal S1408x1024 .bf16) (j : S1024x1024.Idx) :
    k0_pay2 s x w j = s j + share x w j := by
  pointwise [k0_pay2, share]

/-- What point `t` adds to the scratch. -/
def term (c : Dev nD) (t : Fin cfg0.N) (j : S1024x1024.Idx) : Ideal .f32 := share (iblk m c 0 t) (iblk m c 1 t) j

/-- The blocks a point reads and writes. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

theorem first (c : Dev nD) (t : Fin cfg0.N) (h : t.val % 2 = 0) (j : S1024x1024.Idx) :
    (outsAt0 m c t.val t.isLt).2 j = 0 + term m c t j := by
  rw [outsAt0_A m c t h (by omega) (by omega)]
  frame_out
  rw [pay1_apply, zero_add, term]

theorem next (c : Dev nD) (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + term m c t j := by
  rw [outsAt0_B m c t h (by omega) (by omega)]
  frame_out
  rw [pay2_apply, term]
  exact congrArg (· + _) (congrFun ((Memref.isWhole_whole cc0_scratch0).read_unread _) j)

/-- The last point of a run hands its scratch to the result. -/
theorem handed (c : Dev nD) (t : Fin cfg0.N) (h : t.val % 2 = 1) : (outsAt0 m c t.val t.isLt).1 = (outsAt0 m c t.val t.isLt).2 := by
  rw [outsAt0_B m c t (by omega) h h]
  dsimp only
  frame_out

/-- The reference's result. -/
def whole (x : FVec Ideal Cert.Reference12Ideal.S4096x2816 .bf16) (w : FVec Ideal Cert.Reference12Ideal.S2816x1024 .bf16) :
    FVec Ideal Cert.Reference12Ideal.S4096x1024 .f32 :=
  Host.dotGeneral Cert.Reference12Ideal.dot_S4096x2816_S2816x1024_S4096x1024_1_0_0_1_n_n none (extf .f32 x Cert.Reference12Ideal.Gen.bitsLt_bf16_f32) (extf .f32 w Cert.Reference12Ideal.Gen.bitsLt_bf16_f32)

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 2 = 2 - 1 := (flush0_2 t).mp hf
  blk_simp
  rw [after0_2, handed m c t hr]
  rw [Pipeline.eq_sum_fin_of_reset_step_apply_of_flush (fun n h => (outsAt0 m c n h).2) 2 (fun _ => 0) (term m c) (first m c) (next m c) t hr _,
    zero_add]
  pointwise [whole, term, share]
  refine Fin.sum_mul_add_congr fun s k hl => ?_
  blk_point [iblk, V, idx t, idx ⟨_, Pipeline.run_point_lt_of_flush t hr s⟩]

theorem frame_kernel : Cert.quiescent_Kernel12 :=
  Eq.mpr (by sl_kernel_rfl) fun (m : (ℓ : Loc nD τ sig) → Buf (Elt Bits) ℓ) (g : Dev nD → PrngReg) (_ : True) => Gen.frame m g

theorem frame_reference : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

theorem agree : Cert.algebraic_Kernel12Ideal_Reference12Ideal := by
  pair_intro
  · run_from Gen.run_main m g
  · run_from Cert.Reference12Ideal.Value.run m' g'
    exact (final m c).symm

end Cert.Kernel12Ideal.Product

end
-- ==== Proof.Products.Weights.lean ====
/- The gradients of the weights: products over the tokens, four blocks of them, summed in a scratch and rounded once at the
   end of a run. -/
module

public import proofs.«01_k».proof.Defs
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel16
public import proofs.«01_k».proof.Proof.Gen.Kernel16Ideal.Frame
public import proofs.«01_k».proof.Proof.Gen.Reference16Ideal.Run
public import proofs.«01_k».proof.Proof.Gen.Kernel18
public import proofs.«01_k».proof.Proof.Gen.Kernel18Ideal.Frame
public import proofs.«01_k».proof.Proof.Gen.Reference18Ideal.Run
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel10
public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise

@[expose] public section

set_option maxRecDepth 16384

noncomputable section

/- The gradient of half the up projection's weights. -/
namespace Cert.Kernel3Ideal.Product

open Cert.Kernel3Ideal Cert.Kernel3Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x1024 .bf16) (w : Vec Ideal S1024x1408 .bf16) (j : S1024x1408.Idx) : Ideal .f32 :=
  ∑ k : Fin 1024, x (ix2 k (j 0)) * w (ix2 k (j 1))

theorem pay1_apply (x : Vec Ideal S1024x1024 .bf16) (w : Vec Ideal S1024x1408 .bf16) (j : S1024x1408.Idx) : k0_pay1 x w j = share x w j := by
  pointwise [k0_pay1, share]

theorem pay2_apply (s : Vec Ideal S1024x1408 .f32) (x : Vec Ideal S1024x1024 .bf16) (w : Vec Ideal S1024x1408 .bf16) (j : S1024x1408.Idx) :
    k0_pay2 s x w j = s j + share x w j := by
  pointwise [k0_pay2, share]

/-- What point `t` adds to the scratch. -/
def term (c : Dev nD) (t : Fin cfg0.N) (j : S1024x1408.Idx) : Ideal .f32 := share (iblk m c 0 t) (iblk m c 1 t) j

/-- The blocks a point reads and writes. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem first (c : Dev nD) (t : Fin cfg0.N) (h : t.val % 4 = 0) (j : S1024x1408.Idx) :
    (outsAt0 m c t.val t.isLt).2 j = 0 + term m c t j := by
  rw [outsAt0_A m c t h (by omega) (by omega)]
  frame_out
  rw [pay1_apply, zero_add, term]

theorem next (c : Dev nD) (t : Fin cfg0.N) (h : ¬t.val % 4 = 0) (j : S1024x1408.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h (by omega) h3]
    frame_out
    rw [pay2_apply, term]
    exact congrArg (· + _) (congrFun ((Memref.isWhole_whole cc0_scratch0).read_unread _) j)
  · rw [outsAt0_B m c t h (by omega) h3]
    frame_out
    rw [pay2_apply, term]
    exact congrArg (· + _) (congrFun ((Memref.isWhole_whole cc0_scratch0).read_unread _) j)

theorem pay3_apply (s : Vec Ideal S1024x1408 .f32) (j : S1024x1408.Idx) : (k0_pay3 s j : EReal) = s j := by
  pointwise [k0_pay3]

/-- The last point of a run hands its scratch to the result, rounded. -/
theorem handed (c : Dev nD) (t : Fin cfg0.N) (h : t.val % 4 = 3) : (outsAt0 m c t.val t.isLt).1 = k0_pay3 (outsAt0 m c t.val t.isLt).2 := by
  rw [outsAt0_C m c t (by omega) (by omega) h]
  dsimp only
  frame_out

/-- The reference's result. -/
def whole (x : FVec Ideal Cert.Reference3Ideal.S4096x1024 .bf16) (w : FVec Ideal Cert.Reference3Ideal.S4096x2816 .bf16) :
    FVec Ideal Cert.Reference3Ideal.S1024x2816 .bf16 :=
  truncf .bf16 (transpose Cert.Reference3Ideal.S1024x2816 [1, 0]
    (Host.dotGeneral Cert.Reference3Ideal.dot_S4096x2816_S4096x1024_S2816x1024_0_0_1_1_n_n none (extf .f32 w Cert.Reference3Ideal.Gen.bitsLt_bf16_f32) (extf .f32 x Cert.Reference3Ideal.Gen.bitsLt_bf16_f32))
    Cert.Reference3Ideal.Gen.transposes_S2816x1024_S1024x2816_1_0) Cert.Reference3Ideal.Gen.bitsLt_bf16_f32

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, handed m c t hr]
  refine (pay3_apply _ _).trans ?_
  rw [Pipeline.eq_sum_fin_of_reset_step_apply_of_flush (fun n h => (outsAt0 m c n h).2) 4 (fun _ => 0) (term m c) (first m c) (next m c) t hr _,
    zero_add]
  pointwise [whole, term, share]
  refine Fin.sum_mul_add_congr fun s k hl => ?_
  refine (mul_comm (G := EReal) _ _).trans ?_
  blk_point [iblk, V, idx t, idx ⟨_, Pipeline.run_point_lt_of_flush t hr s⟩]

theorem frame_kernel : Cert.quiescent_Kernel3 :=
  Eq.mpr (by sl_kernel_rfl) fun (m : (ℓ : Loc nD τ sig) → Buf (Elt Bits) ℓ) (g : Dev nD → PrngReg) (_ : True) => Gen.frame m g

theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

theorem agree : Cert.algebraic_Kernel3Ideal_Reference3Ideal := by
  pair_intro
  · run_from Gen.run_main m g
  · run_from Cert.Reference3Ideal.Value.run m' g'
    exact (final m c).symm

end Cert.Kernel3Ideal.Product

/- The gradient of the down projection's weights. -/
namespace Cert.Kernel6Ideal.Product

open Cert.Kernel6Ideal Cert.Kernel6Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x1408 .bf16) (w : Vec Ideal S1024x1024 .bf16) (j : S1408x1024.Idx) : Ideal .f32 :=
  ∑ k : Fin 1024, x (ix2 k (j 0)) * w (ix2 k (j 1))

theorem pay1_apply (x : Vec Ideal S1024x1408 .bf16) (w : Vec Ideal S1024x1024 .bf16) (j : S1408x1024.Idx) : k0_pay1 x w j = share x w j := by
  pointwise [k0_pay1, share]

theorem pay2_apply (s : Vec Ideal S1408x1024 .f32) (x : Vec Ideal S1024x1408 .bf16) (w : Vec Ideal S1024x1024 .bf16) (j : S1408x1024.Idx) :
    k0_pay2 s x w j = s j + share x w j := by
  pointwise [k0_pay2, share]

/-- What point `t` adds to the scratch. -/
def term (c : Dev nD) (t : Fin cfg0.N) (j : S1408x1024.Idx) : Ideal .f32 := share (iblk m c 0 t) (iblk m c 1 t) j

/-- The blocks a point reads and writes. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem first (c : Dev nD) (t : Fin cfg0.N) (h : t.val % 4 = 0) (j : S1408x1024.Idx) :
    (outsAt0 m c t.val t.isLt).2 j = 0 + term m c t j := by
  rw [outsAt0_A m c t h (by omega) (by omega)]
  frame_out
  rw [pay1_apply, zero_add, term]

theorem next (c : Dev nD) (t : Fin cfg0.N) (h : ¬t.val % 4 = 0) (j : S1408x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h (by omega) h3]
    frame_out
    rw [pay2_apply, term]
    exact congrArg (· + _) (congrFun ((Memref.isWhole_whole cc0_scratch0).read_unread _) j)
  · rw [outsAt0_B m c t h (by omega) h3]
    frame_out
    rw [pay2_apply, term]
    exact congrArg (· + _) (congrFun ((Memref.isWhole_whole cc0_scratch0).read_unread _) j)

theorem pay3_apply (s : Vec Ideal S1408x1024 .f32) (j : S1408x1024.Idx) : (k0_pay3 s j : EReal) = s j := by
  pointwise [k0_pay3]

/-- The last point of a run hands its scratch to the result, rounded. -/
theorem handed (c : Dev nD) (t : Fin cfg0.N) (h : t.val % 4 = 3) : (outsAt0 m c t.val t.isLt).1 = k0_pay3 (outsAt0 m c t.val t.isLt).2 := by
  rw [outsAt0_C m c t (by omega) (by omega) h]
  dsimp only
  frame_out

/-- The reference's result. -/
def whole (x : FVec Ideal Cert.Reference6Ideal.S4096x2816 .bf16) (w : FVec Ideal Cert.Reference6Ideal.S4096x1024 .bf16) :
    FVec Ideal Cert.Reference6Ideal.S2816x1024 .bf16 :=
  truncf .bf16 (transpose Cert.Reference6Ideal.S2816x1024 [1, 0]
    (Host.dotGeneral Cert.Reference6Ideal.dot_S4096x1024_S4096x2816_S1024x2816_0_0_1_1_n_n none (extf .f32 w Cert.Reference6Ideal.Gen.bitsLt_bf16_f32) (extf .f32 x Cert.Reference6Ideal.Gen.bitsLt_bf16_f32))
    Cert.Reference6Ideal.Gen.transposes_S1024x2816_S2816x1024_1_0) Cert.Reference6Ideal.Gen.bitsLt_bf16_f32

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, handed m c t hr]
  refine (pay3_apply _ _).trans ?_
  rw [Pipeline.eq_sum_fin_of_reset_step_apply_of_flush (fun n h => (outsAt0 m c n h).2) 4 (fun _ => 0) (term m c) (first m c) (next m c) t hr _,
    zero_add]
  pointwise [whole, term, share]
  refine Fin.sum_mul_add_congr fun s k hl => ?_
  refine (mul_comm (G := EReal) _ _).trans ?_
  blk_point [iblk, V, idx t, idx ⟨_, Pipeline.run_point_lt_of_flush t hr s⟩]

theorem frame_kernel : Cert.quiescent_Kernel6 :=
  Eq.mpr (by sl_kernel_rfl) fun (m : (ℓ : Loc nD τ sig) → Buf (Elt Bits) ℓ) (g : Dev nD → PrngReg) (_ : True) => Gen.frame m g

theorem frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

theorem agree : Cert.algebraic_Kernel6Ideal_Reference6Ideal := by
  pair_intro
  · run_from Gen.run_main m g
  · run_from Cert.Reference6Ideal.Value.run m' g'
    exact (final m c).symm

end Cert.Kernel6Ideal.Product

/- The gradient of the weights that make queries of the latent ones. -/
namespace Cert.Kernel16Ideal.Product

open Cert.Kernel16Ideal Cert.Kernel16Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x256 .bf16) (w : Vec Ideal S1024x1024 .bf16) (j : S256x1024.Idx) : Ideal .f32 :=
  ∑ k : Fin 1024, x (ix2 k (j 0)) * w (ix2 k (j 1))

theorem pay1_apply (x : Vec Ideal S1024x256 .bf16) (w : Vec Ideal S1024x1024 .bf16) (j : S256x1024.Idx) : k0_pay1 x w j = share x w j := by
  pointwise [k0_pay1, share]

theorem pay2_apply (s : Vec Ideal S256x1024 .f32) (x : Vec Ideal S1024x256 .bf16) (w : Vec Ideal S1024x1024 .bf16) (j : S256x1024.Idx) :
    k0_pay2 s x w j = s j + share x w j := by
  pointwise [k0_pay2, share]

/-- What point `t` adds to the scratch. -/
def term (c : Dev nD) (t : Fin cfg0.N) (j : S256x1024.Idx) : Ideal .f32 := share (iblk m c 0 t) (iblk m c 1 t) j

/-- The blocks a point reads and writes. -/
theorem idx : ∀ t : Fin cfg0.N, win0_0.index t = ![t.val, 0] ∧ win0_1.index t = ![t.val, 0] ∧ win0_2.index t = ![0, 0] :=
  (by decide +kernel : ∀ t : Fin grid0.N, _)

theorem first (c : Dev nD) (t : Fin cfg0.N) (h : t.val % 4 = 0) (j : S256x1024.Idx) :
    (outsAt0 m c t.val t.isLt).2 j = 0 + term m c t j := by
  have hN : t.val < 4 := t.isLt
  rw [outsAt0_A m c t h (by omega) (by omega)]
  frame_out
  rw [pay1_apply, zero_add, term]

theorem next (c : Dev nD) (t : Fin cfg0.N) (h : ¬t.val % 4 = 0) (j : S256x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h (by omega) h3]
    frame_out
    rw [pay2_apply, term]
    exact congrArg (· + _) (congrFun ((Memref.isWhole_whole cc0_scratch0).read_unread _) j)
  · rw [outsAt0_B m c t h (by omega) h3]
    frame_out
    rw [pay2_apply, term]
    exact congrArg (· + _) (congrFun ((Memref.isWhole_whole cc0_scratch0).read_unread _) j)

theorem pay3_apply (s : Vec Ideal S256x1024 .f32) (j : S256x1024.Idx) : (k0_pay3 s j : EReal) = s j := by
  pointwise [k0_pay3]

/-- The last point of a run hands its scratch to the result, rounded. -/
theorem handed (c : Dev nD) (t : Fin cfg0.N) (h : t.val % 4 = 3) : (outsAt0 m c t.val t.isLt).1 = k0_pay3 (outsAt0 m c t.val t.isLt).2 := by
  rw [outsAt0_C m c t (by omega) (by omega) h]
  dsimp only
  frame_out

/-- The reference's result. -/
def whole (x : FVec Ideal Cert.Reference16Ideal.S4096x256 .bf16) (w : FVec Ideal Cert.Reference16Ideal.S4096x1024 .bf16) :
    FVec Ideal Cert.Reference16Ideal.S256x1024 .bf16 :=
  truncf .bf16 (transpose Cert.Reference16Ideal.S256x1024 [1, 0]
    (Host.dotGeneral Cert.Reference16Ideal.dot_S4096x1024_S4096x256_S1024x256_0_0_1_1_n_n none (extf .f32 w Cert.Reference16Ideal.Gen.bitsLt_bf16_f32) (extf .f32 x Cert.Reference16Ideal.Gen.bitsLt_bf16_f32))
    Cert.Reference16Ideal.Gen.transposes_S1024x256_S256x1024_1_0) Cert.Reference16Ideal.Gen.bitsLt_bf16_f32

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, handed m c t hr]
  refine (pay3_apply _ _).trans ?_
  rw [Pipeline.eq_sum_fin_of_reset_step_apply_of_flush (fun n h => (outsAt0 m c n h).2) 4 (fun _ => 0) (term m c) (first m c) (next m c) t hr _,
    zero_add]
  pointwise [whole, term, share]
  refine Fin.sum_mul_add_congr fun s k hl => ?_
  refine (mul_comm (G := EReal) _ _).trans ?_
  blk_point [iblk, V, idx t, idx ⟨_, Pipeline.run_point_lt_of_flush t hr s⟩]

theorem frame_kernel : Cert.quiescent_Kernel16 :=
  Eq.mpr (by sl_kernel_rfl) fun (m : (ℓ : Loc nD τ sig) → Buf (Elt Bits) ℓ) (g : Dev nD → PrngReg) (_ : True) => Gen.frame m g

theorem frame_reference : Cert.quiescent_Reference16Ideal := fun m g _ =>
  (θ_run Cert.Reference16Ideal.defs _ _).mono (fun r h => ⟨fun c => (h c).2, sem_eq_zero_of_no_sems (by decide) r.2⟩)
    (Cert.Reference16Ideal.Value.run m g)

theorem agree : Cert.algebraic_Kernel16Ideal_Reference16Ideal := by
  pair_intro
  · run_from Gen.run_main m g
  · run_from Cert.Reference16Ideal.Value.run m' g'
    exact (final m c).symm

end Cert.Kernel16Ideal.Product

/- The gradient of the weights that make keys and values of the latent ones. -/
namespace Cert.Kernel18Ideal.Product

open Cert.Kernel18Ideal Cert.Kernel18Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x128 .bf16) (w : Vec Ideal S1024x1024 .bf16) (j : S128x1024.Idx) : Ideal .f32 :=
  ∑ k : Fin 1024, x (ix2 k (j 0)) * w (ix2 k (j 1))

theorem pay1_apply (x : Vec Ideal S1024x128 .bf16) (w : Vec Ideal S1024x1024 .bf16) (j : S128x1024.Idx) : k0_pay1 x w j = share x w j := by
  pointwise [k0_pay1, share]

theorem pay2_apply (s : Vec Ideal S128x1024 .f32) (x : Vec Ideal S1024x128 .bf16) (w : Vec Ideal S1024x1024 .bf16) (j : S128x1024.Idx) :
    k0_pay2 s x w j = s j + share x w j := by
  pointwise [k0_pay2, share]

/-- What point `t` adds to the scratch. -/
def term (c : Dev nD) (t : Fin cfg0.N) (j : S128x1024.Idx) : Ideal .f32 := share (iblk m c 0 t) (iblk m c 1 t) j

/-- The blocks a point reads and writes. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem first (c : Dev nD) (t : Fin cfg0.N) (h : t.val % 4 = 0) (j : S128x1024.Idx) :
    (outsAt0 m c t.val t.isLt).2 j = 0 + term m c t j := by
  rw [outsAt0_A m c t h (by omega) (by omega)]
  frame_out
  rw [pay1_apply, zero_add, term]

theorem next (c : Dev nD) (t : Fin cfg0.N) (h : ¬t.val % 4 = 0) (j : S128x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h (by omega) h3]
    frame_out
    rw [pay2_apply, term]
    exact congrArg (· + _) (congrFun ((Memref.isWhole_whole cc0_scratch0).read_unread _) j)
  · rw [outsAt0_B m c t h (by omega) h3]
    frame_out
    rw [pay2_apply, term]
    exact congrArg (· + _) (congrFun ((Memref.isWhole_whole cc0_scratch0).read_unread _) j)

theorem pay3_apply (s : Vec Ideal S128x1024 .f32) (j : S128x1024.Idx) : (k0_pay3 s j : EReal) = s j := by
  pointwise [k0_pay3]

/-- The last point of a run hands its scratch to the result, rounded. -/
theorem handed (c : Dev nD) (t : Fin cfg0.N) (h : t.val % 4 = 3) : (outsAt0 m c t.val t.isLt).1 = k0_pay3 (outsAt0 m c t.val t.isLt).2 := by
  rw [outsAt0_C m c t (by omega) (by omega) h]
  dsimp only
  frame_out

/-- The reference's result. -/
def whole (x : FVec Ideal Cert.Reference18Ideal.S4096x128 .bf16) (w : FVec Ideal Cert.Reference18Ideal.S4096x2048 .bf16) :
    FVec Ideal Cert.Reference18Ideal.S128x2048 .bf16 :=
  truncf .bf16 (transpose Cert.Reference18Ideal.S128x2048 [1, 0]
    (Host.dotGeneral Cert.Reference18Ideal.dot_S4096x2048_S4096x128_S2048x128_0_0_1_1_n_n none (extf .f32 w Cert.Reference18Ideal.Gen.bitsLt_bf16_f32) (extf .f32 x Cert.Reference18Ideal.Gen.bitsLt_bf16_f32))
    Cert.Reference18Ideal.Gen.transposes_S2048x128_S128x2048_1_0) Cert.Reference18Ideal.Gen.bitsLt_bf16_f32

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, handed m c t hr]
  refine (pay3_apply _ _).trans ?_
  rw [Pipeline.eq_sum_fin_of_reset_step_apply_of_flush (fun n h => (outsAt0 m c n h).2) 4 (fun _ => 0) (term m c) (first m c) (next m c) t hr _,
    zero_add]
  pointwise [whole, term, share]
  refine Fin.sum_mul_add_congr fun s k hl => ?_
  refine (mul_comm (G := EReal) _ _).trans ?_
  blk_point [iblk, V, idx t, idx ⟨_, Pipeline.run_point_lt_of_flush t hr s⟩]

theorem frame_kernel : Cert.quiescent_Kernel18 :=
  Eq.mpr (by sl_kernel_rfl) fun (m : (ℓ : Loc nD τ sig) → Buf (Elt Bits) ℓ) (g : Dev nD → PrngReg) (_ : True) => Gen.frame m g

theorem frame_reference : Cert.quiescent_Reference18Ideal := fun m g _ =>
  (θ_run Cert.Reference18Ideal.defs _ _).mono (fun r h => ⟨fun c => (h c).2, sem_eq_zero_of_no_sems (by decide) r.2⟩)
    (Cert.Reference18Ideal.Value.run m g)

theorem agree : Cert.algebraic_Kernel18Ideal_Reference18Ideal := by
  pair_intro
  · run_from Gen.run_main m g
  · run_from Cert.Reference18Ideal.Value.run m' g'
    exact (final m c).symm

end Cert.Kernel18Ideal.Product

/- The gradient of the input projection's weights, kept with the features as rows. -/
namespace Cert.Kernel8Ideal.Product

open Cert.Kernel8Ideal Cert.Kernel8Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x1280 .bf16) (w : Vec Ideal S1024x1024 .bf16) (j : S1280x1024.Idx) : Ideal .f32 :=
  ∑ k : Fin 1024, x (ix2 k (j 0)) * w (ix2 k (j 1))

theorem pay1_apply (x : Vec Ideal S1024x1280 .bf16) (w : Vec Ideal S1024x1024 .bf16) (j : S1280x1024.Idx) : k0_pay1 x w j = share x w j := by
  pointwise [k0_pay1, share]

theorem pay2_apply (s : Vec Ideal S1280x1024 .f32) (x : Vec Ideal S1024x1280 .bf16) (w : Vec Ideal S1024x1024 .bf16) (j : S1280x1024.Idx) :
    k0_pay2 s x w j = s j + share x w j := by
  pointwise [k0_pay2, share]

/-- What point `t` adds to the scratch. -/
def term (c : Dev nD) (t : Fin cfg0.N) (j : S1280x1024.Idx) : Ideal .f32 := share (iblk m c 0 t) (iblk m c 1 t) j

/-- The blocks a point reads and writes. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem first (c : Dev nD) (t : Fin cfg0.N) (h : t.val % 4 = 0) (j : S1280x1024.Idx) :
    (outsAt0 m c t.val t.isLt).2 j = 0 + term m c t j := by
  rw [outsAt0_A m c t h (by omega) (by omega)]
  frame_out
  rw [pay1_apply, zero_add, term]

theorem next (c : Dev nD) (t : Fin cfg0.N) (h : ¬t.val % 4 = 0) (j : S1280x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h (by omega) h3]
    frame_out
    rw [pay2_apply, term]
    exact congrArg (· + _) (congrFun ((Memref.isWhole_whole cc0_scratch0).read_unread _) j)
  · rw [outsAt0_B m c t h (by omega) h3]
    frame_out
    rw [pay2_apply, term]
    exact congrArg (· + _) (congrFun ((Memref.isWhole_whole cc0_scratch0).read_unread _) j)

theorem pay3_apply (s : Vec Ideal S1280x1024 .f32) (j : S1280x1024.Idx) : (k0_pay3 s j : EReal) = s j := by
  pointwise [k0_pay3]

/-- The last point of a run hands its scratch to the result, rounded. -/
theorem handed (c : Dev nD) (t : Fin cfg0.N) (h : t.val % 4 = 3) : (outsAt0 m c t.val t.isLt).1 = k0_pay3 (outsAt0 m c t.val t.isLt).2 := by
  rw [outsAt0_C m c t (by omega) (by omega) h]
  dsimp only
  frame_out

/-- The reference's result. -/
def whole (x : FVec Ideal Cert.Reference8Ideal.S4096x2560 .bf16) (w : FVec Ideal Cert.Reference8Ideal.S4096x1024 .bf16) :
    FVec Ideal Cert.Reference8Ideal.S2560x1024 .bf16 :=
  truncf .bf16 (transpose Cert.Reference8Ideal.S2560x1024 [1, 0] (transpose Cert.Reference8Ideal.S1024x2560 [1, 0]
    (Host.dotGeneral Cert.Reference8Ideal.dot_S4096x2560_S4096x1024_S2560x1024_0_0_1_1_n_n none (extf .f32 x Cert.Reference8Ideal.Gen.bitsLt_bf16_f32) (extf .f32 w Cert.Reference8Ideal.Gen.bitsLt_bf16_f32))
    Cert.Reference8Ideal.Gen.transposes_S2560x1024_S1024x2560_1_0) Cert.Reference8Ideal.Gen.transposes_S1024x2560_S2560x1024_1_0) Cert.Reference8Ideal.Gen.bitsLt_bf16_f32

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, handed m c t hr]
  refine (pay3_apply _ _).trans ?_
  rw [Pipeline.eq_sum_fin_of_reset_step_apply_of_flush (fun n h => (outsAt0 m c n h).2) 4 (fun _ => 0) (term m c) (first m c) (next m c) t hr _,
    zero_add]
  pointwise [whole, term, share]
  refine Fin.sum_mul_add_congr fun s k hl => ?_
  blk_point [iblk, V, idx t, idx ⟨_, Pipeline.run_point_lt_of_flush t hr s⟩]

theorem frame_kernel : Cert.quiescent_Kernel8 :=
  Eq.mpr (by sl_kernel_rfl) fun (m : (ℓ : Loc nD τ sig) → Buf (Elt Bits) ℓ) (g : Dev nD → PrngReg) (_ : True) => Gen.frame m g

theorem frame_reference : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

theorem agree : Cert.algebraic_Kernel8Ideal_Reference8Ideal := by
  pair_intro
  · run_from Gen.run_main m g
  · run_from Cert.Reference8Ideal.Value.run m' g'
    exact (final m c).symm

end Cert.Kernel8Ideal.Product

/- The gradient of the output projection's weights. -/
namespace Cert.Kernel10Ideal.Product

open Cert.Kernel10Ideal Cert.Kernel10Ideal.Gen Idealize.ShloMosaic Idealize.ShloMosaic.TcCoe Idealize.SL.Sem

variable (m : (ℓ : Loc nD τ sig) → Buf (Elt Ideal) ℓ)

/-- One block of the contracted axis, at an entry of the result. -/
def share (x : Vec Ideal S1024x768 .bf16) (w : Vec Ideal S1024x1024 .bf16) (j : S768x1024.Idx) : Ideal .f32 :=
  ∑ k : Fin 1024, x (ix2 k (j 0)) * w (ix2 k (j 1))

theorem pay1_apply (x : Vec Ideal S1024x768 .bf16) (w : Vec Ideal S1024x1024 .bf16) (j : S768x1024.Idx) : k0_pay1 x w j = share x w j := by
  pointwise [k0_pay1, share]

theorem pay2_apply (s : Vec Ideal S768x1024 .f32) (x : Vec Ideal S1024x768 .bf16) (w : Vec Ideal S1024x1024 .bf16) (j : S768x1024.Idx) :
    k0_pay2 s x w j = s j + share x w j := by
  pointwise [k0_pay2, share]

/-- What point `t` adds to the scratch. -/
def term (c : Dev nD) (t : Fin cfg0.N) (j : S768x1024.Idx) : Ideal .f32 := share (iblk m c 0 t) (iblk m c 1 t) j

/-- The blocks a point reads and writes. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem first (c : Dev nD) (t : Fin cfg0.N) (h : t.val % 4 = 0) (j : S768x1024.Idx) :
    (outsAt0 m c t.val t.isLt).2 j = 0 + term m c t j := by
  rw [outsAt0_A m c t h (by omega) (by omega)]
  frame_out
  rw [pay1_apply, zero_add, term]

theorem next (c : Dev nD) (t : Fin cfg0.N) (h : ¬t.val % 4 = 0) (j : S768x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h (by omega) h3]
    frame_out
    rw [pay2_apply, term]
    exact congrArg (· + _) (congrFun ((Memref.isWhole_whole cc0_scratch0).read_unread _) j)
  · rw [outsAt0_B m c t h (by omega) h3]
    frame_out
    rw [pay2_apply, term]
    exact congrArg (· + _) (congrFun ((Memref.isWhole_whole cc0_scratch0).read_unread _) j)

theorem pay3_apply (s : Vec Ideal S768x1024 .f32) (j : S768x1024.Idx) : (k0_pay3 s j : EReal) = s j := by
  pointwise [k0_pay3]

/-- The last point of a run hands its scratch to the result, rounded. -/
theorem handed (c : Dev nD) (t : Fin cfg0.N) (h : t.val % 4 = 3) : (outsAt0 m c t.val t.isLt).1 = k0_pay3 (outsAt0 m c t.val t.isLt).2 := by
  rw [outsAt0_C m c t (by omega) (by omega) h]
  dsimp only
  frame_out

/-- The reference's result. -/
def whole (x : FVec Ideal Cert.Reference10Ideal.S4096x1536 .bf16) (w : FVec Ideal Cert.Reference10Ideal.S4096x1024 .bf16) :
    FVec Ideal Cert.Reference10Ideal.S1536x1024 .bf16 :=
  truncf .bf16 (transpose Cert.Reference10Ideal.S1536x1024 [1, 0]
    (Host.dotGeneral Cert.Reference10Ideal.dot_S4096x1024_S4096x1536_S1024x1536_0_0_1_1_n_n none (extf .f32 w Cert.Reference10Ideal.Gen.bitsLt_bf16_f32) (extf .f32 x Cert.Reference10Ideal.Gen.bitsLt_bf16_f32))
    Cert.Reference10Ideal.Gen.transposes_S1024x1536_S1536x1024_1_0) Cert.Reference10Ideal.Gen.bitsLt_bf16_f32

/-- The kernel's result is the reference's. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, handed m c t hr]
  refine (pay3_apply _ _).trans ?_
  rw [Pipeline.eq_sum_fin_of_reset_step_apply_of_flush (fun n h => (outsAt0 m c n h).2) 4 (fun _ => 0) (term m c) (first m c) (next m c) t hr _,
    zero_add]
  pointwise [whole, term, share]
  refine Fin.sum_mul_add_congr fun s k hl => ?_
  refine (mul_comm (G := EReal) _ _).trans ?_
  blk_point [iblk, V, idx t, idx ⟨_, Pipeline.run_point_lt_of_flush t hr s⟩]

theorem frame_kernel : Cert.quiescent_Kernel10 :=
  Eq.mpr (by sl_kernel_rfl) fun (m : (ℓ : Loc nD τ sig) → Buf (Elt Bits) ℓ) (g : Dev nD → PrngReg) (_ : True) => Gen.frame m g

theorem frame_reference : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

theorem agree : Cert.algebraic_Kernel10Ideal_Reference10Ideal := by
  pair_intro
  · run_from Gen.run_main m g
  · run_from Cert.Reference10Ideal.Value.run m' g'
    exact (final m c).symm

end Cert.Kernel10Ideal.Product

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal
public import proofs.«01_k».proof.Proof.Gen.Kernel20Ideal.Launch
public import proofs.«01_k».proof.Proof.Gen.Reference20Ideal
public import proofs.«01_k».proof.Proof.Gen.Reference20Ideal.Run
public import proofs.«01_k».proof.Proof.Gradients
public import proofs.«01_k».proof.Proof.Forward.Outputs
public import proofs.«01_k».proof.Proof.Products.UpDx
public import proofs.«01_k».proof.Proof.Products.WholeRows
public import proofs.«01_k».proof.Proof.Products.TwoBlocks
public import proofs.«01_k».proof.Proof.Products.Weights

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel4.Gen.facts, Cert.Kernel4Ideal.Gen.facts, Cert.Reference4Ideal.Gen.facts,
    Cert.Kernel20.Gen.facts, Cert.Kernel20Ideal.Gen.facts, Cert.Reference20Ideal.Gen.facts,
    Finite.facts, Forward.facts,
    frame_kernel, frame_ideal, fun m g _ => frame_ideal m g trivial, frame_reference, fun m g _ => frame_reference m g trivial,
    Cert.Kernel2Ideal.Product.frame_kernel, fun m g _ => Cert.Kernel2Ideal.Gen.frame m g, Cert.Kernel2Ideal.Product.frame_reference,
    Cert.Kernel3Ideal.Product.frame_kernel, fun m g _ => Cert.Kernel3Ideal.Gen.frame m g, Cert.Kernel3Ideal.Product.frame_reference,
    Cert.Kernel5Ideal.Product.frame_kernel, fun m g _ => Cert.Kernel5Ideal.Gen.frame m g, Cert.Kernel5Ideal.Product.frame_reference,
    Cert.Kernel6Ideal.Product.frame_kernel, fun m g _ => Cert.Kernel6Ideal.Gen.frame m g, Cert.Kernel6Ideal.Product.frame_reference,
    Cert.Kernel7Ideal.Product.frame_kernel, fun m g _ => Cert.Kernel7Ideal.Gen.frame m g, Cert.Kernel7Ideal.Product.frame_reference,
    Cert.Kernel8Ideal.Product.frame_kernel, fun m g _ => Cert.Kernel8Ideal.Gen.frame m g, Cert.Kernel8Ideal.Product.frame_reference,
    Cert.Kernel9Ideal.Product.frame_kernel, fun m g _ => Cert.Kernel9Ideal.Gen.frame m g, Cert.Kernel9Ideal.Product.frame_reference,
    Cert.Kernel10Ideal.Product.frame_kernel, fun m g _ => Cert.Kernel10Ideal.Gen.frame m g, Cert.Kernel10Ideal.Product.frame_reference,
    Cert.Kernel11Ideal.Product.frame_kernel, fun m g _ => Cert.Kernel11Ideal.Gen.frame m g, Cert.Kernel11Ideal.Product.frame_reference,
    Cert.Kernel12Ideal.Product.frame_kernel, fun m g _ => Cert.Kernel12Ideal.Gen.frame m g, Cert.Kernel12Ideal.Product.frame_reference,
    Cert.Kernel13Ideal.Product.frame_kernel, fun m g _ => Cert.Kernel13Ideal.Gen.frame m g, Cert.Kernel13Ideal.Product.frame_reference,
    Cert.Kernel14Ideal.Product.frame_kernel, fun m g _ => Cert.Kernel14Ideal.Gen.frame m g, Cert.Kernel14Ideal.Product.frame_reference,
    Cert.Kernel15Ideal.Product.frame_kernel, fun m g _ => Cert.Kernel15Ideal.Gen.frame m g, Cert.Kernel15Ideal.Product.frame_reference,
    Cert.Kernel16Ideal.Product.frame_kernel, fun m g _ => Cert.Kernel16Ideal.Gen.frame m g, Cert.Kernel16Ideal.Product.frame_reference,
    Cert.Kernel17Ideal.Product.frame_kernel, fun m g _ => Cert.Kernel17Ideal.Gen.frame m g, Cert.Kernel17Ideal.Product.frame_reference,
    Cert.Kernel18Ideal.Product.frame_kernel, fun m g _ => Cert.Kernel18Ideal.Gen.frame m g, Cert.Kernel18Ideal.Product.frame_reference,
    Cert.Kernel19Ideal.Product.frame_kernel, fun m g _ => Cert.Kernel19Ideal.Gen.frame m g, Cert.Kernel19Ideal.Product.frame_reference,
    Cert.Kernel4Ideal.Product.frame_kernel, fun m g _ => Cert.Kernel4Ideal.Gen.frame m g, Cert.Kernel4Ideal.Product.frame_reference,
    Forward.frame_kernel, Forward.frame_ideal, fun m g _ => Forward.frame_ideal m g trivial,
    Forward.frame_reference, fun m g _ => Forward.frame_reference m g trivial,
    trivial, gradients,
    trivial, Cert.Kernel2Ideal.Product.agree,
    trivial, Cert.Kernel3Ideal.Product.agree,
    trivial, Cert.Kernel5Ideal.Product.agree,
    trivial, Cert.Kernel6Ideal.Product.agree,
    trivial, Cert.Kernel7Ideal.Product.agree,
    trivial, Cert.Kernel8Ideal.Product.agree,
    trivial, Cert.Kernel9Ideal.Product.agree,
    trivial, Cert.Kernel10Ideal.Product.agree,
    trivial, Cert.Kernel11Ideal.Product.agree,
    trivial, Cert.Kernel12Ideal.Product.agree,
    trivial, Cert.Kernel13Ideal.Product.agree,
    trivial, Cert.Kernel14Ideal.Product.agree,
    trivial, Cert.Kernel15Ideal.Product.agree,
    trivial, Cert.Kernel16Ideal.Product.agree,
    trivial, Cert.Kernel17Ideal.Product.agree,
    trivial, Cert.Kernel18Ideal.Product.agree,
    trivial, Cert.Kernel19Ideal.Product.agree,
    trivial, Cert.Kernel4Ideal.Product.agree,
    trivial, Forward.outputs⟩

end Cert.Proof

end
